-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84_0) = v0 c
          ∧ r.2.mem ((c.tc : Thread Cert.ReferenceIdeal.nD Cert.ReferenceIdeal.τ).loc Cert.ReferenceIdeal.main_v84_1) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x3584 : Shape := ⟨3, ![4, 2048, 3584]⟩
abbrev S3584x2048 : Shape := ⟨2, ![3584, 2048]⟩
abbrev S112x4096 : Shape := ⟨2, ![112, 4096]⟩
abbrev S8192x3584 : Shape := ⟨2, ![8192, 3584]⟩
abbrev S8192x4096 : Shape := ⟨2, ![8192, 4096]⟩
abbrev S8192x112 : Shape := ⟨2, ![8192, 112]⟩
abbrev S256x3584 : Shape := ⟨2, ![256, 3584]⟩
abbrev S256x4096 : Shape := ⟨2, ![256, 4096]⟩
abbrev S256x112 : Shape := ⟨2, ![256, 112]⟩
abbrev S3584x4096 : Shape := ⟨2, ![3584, 4096]⟩
abbrev S32x256 : Shape := ⟨2, ![32, 256]⟩
abbrev S8x256 : Shape := ⟨2, ![8, 256]⟩
abbrev S1x256 : Shape := ⟨2, ![1, 256]⟩
abbrev S32x128 : Shape := ⟨2, ![32, 128]⟩
abbrev S32x128x1 : Shape := ⟨3, ![32, 128, 1]⟩
abbrev S32x112 : Shape := ⟨2, ![32, 112]⟩
abbrev S3584x512 : Shape := ⟨2, ![3584, 512]⟩
abbrev S256x512 : Shape := ⟨2, ![256, 512]⟩

abbrev nBuf : Space → Nat
  | .hbm => 7
  | .vmem => 13
  | .smem => 0
  | _ => 0

abbrev bufTy : (tb : Table) → Fin (tcTables nBuf tb) → BufTy
  | .hbm, ⟨0, _⟩ => ⟨S4x2048x3584, .bf16⟩
  | .hbm, ⟨1, _⟩ => ⟨S3584x2048, .i8⟩
  | .hbm, ⟨2, _⟩ => ⟨S112x4096, .i8⟩
  | .hbm, ⟨3, _⟩ => ⟨S8192x3584, .bf16⟩
  | .hbm, ⟨4, _⟩ => ⟨S8192x4096, .bf16⟩
  | .hbm, ⟨5, _⟩ => ⟨S8192x3584, .fp8e4m3⟩
  | .hbm, ⟨6, _⟩ => ⟨S8192x112, .f32⟩
  | .local _ .vmem, ⟨0, _⟩ => ⟨S256x3584, .bf16⟩
  | .local _ .vmem, ⟨1, _⟩ => ⟨S256x3584, .bf16⟩
  | .local _ .vmem, ⟨2, _⟩ => ⟨S3584x2048, .i8⟩
  | .local _ .vmem, ⟨3, _⟩ => ⟨S112x4096, .i8⟩
  | .local _ .vmem, ⟨4, _⟩ => ⟨S256x4096, .bf16⟩
  | .local _ .vmem, ⟨5, _⟩ => ⟨S256x4096, .bf16⟩
  | .local _ .vmem, ⟨6, _⟩ => ⟨S256x3584, .fp8e4m3⟩
  | .local _ .vmem, ⟨7, _⟩ => ⟨S256x3584, .fp8e4m3⟩
  | .local _ .vmem, ⟨8, _⟩ => ⟨S256x112, .f32⟩
  | .local _ .vmem, ⟨9, _⟩ => ⟨S256x112, .f32⟩
  | .local _ .vmem, ⟨10, _⟩ => ⟨S3584x4096, .bf16⟩
  | .local _ .vmem, ⟨11, _⟩ => ⟨S112x4096, .f32⟩
  | .local _ .vmem, ⟨12, _⟩ => ⟨S256x3584, .bf16⟩
  | _, _ => ⟨S4x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_54 : BitVec 32 := 0#32
  let c8_i32_55 : BitVec 32 := 8#32
  let v52 : BitVec 32 := Scalar.addi c0_i32_54 c8_i32_55
  let c1_i32_56 : BitVec 32 := 1#32
  ⟨c0_i32_54, v52, c1_i32_56⟩
def k0_mult1 (k0_t1 : Fin k0_t1_loop.trips) : BitVec 32 :=
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  v55
def k0_off1 (k0_t1 : Fin k0_t1_loop.trips) : Fin 2 → Nat :=
  let c0_60 : Index := 0#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v57 : Index := Scalar.indexCast v56
  ![0, v57.toNat]
def k0_off2 (k0_t1 : Fin k0_t1_loop.trips) (c0_i32_64 : BitVec 32) : Fin 2 → Nat :=
  let c0_65 : Index := 0#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v78 : BitVec 32 := Scalar.addi c0_i32_64 v56
  let v81 : Index := Scalar.indexCast v78
  ![0, v81.toNat]
def k0_off3 (k0_t1 : Fin k0_t1_loop.trips) (c0_i32_64 : BitVec 32) : Fin 2 → Nat :=
  let c0_67 : Index := 0#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v78 : BitVec 32 := Scalar.addi c0_i32_64 v56
  let v88 : Index := Scalar.indexCast v78
  ![0, v88.toNat]
def k0_off4 (k0_t1 : Fin k0_t1_loop.trips) : Fin 2 → Nat :=
  let c32 : Index := 32#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v106 : Index := Scalar.indexCast v56
  ![32, v106.toNat]
def k0_off5 (k0_t1 : Fin k0_t1_loop.trips) (c0_i32_79 : BitVec 32) : Fin 2 → Nat :=
  let c1 : Index := 1#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v127 : BitVec 32 := Scalar.addi c0_i32_79 v56
  let v130 : Index := Scalar.indexCast v127
  ![1, v130.toNat]
def k0_off6 (k0_t1 : Fin k0_t1_loop.trips) (c0_i32_79 : BitVec 32) : Fin 2 → Nat :=
  let c32_81 : Index := 32#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v127 : BitVec 32 := Scalar.addi c0_i32_79 v56
  let v137 : Index := Scalar.indexCast v127
  ![32, v137.toNat]
def k0_off7 (k0_t1 : Fin k0_t1_loop.trips) : Fin 2 → Nat :=
  let c64 : Index := 64#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v155 : Index := Scalar.indexCast v56
  ![64, v155.toNat]
def k0_off8 (k0_t1 : Fin k0_t1_loop.trips) (c0_i32_94 : BitVec 32) : Fin 2 → Nat :=
  let c2 : Index := 2#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v176 : BitVec 32 := Scalar.addi c0_i32_94 v56
  let v179 : Index := Scalar.indexCast v176
  ![2, v179.toNat]
def k0_off9 (k0_t1 : Fin k0_t1_loop.trips) (c0_i32_94 : BitVec 32) : Fin 2 → Nat :=
  let c64_96 : Index := 64#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v176 : BitVec 32 := Scalar.addi c0_i32_94 v56
  let v186 : Index := Scalar.indexCast v176
  ![64, v186.toNat]
def k0_off10 (k0_t1 : Fin k0_t1_loop.trips) : Fin 2 → Nat :=
  let c96 : Index := 96#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v204 : Index := Scalar.indexCast v56
  ![96, v204.toNat]
def k0_off11 (k0_t1 : Fin k0_t1_loop.trips) (c0_i32_109 : BitVec 32) : Fin 2 → Nat :=
  let c3 : Index := 3#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v225 : BitVec 32 := Scalar.addi c0_i32_109 v56
  let v228 : Index := Scalar.indexCast v225
  ![3, v228.toNat]
def k0_off12 (k0_t1 : Fin k0_t1_loop.trips) (c0_i32_109 : BitVec 32) : Fin 2 → Nat :=
  let c96_111 : Index := 96#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v225 : BitVec 32 := Scalar.addi c0_i32_109 v56
  let v235 : Index := Scalar.indexCast v225
  ![96, v235.toNat]
def k0_off13 (k0_t1 : Fin k0_t1_loop.trips) : Fin 2 → Nat :=
  let c128 : Index := 128#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v253 : Index := Scalar.indexCast v56
  ![128, v253.toNat]
def k0_off14 (k0_t1 : Fin k0_t1_loop.trips) (c0_i32_124 : BitVec 32) : Fin 2 → Nat :=
  let c4 : Index := 4#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v274 : BitVec 32 := Scalar.addi c0_i32_124 v56
  let v277 : Index := Scalar.indexCast v274
  ![4, v277.toNat]
def k0_off15 (k0_t1 : Fin k0_t1_loop.trips) (c0_i32_124 : BitVec 32) : Fin 2 → Nat :=
  let c128_126 : Index := 128#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v274 : BitVec 32 := Scalar.addi c0_i32_124 v56
  let v284 : Index := Scalar.indexCast v274
  ![128, v284.toNat]
def k0_off16 (k0_t1 : Fin k0_t1_loop.trips) : Fin 2 → Nat :=
  let c160 : Index := 160#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v302 : Index := Scalar.indexCast v56
  ![160, v302.toNat]
def k0_off17 (k0_t1 : Fin k0_t1_loop.trips) (c0_i32_139 : BitVec 32) : Fin 2 → Nat :=
  let c5 : Index := 5#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v323 : BitVec 32 := Scalar.addi c0_i32_139 v56
  let v326 : Index := Scalar.indexCast v323
  ![5, v326.toNat]
def k0_off18 (k0_t1 : Fin k0_t1_loop.trips) (c0_i32_139 : BitVec 32) : Fin 2 → Nat :=
  let c160_141 : Index := 160#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v323 : BitVec 32 := Scalar.addi c0_i32_139 v56
  let v333 : Index := Scalar.indexCast v323
  ![160, v333.toNat]
def k0_off19 (k0_t1 : Fin k0_t1_loop.trips) : Fin 2 → Nat :=
  let c192 : Index := 192#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v351 : Index := Scalar.indexCast v56
  ![192, v351.toNat]
def k0_off20 (k0_t1 : Fin k0_t1_loop.trips) (c0_i32_154 : BitVec 32) : Fin 2 → Nat :=
  let c6 : Index := 6#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v372 : BitVec 32 := Scalar.addi c0_i32_154 v56
  let v375 : Index := Scalar.indexCast v372
  ![6, v375.toNat]
def k0_off21 (k0_t1 : Fin k0_t1_loop.trips) (c0_i32_154 : BitVec 32) : Fin 2 → Nat :=
  let c192_156 : Index := 192#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v372 : BitVec 32 := Scalar.addi c0_i32_154 v56
  let v382 : Index := Scalar.indexCast v372
  ![192, v382.toNat]
def k0_off22 (k0_t1 : Fin k0_t1_loop.trips) : Fin 2 → Nat :=
  let c224 : Index := 224#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v400 : Index := Scalar.indexCast v56
  ![224, v400.toNat]
def k0_off23 (k0_t1 : Fin k0_t1_loop.trips) (c0_i32_169 : BitVec 32) : Fin 2 → Nat :=
  let c7 : Index := 7#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v421 : BitVec 32 := Scalar.addi c0_i32_169 v56
  let v424 : Index := Scalar.indexCast v421
  ![7, v424.toNat]
def k0_off24 (k0_t1 : Fin k0_t1_loop.trips) (c0_i32_169 : BitVec 32) : Fin 2 → Nat :=
  let c224_171 : Index := 224#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v421 : BitVec 32 := Scalar.addi c0_i32_169 v56
  let v431 : Index := Scalar.indexCast v421
  ![224, v431.toNat]
def k0_off25 (k0_t1 : Fin k0_t1_loop.trips) : Fin 2 → Nat :=
  let c256 : Index := 256#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v449 : Index := Scalar.indexCast v56
  ![256, v449.toNat]
def k0_off26 (k0_t1 : Fin k0_t1_loop.trips) (c0_i32_184 : BitVec 32) : Fin 2 → Nat :=
  let c8 : Index := 8#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v470 : BitVec 32 := Scalar.addi c0_i32_184 v56
  let v473 : Index := Scalar.indexCast v470
  ![8, v473.toNat]
def k0_off27 (k0_t1 : Fin k0_t1_loop.trips) (c0_i32_184 : BitVec 32) : Fin 2 → Nat :=
  let c256_186 : Index := 256#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v470 : BitVec 32 := Scalar.addi c0_i32_184 v56
  let v480 : Index := Scalar.indexCast v470
  ![256, v480.toNat]
def k0_off28 (k0_t1 : Fin k0_t1_loop.trips) : Fin 2 → Nat :=
  let c288 : Index := 288#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v498 : Index := Scalar.indexCast v56
  ![288, v498.toNat]
def k0_off29 (k0_t1 : Fin k0_t1_loop.trips) (c0_i32_199 : BitVec 32) : Fin 2 → Nat :=
  let c9 : Index := 9#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v519 : BitVec 32 := Scalar.addi c0_i32_199 v56
  let v522 : Index := Scalar.indexCast v519
  ![9, v522.toNat]
def k0_off30 (k0_t1 : Fin k0_t1_loop.trips) (c0_i32_199 : BitVec 32) : Fin 2 → Nat :=
  let c288_201 : Index := 288#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v519 : BitVec 32 := Scalar.addi c0_i32_199 v56
  let v529 : Index := Scalar.indexCast v519
  ![288, v529.toNat]
def k0_off31 (k0_t1 : Fin k0_t1_loop.trips) : Fin 2 → Nat :=
  let c320 : Index := 320#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v547 : Index := Scalar.indexCast v56
  ![320, v547.toNat]
def k0_off32 (k0_t1 : Fin k0_t1_loop.trips) (c0_i32_214 : BitVec 32) : Fin 2 → Nat :=
  let c10 : Index := 10#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v568 : BitVec 32 := Scalar.addi c0_i32_214 v56
  let v571 : Index := Scalar.indexCast v568
  ![10, v571.toNat]
def k0_off33 (k0_t1 : Fin k0_t1_loop.trips) (c0_i32_214 : BitVec 32) : Fin 2 → Nat :=
  let c320_216 : Index := 320#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v568 : BitVec 32 := Scalar.addi c0_i32_214 v56
  let v578 : Index := Scalar.indexCast v568
  ![320, v578.toNat]
def k0_off34 (k0_t1 : Fin k0_t1_loop.trips) : Fin 2 → Nat :=
  let c352 : Index := 352#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v596 : Index := Scalar.indexCast v56
  ![352, v596.toNat]
def k0_off35 (k0_t1 : Fin k0_t1_loop.trips) (c0_i32_229 : BitVec 32) : Fin 2 → Nat :=
  let c11 : Index := 11#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v617 : BitVec 32 := Scalar.addi c0_i32_229 v56
  let v620 : Index := Scalar.indexCast v617
  ![11, v620.toNat]
def k0_off36 (k0_t1 : Fin k0_t1_loop.trips) (c0_i32_229 : BitVec 32) : Fin 2 → Nat :=
  let c352_231 : Index := 352#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v617 : BitVec 32 := Scalar.addi c0_i32_229 v56
  let v627 : Index := Scalar.indexCast v617
  ![352, v627.toNat]
def k0_off37 (k0_t1 : Fin k0_t1_loop.trips) : Fin 2 → Nat :=
  let c384 : Index := 384#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v645 : Index := Scalar.indexCast v56
  ![384, v645.toNat]
def k0_off38 (k0_t1 : Fin k0_t1_loop.trips) (c0_i32_244 : BitVec 32) : Fin 2 → Nat :=
  let c12 : Index := 12#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v666 : BitVec 32 := Scalar.addi c0_i32_244 v56
  let v669 : Index := Scalar.indexCast v666
  ![12, v669.toNat]
def k0_off39 (k0_t1 : Fin k0_t1_loop.trips) (c0_i32_244 : BitVec 32) : Fin 2 → Nat :=
  let c384_246 : Index := 384#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v666 : BitVec 32 := Scalar.addi c0_i32_244 v56
  let v676 : Index := Scalar.indexCast v666
  ![384, v676.toNat]
def k0_off40 (k0_t1 : Fin k0_t1_loop.trips) : Fin 2 → Nat :=
  let c416 : Index := 416#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v694 : Index := Scalar.indexCast v56
  ![416, v694.toNat]
def k0_off41 (k0_t1 : Fin k0_t1_loop.trips) (c0_i32_259 : BitVec 32) : Fin 2 → Nat :=
  let c13 : Index := 13#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v715 : BitVec 32 := Scalar.addi c0_i32_259 v56
  let v718 : Index := Scalar.indexCast v715
  ![13, v718.toNat]
def k0_off42 (k0_t1 : Fin k0_t1_loop.trips) (c0_i32_259 : BitVec 32) : Fin 2 → Nat :=
  let c416_261 : Index := 416#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v715 : BitVec 32 := Scalar.addi c0_i32_259 v56
  let v725 : Index := Scalar.indexCast v715
  ![416, v725.toNat]
def k0_off43 (k0_t1 : Fin k0_t1_loop.trips) : Fin 2 → Nat :=
  let c448 : Index := 448#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v743 : Index := Scalar.indexCast v56
  ![448, v743.toNat]
def k0_off44 (k0_t1 : Fin k0_t1_loop.trips) (c0_i32_274 : BitVec 32) : Fin 2 → Nat :=
  let c14 : Index := 14#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v764 : BitVec 32 := Scalar.addi c0_i32_274 v56
  let v767 : Index := Scalar.indexCast v764
  ![14, v767.toNat]
def k0_off45 (k0_t1 : Fin k0_t1_loop.trips) (c0_i32_274 : BitVec 32) : Fin 2 → Nat :=
  let c448_276 : Index := 448#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v764 : BitVec 32 := Scalar.addi c0_i32_274 v56
  let v774 : Index := Scalar.indexCast v764
  ![448, v774.toNat]
def k0_off46 (k0_t1 : Fin k0_t1_loop.trips) : Fin 2 → Nat :=
  let c480 : Index := 480#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v792 : Index := Scalar.indexCast v56
  ![480, v792.toNat]
def k0_off47 (k0_t1 : Fin k0_t1_loop.trips) (c0_i32_289 : BitVec 32) : Fin 2 → Nat :=
  let c15 : Index := 15#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v813 : BitVec 32 := Scalar.addi c0_i32_289 v56
  let v816 : Index := Scalar.indexCast v813
  ![15, v816.toNat]
def k0_off48 (k0_t1 : Fin k0_t1_loop.trips) (c0_i32_289 : BitVec 32) : Fin 2 → Nat :=
  let c480_291 : Index := 480#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v813 : BitVec 32 := Scalar.addi c0_i32_289 v56
  let v823 : Index := Scalar.indexCast v813
  ![480, v823.toNat]
def k0_off49 (k0_t1 : Fin k0_t1_loop.trips) : Fin 2 → Nat :=
  let c512_296 : Index := 512#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v841 : Index := Scalar.indexCast v56
  ![512, v841.toNat]
def k0_off50 (k0_t1 : Fin k0_t1_loop.trips) (c0_i32_305 : BitVec 32) : Fin 2 → Nat :=
  let c16 : Index := 16#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v862 : BitVec 32 := Scalar.addi c0_i32_305 v56
  let v865 : Index := Scalar.indexCast v862
  ![16, v865.toNat]
def k0_off51 (k0_t1 : Fin k0_t1_loop.trips) (c0_i32_305 : BitVec 32) : Fin 2 → Nat :=
  let c512_307 : Index := 512#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v862 : BitVec 32 := Scalar.addi c0_i32_305 v56
  let v872 : Index := Scalar.indexCast v862
  ![512, v872.toNat]
def k0_off52 (k0_t1 : Fin k0_t1_loop.trips) : Fin 2 → Nat :=
  let c544 : Index := 544#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v890 : Index := Scalar.indexCast v56
  ![544, v890.toNat]
def k0_off53 (k0_t1 : Fin k0_t1_loop.trips) (c0_i32_320 : BitVec 32) : Fin 2 → Nat :=
  let c17 : Index := 17#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v911 : BitVec 32 := Scalar.addi c0_i32_320 v56
  let v914 : Index := Scalar.indexCast v911
  ![17, v914.toNat]
def k0_off54 (k0_t1 : Fin k0_t1_loop.trips) (c0_i32_320 : BitVec 32) : Fin 2 → Nat :=
  let c544_322 : Index := 544#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v911 : BitVec 32 := Scalar.addi c0_i32_320 v56
  let v921 : Index := Scalar.indexCast v911
  ![544, v921.toNat]
def k0_off55 (k0_t1 : Fin k0_t1_loop.trips) : Fin 2 → Nat :=
  let c576 : Index := 576#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v939 : Index := Scalar.indexCast v56
  ![576, v939.toNat]
def k0_off56 (k0_t1 : Fin k0_t1_loop.trips) (c0_i32_335 : BitVec 32) : Fin 2 → Nat :=
  let c18 : Index := 18#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v960 : BitVec 32 := Scalar.addi c0_i32_335 v56
  let v963 : Index := Scalar.indexCast v960
  ![18, v963.toNat]
def k0_off57 (k0_t1 : Fin k0_t1_loop.trips) (c0_i32_335 : BitVec 32) : Fin 2 → Nat :=
  let c576_337 : Index := 576#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v960 : BitVec 32 := Scalar.addi c0_i32_335 v56
  let v970 : Index := Scalar.indexCast v960
  ![576, v970.toNat]
def k0_off58 (k0_t1 : Fin k0_t1_loop.trips) : Fin 2 → Nat :=
  let c608 : Index := 608#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v988 : Index := Scalar.indexCast v56
  ![608, v988.toNat]
def k0_off59 (k0_t1 : Fin k0_t1_loop.trips) (c0_i32_350 : BitVec 32) : Fin 2 → Nat :=
  let c19 : Index := 19#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1009 : BitVec 32 := Scalar.addi c0_i32_350 v56
  let v1012 : Index := Scalar.indexCast v1009
  ![19, v1012.toNat]
def k0_off60 (k0_t1 : Fin k0_t1_loop.trips) (c0_i32_350 : BitVec 32) : Fin 2 → Nat :=
  let c608_352 : Index := 608#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1009 : BitVec 32 := Scalar.addi c0_i32_350 v56
  let v1019 : Index := Scalar.indexCast v1009
  ![608, v1019.toNat]
def k0_off61 (k0_t1 : Fin k0_t1_loop.trips) : Fin 2 → Nat :=
  let c640 : Index := 640#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1037 : Index := Scalar.indexCast v56
  ![640, v1037.toNat]
def k0_off62 (k0_t1 : Fin k0_t1_loop.trips) (c0_i32_365 : BitVec 32) : Fin 2 → Nat :=
  let c20 : Index := 20#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1058 : BitVec 32 := Scalar.addi c0_i32_365 v56
  let v1061 : Index := Scalar.indexCast v1058
  ![20, v1061.toNat]
def k0_off63 (k0_t1 : Fin k0_t1_loop.trips) (c0_i32_365 : BitVec 32) : Fin 2 → Nat :=
  let c640_367 : Index := 640#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1058 : BitVec 32 := Scalar.addi c0_i32_365 v56
  let v1068 : Index := Scalar.indexCast v1058
  ![640, v1068.toNat]
def k0_off64 (k0_t1 : Fin k0_t1_loop.trips) : Fin 2 → Nat :=
  let c672 : Index := 672#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1086 : Index := Scalar.indexCast v56
  ![672, v1086.toNat]
def k0_off65 (k0_t1 : Fin k0_t1_loop.trips) (c0_i32_380 : BitVec 32) : Fin 2 → Nat :=
  let c21 : Index := 21#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1107 : BitVec 32 := Scalar.addi c0_i32_380 v56
  let v1110 : Index := Scalar.indexCast v1107
  ![21, v1110.toNat]
def k0_off66 (k0_t1 : Fin k0_t1_loop.trips) (c0_i32_380 : BitVec 32) : Fin 2 → Nat :=
  let c672_382 : Index := 672#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1107 : BitVec 32 := Scalar.addi c0_i32_380 v56
  let v1117 : Index := Scalar.indexCast v1107
  ![672, v1117.toNat]
def k0_off67 (k0_t1 : Fin k0_t1_loop.trips) : Fin 2 → Nat :=
  let c704 : Index := 704#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1135 : Index := Scalar.indexCast v56
  ![704, v1135.toNat]
def k0_off68 (k0_t1 : Fin k0_t1_loop.trips) (c0_i32_395 : BitVec 32) : Fin 2 → Nat :=
  let c22 : Index := 22#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1156 : BitVec 32 := Scalar.addi c0_i32_395 v56
  let v1159 : Index := Scalar.indexCast v1156
  ![22, v1159.toNat]
def k0_off69 (k0_t1 : Fin k0_t1_loop.trips) (c0_i32_395 : BitVec 32) : Fin 2 → Nat :=
  let c704_397 : Index := 704#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1156 : BitVec 32 := Scalar.addi c0_i32_395 v56
  let v1166 : Index := Scalar.indexCast v1156
  ![704, v1166.toNat]
def k0_off70 (k0_t1 : Fin k0_t1_loop.trips) : Fin 2 → Nat :=
  let c736 : Index := 736#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1184 : Index := Scalar.indexCast v56
  ![736, v1184.toNat]
def k0_off71 (k0_t1 : Fin k0_t1_loop.trips) (c0_i32_410 : BitVec 32) : Fin 2 → Nat :=
  let c23 : Index := 23#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1205 : BitVec 32 := Scalar.addi c0_i32_410 v56
  let v1208 : Index := Scalar.indexCast v1205
  ![23, v1208.toNat]
def k0_off72 (k0_t1 : Fin k0_t1_loop.trips) (c0_i32_410 : BitVec 32) : Fin 2 → Nat :=
  let c736_412 : Index := 736#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1205 : BitVec 32 := Scalar.addi c0_i32_410 v56
  let v1215 : Index := Scalar.indexCast v1205
  ![736, v1215.toNat]
def k0_off73 (k0_t1 : Fin k0_t1_loop.trips) : Fin 2 → Nat :=
  let c768 : Index := 768#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1233 : Index := Scalar.indexCast v56
  ![768, v1233.toNat]
def k0_off74 (k0_t1 : Fin k0_t1_loop.trips) (c0_i32_425 : BitVec 32) : Fin 2 → Nat :=
  let c24 : Index := 24#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1254 : BitVec 32 := Scalar.addi c0_i32_425 v56
  let v1257 : Index := Scalar.indexCast v1254
  ![24, v1257.toNat]
def k0_off75 (k0_t1 : Fin k0_t1_loop.trips) (c0_i32_425 : BitVec 32) : Fin 2 → Nat :=
  let c768_427 : Index := 768#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1254 : BitVec 32 := Scalar.addi c0_i32_425 v56
  let v1264 : Index := Scalar.indexCast v1254
  ![768, v1264.toNat]
def k0_off76 (k0_t1 : Fin k0_t1_loop.trips) : Fin 2 → Nat :=
  let c800 : Index := 800#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1282 : Index := Scalar.indexCast v56
  ![800, v1282.toNat]
def k0_off77 (k0_t1 : Fin k0_t1_loop.trips) (c0_i32_440 : BitVec 32) : Fin 2 → Nat :=
  let c25 : Index := 25#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1303 : BitVec 32 := Scalar.addi c0_i32_440 v56
  let v1306 : Index := Scalar.indexCast v1303
  ![25, v1306.toNat]
def k0_off78 (k0_t1 : Fin k0_t1_loop.trips) (c0_i32_440 : BitVec 32) : Fin 2 → Nat :=
  let c800_442 : Index := 800#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1303 : BitVec 32 := Scalar.addi c0_i32_440 v56
  let v1313 : Index := Scalar.indexCast v1303
  ![800, v1313.toNat]
def k0_off79 (k0_t1 : Fin k0_t1_loop.trips) : Fin 2 → Nat :=
  let c832 : Index := 832#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1331 : Index := Scalar.indexCast v56
  ![832, v1331.toNat]
def k0_off80 (k0_t1 : Fin k0_t1_loop.trips) (c0_i32_455 : BitVec 32) : Fin 2 → Nat :=
  let c26 : Index := 26#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1352 : BitVec 32 := Scalar.addi c0_i32_455 v56
  let v1355 : Index := Scalar.indexCast v1352
  ![26, v1355.toNat]
def k0_off81 (k0_t1 : Fin k0_t1_loop.trips) (c0_i32_455 : BitVec 32) : Fin 2 → Nat :=
  let c832_457 : Index := 832#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1352 : BitVec 32 := Scalar.addi c0_i32_455 v56
  let v1362 : Index := Scalar.indexCast v1352
  ![832, v1362.toNat]
def k0_off82 (k0_t1 : Fin k0_t1_loop.trips) : Fin 2 → Nat :=
  let c864 : Index := 864#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1380 : Index := Scalar.indexCast v56
  ![864, v1380.toNat]
def k0_off83 (k0_t1 : Fin k0_t1_loop.trips) (c0_i32_470 : BitVec 32) : Fin 2 → Nat :=
  let c27 : Index := 27#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1401 : BitVec 32 := Scalar.addi c0_i32_470 v56
  let v1404 : Index := Scalar.indexCast v1401
  ![27, v1404.toNat]
def k0_off84 (k0_t1 : Fin k0_t1_loop.trips) (c0_i32_470 : BitVec 32) : Fin 2 → Nat :=
  let c864_472 : Index := 864#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1401 : BitVec 32 := Scalar.addi c0_i32_470 v56
  let v1411 : Index := Scalar.indexCast v1401
  ![864, v1411.toNat]
def k0_off85 (k0_t1 : Fin k0_t1_loop.trips) : Fin 2 → Nat :=
  let c896 : Index := 896#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1429 : Index := Scalar.indexCast v56
  ![896, v1429.toNat]
def k0_off86 (k0_t1 : Fin k0_t1_loop.trips) (c0_i32_485 : BitVec 32) : Fin 2 → Nat :=
  let c28 : Index := 28#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1450 : BitVec 32 := Scalar.addi c0_i32_485 v56
  let v1453 : Index := Scalar.indexCast v1450
  ![28, v1453.toNat]
def k0_off87 (k0_t1 : Fin k0_t1_loop.trips) (c0_i32_485 : BitVec 32) : Fin 2 → Nat :=
  let c896_487 : Index := 896#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1450 : BitVec 32 := Scalar.addi c0_i32_485 v56
  let v1460 : Index := Scalar.indexCast v1450
  ![896, v1460.toNat]
def k0_off88 (k0_t1 : Fin k0_t1_loop.trips) : Fin 2 → Nat :=
  let c928 : Index := 928#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1478 : Index := Scalar.indexCast v56
  ![928, v1478.toNat]
def k0_off89 (k0_t1 : Fin k0_t1_loop.trips) (c0_i32_500 : BitVec 32) : Fin 2 → Nat :=
  let c29 : Index := 29#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1499 : BitVec 32 := Scalar.addi c0_i32_500 v56
  let v1502 : Index := Scalar.indexCast v1499
  ![29, v1502.toNat]
def k0_off90 (k0_t1 : Fin k0_t1_loop.trips) (c0_i32_500 : BitVec 32) : Fin 2 → Nat :=
  let c928_502 : Index := 928#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1499 : BitVec 32 := Scalar.addi c0_i32_500 v56
  let v1509 : Index := Scalar.indexCast v1499
  ![928, v1509.toNat]
def k0_off91 (k0_t1 : Fin k0_t1_loop.trips) : Fin 2 → Nat :=
  let c960 : Index := 960#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1527 : Index := Scalar.indexCast v56
  ![960, v1527.toNat]
def k0_off92 (k0_t1 : Fin k0_t1_loop.trips) (c0_i32_515 : BitVec 32) : Fin 2 → Nat :=
  let c30 : Index := 30#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1548 : BitVec 32 := Scalar.addi c0_i32_515 v56
  let v1551 : Index := Scalar.indexCast v1548
  ![30, v1551.toNat]
def k0_off93 (k0_t1 : Fin k0_t1_loop.trips) (c0_i32_515 : BitVec 32) : Fin 2 → Nat :=
  let c960_517 : Index := 960#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1548 : BitVec 32 := Scalar.addi c0_i32_515 v56
  let v1558 : Index := Scalar.indexCast v1548
  ![960, v1558.toNat]
def k0_off94 (k0_t1 : Fin k0_t1_loop.trips) : Fin 2 → Nat :=
  let c992 : Index := 992#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1576 : Index := Scalar.indexCast v56
  ![992, v1576.toNat]
def k0_off95 (k0_t1 : Fin k0_t1_loop.trips) (c0_i32_530 : BitVec 32) : Fin 2 → Nat :=
  let c31 : Index := 31#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1597 : BitVec 32 := Scalar.addi c0_i32_530 v56
  let v1600 : Index := Scalar.indexCast v1597
  ![31, v1600.toNat]
def k0_off96 (k0_t1 : Fin k0_t1_loop.trips) (c0_i32_530 : BitVec 32) : Fin 2 → Nat :=
  let c992_532 : Index := 992#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1597 : BitVec 32 := Scalar.addi c0_i32_530 v56
  let v1607 : Index := Scalar.indexCast v1597
  ![992, v1607.toNat]
def k0_off97 (k0_t1 : Fin k0_t1_loop.trips) : Fin 2 → Nat :=
  let c1024_537 : Index := 1024#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1625 : Index := Scalar.indexCast v56
  ![1024, v1625.toNat]
def k0_off98 (k0_t1 : Fin k0_t1_loop.trips) (c0_i32_546 : BitVec 32) : Fin 2 → Nat :=
  let c32_547 : Index := 32#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1646 : BitVec 32 := Scalar.addi c0_i32_546 v56
  let v1649 : Index := Scalar.indexCast v1646
  ![32, v1649.toNat]
def k0_off99 (k0_t1 : Fin k0_t1_loop.trips) (c0_i32_546 : BitVec 32) : Fin 2 → Nat :=
  let c1024_549 : Index := 1024#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1646 : BitVec 32 := Scalar.addi c0_i32_546 v56
  let v1656 : Index := Scalar.indexCast v1646
  ![1024, v1656.toNat]
def k0_off100 (k0_t1 : Fin k0_t1_loop.trips) : Fin 2 → Nat :=
  let c1056 : Index := 1056#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1674 : Index := Scalar.indexCast v56
  ![1056, v1674.toNat]
def k0_off101 (k0_t1 : Fin k0_t1_loop.trips) (c0_i32_562 : BitVec 32) : Fin 2 → Nat :=
  let c33 : Index := 33#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1695 : BitVec 32 := Scalar.addi c0_i32_562 v56
  let v1698 : Index := Scalar.indexCast v1695
  ![33, v1698.toNat]
def k0_off102 (k0_t1 : Fin k0_t1_loop.trips) (c0_i32_562 : BitVec 32) : Fin 2 → Nat :=
  let c1056_564 : Index := 1056#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1695 : BitVec 32 := Scalar.addi c0_i32_562 v56
  let v1705 : Index := Scalar.indexCast v1695
  ![1056, v1705.toNat]
def k0_off103 (k0_t1 : Fin k0_t1_loop.trips) : Fin 2 → Nat :=
  let c1088 : Index := 1088#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1723 : Index := Scalar.indexCast v56
  ![1088, v1723.toNat]
def k0_off104 (k0_t1 : Fin k0_t1_loop.trips) (c0_i32_577 : BitVec 32) : Fin 2 → Nat :=
  let c34 : Index := 34#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1744 : BitVec 32 := Scalar.addi c0_i32_577 v56
  let v1747 : Index := Scalar.indexCast v1744
  ![34, v1747.toNat]
def k0_off105 (k0_t1 : Fin k0_t1_loop.trips) (c0_i32_577 : BitVec 32) : Fin 2 → Nat :=
  let c1088_579 : Index := 1088#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1744 : BitVec 32 := Scalar.addi c0_i32_577 v56
  let v1754 : Index := Scalar.indexCast v1744
  ![1088, v1754.toNat]
def k0_off106 (k0_t1 : Fin k0_t1_loop.trips) : Fin 2 → Nat :=
  let c1120 : Index := 1120#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1772 : Index := Scalar.indexCast v56
  ![1120, v1772.toNat]
def k0_off107 (k0_t1 : Fin k0_t1_loop.trips) (c0_i32_592 : BitVec 32) : Fin 2 → Nat :=
  let c35 : Index := 35#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1793 : BitVec 32 := Scalar.addi c0_i32_592 v56
  let v1796 : Index := Scalar.indexCast v1793
  ![35, v1796.toNat]
def k0_off108 (k0_t1 : Fin k0_t1_loop.trips) (c0_i32_592 : BitVec 32) : Fin 2 → Nat :=
  let c1120_594 : Index := 1120#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1793 : BitVec 32 := Scalar.addi c0_i32_592 v56
  let v1803 : Index := Scalar.indexCast v1793
  ![1120, v1803.toNat]
def k0_off109 (k0_t1 : Fin k0_t1_loop.trips) : Fin 2 → Nat :=
  let c1152 : Index := 1152#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1821 : Index := Scalar.indexCast v56
  ![1152, v1821.toNat]
def k0_off110 (k0_t1 : Fin k0_t1_loop.trips) (c0_i32_607 : BitVec 32) : Fin 2 → Nat :=
  let c36 : Index := 36#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1842 : BitVec 32 := Scalar.addi c0_i32_607 v56
  let v1845 : Index := Scalar.indexCast v1842
  ![36, v1845.toNat]
def k0_off111 (k0_t1 : Fin k0_t1_loop.trips) (c0_i32_607 : BitVec 32) : Fin 2 → Nat :=
  let c1152_609 : Index := 1152#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1842 : BitVec 32 := Scalar.addi c0_i32_607 v56
  let v1852 : Index := Scalar.indexCast v1842
  ![1152, v1852.toNat]
def k0_off112 (k0_t1 : Fin k0_t1_loop.trips) : Fin 2 → Nat :=
  let c1184 : Index := 1184#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1870 : Index := Scalar.indexCast v56
  ![1184, v1870.toNat]
def k0_off113 (k0_t1 : Fin k0_t1_loop.trips) (c0_i32_622 : BitVec 32) : Fin 2 → Nat :=
  let c37 : Index := 37#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1891 : BitVec 32 := Scalar.addi c0_i32_622 v56
  let v1894 : Index := Scalar.indexCast v1891
  ![37, v1894.toNat]
def k0_off114 (k0_t1 : Fin k0_t1_loop.trips) (c0_i32_622 : BitVec 32) : Fin 2 → Nat :=
  let c1184_624 : Index := 1184#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1891 : BitVec 32 := Scalar.addi c0_i32_622 v56
  let v1901 : Index := Scalar.indexCast v1891
  ![1184, v1901.toNat]
def k0_off115 (k0_t1 : Fin k0_t1_loop.trips) : Fin 2 → Nat :=
  let c1216 : Index := 1216#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1919 : Index := Scalar.indexCast v56
  ![1216, v1919.toNat]
def k0_off116 (k0_t1 : Fin k0_t1_loop.trips) (c0_i32_637 : BitVec 32) : Fin 2 → Nat :=
  let c38 : Index := 38#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1940 : BitVec 32 := Scalar.addi c0_i32_637 v56
  let v1943 : Index := Scalar.indexCast v1940
  ![38, v1943.toNat]
def k0_off117 (k0_t1 : Fin k0_t1_loop.trips) (c0_i32_637 : BitVec 32) : Fin 2 → Nat :=
  let c1216_639 : Index := 1216#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1940 : BitVec 32 := Scalar.addi c0_i32_637 v56
  let v1950 : Index := Scalar.indexCast v1940
  ![1216, v1950.toNat]
def k0_off118 (k0_t1 : Fin k0_t1_loop.trips) : Fin 2 → Nat :=
  let c1248 : Index := 1248#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1968 : Index := Scalar.indexCast v56
  ![1248, v1968.toNat]
def k0_off119 (k0_t1 : Fin k0_t1_loop.trips) (c0_i32_652 : BitVec 32) : Fin 2 → Nat :=
  let c39 : Index := 39#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1989 : BitVec 32 := Scalar.addi c0_i32_652 v56
  let v1992 : Index := Scalar.indexCast v1989
  ![39, v1992.toNat]
def k0_off120 (k0_t1 : Fin k0_t1_loop.trips) (c0_i32_652 : BitVec 32) : Fin 2 → Nat :=
  let c1248_654 : Index := 1248#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v1989 : BitVec 32 := Scalar.addi c0_i32_652 v56
  let v1999 : Index := Scalar.indexCast v1989
  ![1248, v1999.toNat]
def k0_off121 (k0_t1 : Fin k0_t1_loop.trips) : Fin 2 → Nat :=
  let c1280 : Index := 1280#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2017 : Index := Scalar.indexCast v56
  ![1280, v2017.toNat]
def k0_off122 (k0_t1 : Fin k0_t1_loop.trips) (c0_i32_667 : BitVec 32) : Fin 2 → Nat :=
  let c40 : Index := 40#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2038 : BitVec 32 := Scalar.addi c0_i32_667 v56
  let v2041 : Index := Scalar.indexCast v2038
  ![40, v2041.toNat]
def k0_off123 (k0_t1 : Fin k0_t1_loop.trips) (c0_i32_667 : BitVec 32) : Fin 2 → Nat :=
  let c1280_669 : Index := 1280#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2038 : BitVec 32 := Scalar.addi c0_i32_667 v56
  let v2048 : Index := Scalar.indexCast v2038
  ![1280, v2048.toNat]
def k0_off124 (k0_t1 : Fin k0_t1_loop.trips) : Fin 2 → Nat :=
  let c1312 : Index := 1312#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2066 : Index := Scalar.indexCast v56
  ![1312, v2066.toNat]
def k0_off125 (k0_t1 : Fin k0_t1_loop.trips) (c0_i32_682 : BitVec 32) : Fin 2 → Nat :=
  let c41 : Index := 41#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2087 : BitVec 32 := Scalar.addi c0_i32_682 v56
  let v2090 : Index := Scalar.indexCast v2087
  ![41, v2090.toNat]
def k0_off126 (k0_t1 : Fin k0_t1_loop.trips) (c0_i32_682 : BitVec 32) : Fin 2 → Nat :=
  let c1312_684 : Index := 1312#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2087 : BitVec 32 := Scalar.addi c0_i32_682 v56
  let v2097 : Index := Scalar.indexCast v2087
  ![1312, v2097.toNat]
def k0_off127 (k0_t1 : Fin k0_t1_loop.trips) : Fin 2 → Nat :=
  let c1344 : Index := 1344#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2115 : Index := Scalar.indexCast v56
  ![1344, v2115.toNat]
def k0_off128 (k0_t1 : Fin k0_t1_loop.trips) (c0_i32_697 : BitVec 32) : Fin 2 → Nat :=
  let c42 : Index := 42#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2136 : BitVec 32 := Scalar.addi c0_i32_697 v56
  let v2139 : Index := Scalar.indexCast v2136
  ![42, v2139.toNat]
def k0_off129 (k0_t1 : Fin k0_t1_loop.trips) (c0_i32_697 : BitVec 32) : Fin 2 → Nat :=
  let c1344_699 : Index := 1344#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2136 : BitVec 32 := Scalar.addi c0_i32_697 v56
  let v2146 : Index := Scalar.indexCast v2136
  ![1344, v2146.toNat]
def k0_off130 (k0_t1 : Fin k0_t1_loop.trips) : Fin 2 → Nat :=
  let c1376 : Index := 1376#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2164 : Index := Scalar.indexCast v56
  ![1376, v2164.toNat]
def k0_off131 (k0_t1 : Fin k0_t1_loop.trips) (c0_i32_712 : BitVec 32) : Fin 2 → Nat :=
  let c43 : Index := 43#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2185 : BitVec 32 := Scalar.addi c0_i32_712 v56
  let v2188 : Index := Scalar.indexCast v2185
  ![43, v2188.toNat]
def k0_off132 (k0_t1 : Fin k0_t1_loop.trips) (c0_i32_712 : BitVec 32) : Fin 2 → Nat :=
  let c1376_714 : Index := 1376#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2185 : BitVec 32 := Scalar.addi c0_i32_712 v56
  let v2195 : Index := Scalar.indexCast v2185
  ![1376, v2195.toNat]
def k0_off133 (k0_t1 : Fin k0_t1_loop.trips) : Fin 2 → Nat :=
  let c1408 : Index := 1408#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2213 : Index := Scalar.indexCast v56
  ![1408, v2213.toNat]
def k0_off134 (k0_t1 : Fin k0_t1_loop.trips) (c0_i32_727 : BitVec 32) : Fin 2 → Nat :=
  let c44 : Index := 44#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2234 : BitVec 32 := Scalar.addi c0_i32_727 v56
  let v2237 : Index := Scalar.indexCast v2234
  ![44, v2237.toNat]
def k0_off135 (k0_t1 : Fin k0_t1_loop.trips) (c0_i32_727 : BitVec 32) : Fin 2 → Nat :=
  let c1408_729 : Index := 1408#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2234 : BitVec 32 := Scalar.addi c0_i32_727 v56
  let v2244 : Index := Scalar.indexCast v2234
  ![1408, v2244.toNat]
def k0_off136 (k0_t1 : Fin k0_t1_loop.trips) : Fin 2 → Nat :=
  let c1440 : Index := 1440#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2262 : Index := Scalar.indexCast v56
  ![1440, v2262.toNat]
def k0_off137 (k0_t1 : Fin k0_t1_loop.trips) (c0_i32_742 : BitVec 32) : Fin 2 → Nat :=
  let c45 : Index := 45#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2283 : BitVec 32 := Scalar.addi c0_i32_742 v56
  let v2286 : Index := Scalar.indexCast v2283
  ![45, v2286.toNat]
def k0_off138 (k0_t1 : Fin k0_t1_loop.trips) (c0_i32_742 : BitVec 32) : Fin 2 → Nat :=
  let c1440_744 : Index := 1440#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2283 : BitVec 32 := Scalar.addi c0_i32_742 v56
  let v2293 : Index := Scalar.indexCast v2283
  ![1440, v2293.toNat]
def k0_off139 (k0_t1 : Fin k0_t1_loop.trips) : Fin 2 → Nat :=
  let c1472 : Index := 1472#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2311 : Index := Scalar.indexCast v56
  ![1472, v2311.toNat]
def k0_off140 (k0_t1 : Fin k0_t1_loop.trips) (c0_i32_757 : BitVec 32) : Fin 2 → Nat :=
  let c46 : Index := 46#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2332 : BitVec 32 := Scalar.addi c0_i32_757 v56
  let v2335 : Index := Scalar.indexCast v2332
  ![46, v2335.toNat]
def k0_off141 (k0_t1 : Fin k0_t1_loop.trips) (c0_i32_757 : BitVec 32) : Fin 2 → Nat :=
  let c1472_759 : Index := 1472#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2332 : BitVec 32 := Scalar.addi c0_i32_757 v56
  let v2342 : Index := Scalar.indexCast v2332
  ![1472, v2342.toNat]
def k0_off142 (k0_t1 : Fin k0_t1_loop.trips) : Fin 2 → Nat :=
  let c1504 : Index := 1504#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2360 : Index := Scalar.indexCast v56
  ![1504, v2360.toNat]
def k0_off143 (k0_t1 : Fin k0_t1_loop.trips) (c0_i32_772 : BitVec 32) : Fin 2 → Nat :=
  let c47 : Index := 47#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2381 : BitVec 32 := Scalar.addi c0_i32_772 v56
  let v2384 : Index := Scalar.indexCast v2381
  ![47, v2384.toNat]
def k0_off144 (k0_t1 : Fin k0_t1_loop.trips) (c0_i32_772 : BitVec 32) : Fin 2 → Nat :=
  let c1504_774 : Index := 1504#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2381 : BitVec 32 := Scalar.addi c0_i32_772 v56
  let v2391 : Index := Scalar.indexCast v2381
  ![1504, v2391.toNat]
def k0_off145 (k0_t1 : Fin k0_t1_loop.trips) : Fin 2 → Nat :=
  let c1536_779 : Index := 1536#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2409 : Index := Scalar.indexCast v56
  ![1536, v2409.toNat]
def k0_off146 (k0_t1 : Fin k0_t1_loop.trips) (c0_i32_788 : BitVec 32) : Fin 2 → Nat :=
  let c48 : Index := 48#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2430 : BitVec 32 := Scalar.addi c0_i32_788 v56
  let v2433 : Index := Scalar.indexCast v2430
  ![48, v2433.toNat]
def k0_off147 (k0_t1 : Fin k0_t1_loop.trips) (c0_i32_788 : BitVec 32) : Fin 2 → Nat :=
  let c1536_790 : Index := 1536#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2430 : BitVec 32 := Scalar.addi c0_i32_788 v56
  let v2440 : Index := Scalar.indexCast v2430
  ![1536, v2440.toNat]
def k0_off148 (k0_t1 : Fin k0_t1_loop.trips) : Fin 2 → Nat :=
  let c1568 : Index := 1568#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2458 : Index := Scalar.indexCast v56
  ![1568, v2458.toNat]
def k0_off149 (k0_t1 : Fin k0_t1_loop.trips) (c0_i32_803 : BitVec 32) : Fin 2 → Nat :=
  let c49 : Index := 49#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2479 : BitVec 32 := Scalar.addi c0_i32_803 v56
  let v2482 : Index := Scalar.indexCast v2479
  ![49, v2482.toNat]
def k0_off150 (k0_t1 : Fin k0_t1_loop.trips) (c0_i32_803 : BitVec 32) : Fin 2 → Nat :=
  let c1568_805 : Index := 1568#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2479 : BitVec 32 := Scalar.addi c0_i32_803 v56
  let v2489 : Index := Scalar.indexCast v2479
  ![1568, v2489.toNat]
def k0_off151 (k0_t1 : Fin k0_t1_loop.trips) : Fin 2 → Nat :=
  let c1600 : Index := 1600#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2507 : Index := Scalar.indexCast v56
  ![1600, v2507.toNat]
def k0_off152 (k0_t1 : Fin k0_t1_loop.trips) (c0_i32_818 : BitVec 32) : Fin 2 → Nat :=
  let c50 : Index := 50#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2528 : BitVec 32 := Scalar.addi c0_i32_818 v56
  let v2531 : Index := Scalar.indexCast v2528
  ![50, v2531.toNat]
def k0_off153 (k0_t1 : Fin k0_t1_loop.trips) (c0_i32_818 : BitVec 32) : Fin 2 → Nat :=
  let c1600_820 : Index := 1600#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2528 : BitVec 32 := Scalar.addi c0_i32_818 v56
  let v2538 : Index := Scalar.indexCast v2528
  ![1600, v2538.toNat]
def k0_off154 (k0_t1 : Fin k0_t1_loop.trips) : Fin 2 → Nat :=
  let c1632 : Index := 1632#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2556 : Index := Scalar.indexCast v56
  ![1632, v2556.toNat]
def k0_off155 (k0_t1 : Fin k0_t1_loop.trips) (c0_i32_833 : BitVec 32) : Fin 2 → Nat :=
  let c51 : Index := 51#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2577 : BitVec 32 := Scalar.addi c0_i32_833 v56
  let v2580 : Index := Scalar.indexCast v2577
  ![51, v2580.toNat]
def k0_off156 (k0_t1 : Fin k0_t1_loop.trips) (c0_i32_833 : BitVec 32) : Fin 2 → Nat :=
  let c1632_835 : Index := 1632#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2577 : BitVec 32 := Scalar.addi c0_i32_833 v56
  let v2587 : Index := Scalar.indexCast v2577
  ![1632, v2587.toNat]
def k0_off157 (k0_t1 : Fin k0_t1_loop.trips) : Fin 2 → Nat :=
  let c1664 : Index := 1664#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2605 : Index := Scalar.indexCast v56
  ![1664, v2605.toNat]
def k0_off158 (k0_t1 : Fin k0_t1_loop.trips) (c0_i32_848 : BitVec 32) : Fin 2 → Nat :=
  let c52 : Index := 52#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2626 : BitVec 32 := Scalar.addi c0_i32_848 v56
  let v2629 : Index := Scalar.indexCast v2626
  ![52, v2629.toNat]
def k0_off159 (k0_t1 : Fin k0_t1_loop.trips) (c0_i32_848 : BitVec 32) : Fin 2 → Nat :=
  let c1664_850 : Index := 1664#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2626 : BitVec 32 := Scalar.addi c0_i32_848 v56
  let v2636 : Index := Scalar.indexCast v2626
  ![1664, v2636.toNat]
def k0_off160 (k0_t1 : Fin k0_t1_loop.trips) : Fin 2 → Nat :=
  let c1696 : Index := 1696#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2654 : Index := Scalar.indexCast v56
  ![1696, v2654.toNat]
def k0_off161 (k0_t1 : Fin k0_t1_loop.trips) (c0_i32_863 : BitVec 32) : Fin 2 → Nat :=
  let c53 : Index := 53#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2675 : BitVec 32 := Scalar.addi c0_i32_863 v56
  let v2678 : Index := Scalar.indexCast v2675
  ![53, v2678.toNat]
def k0_off162 (k0_t1 : Fin k0_t1_loop.trips) (c0_i32_863 : BitVec 32) : Fin 2 → Nat :=
  let c1696_865 : Index := 1696#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2675 : BitVec 32 := Scalar.addi c0_i32_863 v56
  let v2685 : Index := Scalar.indexCast v2675
  ![1696, v2685.toNat]
def k0_off163 (k0_t1 : Fin k0_t1_loop.trips) : Fin 2 → Nat :=
  let c1728 : Index := 1728#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2703 : Index := Scalar.indexCast v56
  ![1728, v2703.toNat]
def k0_off164 (k0_t1 : Fin k0_t1_loop.trips) (c0_i32_878 : BitVec 32) : Fin 2 → Nat :=
  let c54 : Index := 54#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2724 : BitVec 32 := Scalar.addi c0_i32_878 v56
  let v2727 : Index := Scalar.indexCast v2724
  ![54, v2727.toNat]
def k0_off165 (k0_t1 : Fin k0_t1_loop.trips) (c0_i32_878 : BitVec 32) : Fin 2 → Nat :=
  let c1728_880 : Index := 1728#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2724 : BitVec 32 := Scalar.addi c0_i32_878 v56
  let v2734 : Index := Scalar.indexCast v2724
  ![1728, v2734.toNat]
def k0_off166 (k0_t1 : Fin k0_t1_loop.trips) : Fin 2 → Nat :=
  let c1760 : Index := 1760#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2752 : Index := Scalar.indexCast v56
  ![1760, v2752.toNat]
def k0_off167 (k0_t1 : Fin k0_t1_loop.trips) (c0_i32_893 : BitVec 32) : Fin 2 → Nat :=
  let c55 : Index := 55#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2773 : BitVec 32 := Scalar.addi c0_i32_893 v56
  let v2776 : Index := Scalar.indexCast v2773
  ![55, v2776.toNat]
def k0_off168 (k0_t1 : Fin k0_t1_loop.trips) (c0_i32_893 : BitVec 32) : Fin 2 → Nat :=
  let c1760_895 : Index := 1760#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2773 : BitVec 32 := Scalar.addi c0_i32_893 v56
  let v2783 : Index := Scalar.indexCast v2773
  ![1760, v2783.toNat]
def k0_off169 (k0_t1 : Fin k0_t1_loop.trips) : Fin 2 → Nat :=
  let c1792 : Index := 1792#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2801 : Index := Scalar.indexCast v56
  ![1792, v2801.toNat]
def k0_off170 (k0_t1 : Fin k0_t1_loop.trips) (c0_i32_908 : BitVec 32) : Fin 2 → Nat :=
  let c56 : Index := 56#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2822 : BitVec 32 := Scalar.addi c0_i32_908 v56
  let v2825 : Index := Scalar.indexCast v2822
  ![56, v2825.toNat]
def k0_off171 (k0_t1 : Fin k0_t1_loop.trips) (c0_i32_908 : BitVec 32) : Fin 2 → Nat :=
  let c1792_910 : Index := 1792#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2822 : BitVec 32 := Scalar.addi c0_i32_908 v56
  let v2832 : Index := Scalar.indexCast v2822
  ![1792, v2832.toNat]
def k0_off172 (k0_t1 : Fin k0_t1_loop.trips) : Fin 2 → Nat :=
  let c1824 : Index := 1824#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2850 : Index := Scalar.indexCast v56
  ![1824, v2850.toNat]
def k0_off173 (k0_t1 : Fin k0_t1_loop.trips) (c0_i32_923 : BitVec 32) : Fin 2 → Nat :=
  let c57 : Index := 57#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2871 : BitVec 32 := Scalar.addi c0_i32_923 v56
  let v2874 : Index := Scalar.indexCast v2871
  ![57, v2874.toNat]
def k0_off174 (k0_t1 : Fin k0_t1_loop.trips) (c0_i32_923 : BitVec 32) : Fin 2 → Nat :=
  let c1824_925 : Index := 1824#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2871 : BitVec 32 := Scalar.addi c0_i32_923 v56
  let v2881 : Index := Scalar.indexCast v2871
  ![1824, v2881.toNat]
def k0_off175 (k0_t1 : Fin k0_t1_loop.trips) : Fin 2 → Nat :=
  let c1856 : Index := 1856#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2899 : Index := Scalar.indexCast v56
  ![1856, v2899.toNat]
def k0_off176 (k0_t1 : Fin k0_t1_loop.trips) (c0_i32_938 : BitVec 32) : Fin 2 → Nat :=
  let c58 : Index := 58#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2920 : BitVec 32 := Scalar.addi c0_i32_938 v56
  let v2923 : Index := Scalar.indexCast v2920
  ![58, v2923.toNat]
def k0_off177 (k0_t1 : Fin k0_t1_loop.trips) (c0_i32_938 : BitVec 32) : Fin 2 → Nat :=
  let c1856_940 : Index := 1856#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2920 : BitVec 32 := Scalar.addi c0_i32_938 v56
  let v2930 : Index := Scalar.indexCast v2920
  ![1856, v2930.toNat]
def k0_off178 (k0_t1 : Fin k0_t1_loop.trips) : Fin 2 → Nat :=
  let c1888 : Index := 1888#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2948 : Index := Scalar.indexCast v56
  ![1888, v2948.toNat]
def k0_off179 (k0_t1 : Fin k0_t1_loop.trips) (c0_i32_953 : BitVec 32) : Fin 2 → Nat :=
  let c59 : Index := 59#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2969 : BitVec 32 := Scalar.addi c0_i32_953 v56
  let v2972 : Index := Scalar.indexCast v2969
  ![59, v2972.toNat]
def k0_off180 (k0_t1 : Fin k0_t1_loop.trips) (c0_i32_953 : BitVec 32) : Fin 2 → Nat :=
  let c1888_955 : Index := 1888#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2969 : BitVec 32 := Scalar.addi c0_i32_953 v56
  let v2979 : Index := Scalar.indexCast v2969
  ![1888, v2979.toNat]
def k0_off181 (k0_t1 : Fin k0_t1_loop.trips) : Fin 2 → Nat :=
  let c1920 : Index := 1920#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v2997 : Index := Scalar.indexCast v56
  ![1920, v2997.toNat]
def k0_off182 (k0_t1 : Fin k0_t1_loop.trips) (c0_i32_968 : BitVec 32) : Fin 2 → Nat :=
  let c60 : Index := 60#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3018 : BitVec 32 := Scalar.addi c0_i32_968 v56
  let v3021 : Index := Scalar.indexCast v3018
  ![60, v3021.toNat]
def k0_off183 (k0_t1 : Fin k0_t1_loop.trips) (c0_i32_968 : BitVec 32) : Fin 2 → Nat :=
  let c1920_970 : Index := 1920#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3018 : BitVec 32 := Scalar.addi c0_i32_968 v56
  let v3028 : Index := Scalar.indexCast v3018
  ![1920, v3028.toNat]
def k0_off184 (k0_t1 : Fin k0_t1_loop.trips) : Fin 2 → Nat :=
  let c1952 : Index := 1952#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3046 : Index := Scalar.indexCast v56
  ![1952, v3046.toNat]
def k0_off185 (k0_t1 : Fin k0_t1_loop.trips) (c0_i32_983 : BitVec 32) : Fin 2 → Nat :=
  let c61 : Index := 61#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3067 : BitVec 32 := Scalar.addi c0_i32_983 v56
  let v3070 : Index := Scalar.indexCast v3067
  ![61, v3070.toNat]
def k0_off186 (k0_t1 : Fin k0_t1_loop.trips) (c0_i32_983 : BitVec 32) : Fin 2 → Nat :=
  let c1952_985 : Index := 1952#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3067 : BitVec 32 := Scalar.addi c0_i32_983 v56
  let v3077 : Index := Scalar.indexCast v3067
  ![1952, v3077.toNat]
def k0_off187 (k0_t1 : Fin k0_t1_loop.trips) : Fin 2 → Nat :=
  let c1984 : Index := 1984#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3095 : Index := Scalar.indexCast v56
  ![1984, v3095.toNat]
def k0_off188 (k0_t1 : Fin k0_t1_loop.trips) (c0_i32_998 : BitVec 32) : Fin 2 → Nat :=
  let c62 : Index := 62#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3116 : BitVec 32 := Scalar.addi c0_i32_998 v56
  let v3119 : Index := Scalar.indexCast v3116
  ![62, v3119.toNat]
def k0_off189 (k0_t1 : Fin k0_t1_loop.trips) (c0_i32_998 : BitVec 32) : Fin 2 → Nat :=
  let c1984_1000 : Index := 1984#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3116 : BitVec 32 := Scalar.addi c0_i32_998 v56
  let v3126 : Index := Scalar.indexCast v3116
  ![1984, v3126.toNat]
def k0_off190 (k0_t1 : Fin k0_t1_loop.trips) : Fin 2 → Nat :=
  let c2016 : Index := 2016#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3144 : Index := Scalar.indexCast v56
  ![2016, v3144.toNat]
def k0_off191 (k0_t1 : Fin k0_t1_loop.trips) (c0_i32_1013 : BitVec 32) : Fin 2 → Nat :=
  let c63 : Index := 63#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3165 : BitVec 32 := Scalar.addi c0_i32_1013 v56
  let v3168 : Index := Scalar.indexCast v3165
  ![63, v3168.toNat]
def k0_off192 (k0_t1 : Fin k0_t1_loop.trips) (c0_i32_1013 : BitVec 32) : Fin 2 → Nat :=
  let c2016_1015 : Index := 2016#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3165 : BitVec 32 := Scalar.addi c0_i32_1013 v56
  let v3175 : Index := Scalar.indexCast v3165
  ![2016, v3175.toNat]
def k0_off193 (k0_t1 : Fin k0_t1_loop.trips) : Fin 2 → Nat :=
  let c2048_1020 : Index := 2048#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3193 : Index := Scalar.indexCast v56
  ![2048, v3193.toNat]
def k0_off194 (k0_t1 : Fin k0_t1_loop.trips) (c0_i32_1029 : BitVec 32) : Fin 2 → Nat :=
  let c64_1030 : Index := 64#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3214 : BitVec 32 := Scalar.addi c0_i32_1029 v56
  let v3217 : Index := Scalar.indexCast v3214
  ![64, v3217.toNat]
def k0_off195 (k0_t1 : Fin k0_t1_loop.trips) (c0_i32_1029 : BitVec 32) : Fin 2 → Nat :=
  let c2048_1032 : Index := 2048#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3214 : BitVec 32 := Scalar.addi c0_i32_1029 v56
  let v3224 : Index := Scalar.indexCast v3214
  ![2048, v3224.toNat]
def k0_off196 (k0_t1 : Fin k0_t1_loop.trips) : Fin 2 → Nat :=
  let c2080 : Index := 2080#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3242 : Index := Scalar.indexCast v56
  ![2080, v3242.toNat]
def k0_off197 (k0_t1 : Fin k0_t1_loop.trips) (c0_i32_1045 : BitVec 32) : Fin 2 → Nat :=
  let c65 : Index := 65#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3263 : BitVec 32 := Scalar.addi c0_i32_1045 v56
  let v3266 : Index := Scalar.indexCast v3263
  ![65, v3266.toNat]
def k0_off198 (k0_t1 : Fin k0_t1_loop.trips) (c0_i32_1045 : BitVec 32) : Fin 2 → Nat :=
  let c2080_1047 : Index := 2080#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3263 : BitVec 32 := Scalar.addi c0_i32_1045 v56
  let v3273 : Index := Scalar.indexCast v3263
  ![2080, v3273.toNat]
def k0_off199 (k0_t1 : Fin k0_t1_loop.trips) : Fin 2 → Nat :=
  let c2112 : Index := 2112#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3291 : Index := Scalar.indexCast v56
  ![2112, v3291.toNat]
def k0_off200 (k0_t1 : Fin k0_t1_loop.trips) (c0_i32_1060 : BitVec 32) : Fin 2 → Nat :=
  let c66 : Index := 66#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3312 : BitVec 32 := Scalar.addi c0_i32_1060 v56
  let v3315 : Index := Scalar.indexCast v3312
  ![66, v3315.toNat]
def k0_off201 (k0_t1 : Fin k0_t1_loop.trips) (c0_i32_1060 : BitVec 32) : Fin 2 → Nat :=
  let c2112_1062 : Index := 2112#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3312 : BitVec 32 := Scalar.addi c0_i32_1060 v56
  let v3322 : Index := Scalar.indexCast v3312
  ![2112, v3322.toNat]
def k0_off202 (k0_t1 : Fin k0_t1_loop.trips) : Fin 2 → Nat :=
  let c2144 : Index := 2144#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3340 : Index := Scalar.indexCast v56
  ![2144, v3340.toNat]
def k0_off203 (k0_t1 : Fin k0_t1_loop.trips) (c0_i32_1075 : BitVec 32) : Fin 2 → Nat :=
  let c67 : Index := 67#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3361 : BitVec 32 := Scalar.addi c0_i32_1075 v56
  let v3364 : Index := Scalar.indexCast v3361
  ![67, v3364.toNat]
def k0_off204 (k0_t1 : Fin k0_t1_loop.trips) (c0_i32_1075 : BitVec 32) : Fin 2 → Nat :=
  let c2144_1077 : Index := 2144#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3361 : BitVec 32 := Scalar.addi c0_i32_1075 v56
  let v3371 : Index := Scalar.indexCast v3361
  ![2144, v3371.toNat]
def k0_off205 (k0_t1 : Fin k0_t1_loop.trips) : Fin 2 → Nat :=
  let c2176 : Index := 2176#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3389 : Index := Scalar.indexCast v56
  ![2176, v3389.toNat]
def k0_off206 (k0_t1 : Fin k0_t1_loop.trips) (c0_i32_1090 : BitVec 32) : Fin 2 → Nat :=
  let c68 : Index := 68#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3410 : BitVec 32 := Scalar.addi c0_i32_1090 v56
  let v3413 : Index := Scalar.indexCast v3410
  ![68, v3413.toNat]
def k0_off207 (k0_t1 : Fin k0_t1_loop.trips) (c0_i32_1090 : BitVec 32) : Fin 2 → Nat :=
  let c2176_1092 : Index := 2176#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3410 : BitVec 32 := Scalar.addi c0_i32_1090 v56
  let v3420 : Index := Scalar.indexCast v3410
  ![2176, v3420.toNat]
def k0_off208 (k0_t1 : Fin k0_t1_loop.trips) : Fin 2 → Nat :=
  let c2208 : Index := 2208#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3438 : Index := Scalar.indexCast v56
  ![2208, v3438.toNat]
def k0_off209 (k0_t1 : Fin k0_t1_loop.trips) (c0_i32_1105 : BitVec 32) : Fin 2 → Nat :=
  let c69 : Index := 69#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3459 : BitVec 32 := Scalar.addi c0_i32_1105 v56
  let v3462 : Index := Scalar.indexCast v3459
  ![69, v3462.toNat]
def k0_off210 (k0_t1 : Fin k0_t1_loop.trips) (c0_i32_1105 : BitVec 32) : Fin 2 → Nat :=
  let c2208_1107 : Index := 2208#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3459 : BitVec 32 := Scalar.addi c0_i32_1105 v56
  let v3469 : Index := Scalar.indexCast v3459
  ![2208, v3469.toNat]
def k0_off211 (k0_t1 : Fin k0_t1_loop.trips) : Fin 2 → Nat :=
  let c2240 : Index := 2240#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3487 : Index := Scalar.indexCast v56
  ![2240, v3487.toNat]
def k0_off212 (k0_t1 : Fin k0_t1_loop.trips) (c0_i32_1120 : BitVec 32) : Fin 2 → Nat :=
  let c70 : Index := 70#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3508 : BitVec 32 := Scalar.addi c0_i32_1120 v56
  let v3511 : Index := Scalar.indexCast v3508
  ![70, v3511.toNat]
def k0_off213 (k0_t1 : Fin k0_t1_loop.trips) (c0_i32_1120 : BitVec 32) : Fin 2 → Nat :=
  let c2240_1122 : Index := 2240#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3508 : BitVec 32 := Scalar.addi c0_i32_1120 v56
  let v3518 : Index := Scalar.indexCast v3508
  ![2240, v3518.toNat]
def k0_off214 (k0_t1 : Fin k0_t1_loop.trips) : Fin 2 → Nat :=
  let c2272 : Index := 2272#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3536 : Index := Scalar.indexCast v56
  ![2272, v3536.toNat]
def k0_off215 (k0_t1 : Fin k0_t1_loop.trips) (c0_i32_1135 : BitVec 32) : Fin 2 → Nat :=
  let c71 : Index := 71#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3557 : BitVec 32 := Scalar.addi c0_i32_1135 v56
  let v3560 : Index := Scalar.indexCast v3557
  ![71, v3560.toNat]
def k0_off216 (k0_t1 : Fin k0_t1_loop.trips) (c0_i32_1135 : BitVec 32) : Fin 2 → Nat :=
  let c2272_1137 : Index := 2272#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3557 : BitVec 32 := Scalar.addi c0_i32_1135 v56
  let v3567 : Index := Scalar.indexCast v3557
  ![2272, v3567.toNat]
def k0_off217 (k0_t1 : Fin k0_t1_loop.trips) : Fin 2 → Nat :=
  let c2304 : Index := 2304#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3585 : Index := Scalar.indexCast v56
  ![2304, v3585.toNat]
def k0_off218 (k0_t1 : Fin k0_t1_loop.trips) (c0_i32_1150 : BitVec 32) : Fin 2 → Nat :=
  let c72 : Index := 72#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3606 : BitVec 32 := Scalar.addi c0_i32_1150 v56
  let v3609 : Index := Scalar.indexCast v3606
  ![72, v3609.toNat]
def k0_off219 (k0_t1 : Fin k0_t1_loop.trips) (c0_i32_1150 : BitVec 32) : Fin 2 → Nat :=
  let c2304_1152 : Index := 2304#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3606 : BitVec 32 := Scalar.addi c0_i32_1150 v56
  let v3616 : Index := Scalar.indexCast v3606
  ![2304, v3616.toNat]
def k0_off220 (k0_t1 : Fin k0_t1_loop.trips) : Fin 2 → Nat :=
  let c2336 : Index := 2336#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3634 : Index := Scalar.indexCast v56
  ![2336, v3634.toNat]
def k0_off221 (k0_t1 : Fin k0_t1_loop.trips) (c0_i32_1165 : BitVec 32) : Fin 2 → Nat :=
  let c73 : Index := 73#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3655 : BitVec 32 := Scalar.addi c0_i32_1165 v56
  let v3658 : Index := Scalar.indexCast v3655
  ![73, v3658.toNat]
def k0_off222 (k0_t1 : Fin k0_t1_loop.trips) (c0_i32_1165 : BitVec 32) : Fin 2 → Nat :=
  let c2336_1167 : Index := 2336#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3655 : BitVec 32 := Scalar.addi c0_i32_1165 v56
  let v3665 : Index := Scalar.indexCast v3655
  ![2336, v3665.toNat]
def k0_off223 (k0_t1 : Fin k0_t1_loop.trips) : Fin 2 → Nat :=
  let c2368 : Index := 2368#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3683 : Index := Scalar.indexCast v56
  ![2368, v3683.toNat]
def k0_off224 (k0_t1 : Fin k0_t1_loop.trips) (c0_i32_1180 : BitVec 32) : Fin 2 → Nat :=
  let c74 : Index := 74#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3704 : BitVec 32 := Scalar.addi c0_i32_1180 v56
  let v3707 : Index := Scalar.indexCast v3704
  ![74, v3707.toNat]
def k0_off225 (k0_t1 : Fin k0_t1_loop.trips) (c0_i32_1180 : BitVec 32) : Fin 2 → Nat :=
  let c2368_1182 : Index := 2368#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3704 : BitVec 32 := Scalar.addi c0_i32_1180 v56
  let v3714 : Index := Scalar.indexCast v3704
  ![2368, v3714.toNat]
def k0_off226 (k0_t1 : Fin k0_t1_loop.trips) : Fin 2 → Nat :=
  let c2400 : Index := 2400#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3732 : Index := Scalar.indexCast v56
  ![2400, v3732.toNat]
def k0_off227 (k0_t1 : Fin k0_t1_loop.trips) (c0_i32_1195 : BitVec 32) : Fin 2 → Nat :=
  let c75 : Index := 75#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3753 : BitVec 32 := Scalar.addi c0_i32_1195 v56
  let v3756 : Index := Scalar.indexCast v3753
  ![75, v3756.toNat]
def k0_off228 (k0_t1 : Fin k0_t1_loop.trips) (c0_i32_1195 : BitVec 32) : Fin 2 → Nat :=
  let c2400_1197 : Index := 2400#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3753 : BitVec 32 := Scalar.addi c0_i32_1195 v56
  let v3763 : Index := Scalar.indexCast v3753
  ![2400, v3763.toNat]
def k0_off229 (k0_t1 : Fin k0_t1_loop.trips) : Fin 2 → Nat :=
  let c2432 : Index := 2432#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3781 : Index := Scalar.indexCast v56
  ![2432, v3781.toNat]
def k0_off230 (k0_t1 : Fin k0_t1_loop.trips) (c0_i32_1210 : BitVec 32) : Fin 2 → Nat :=
  let c76 : Index := 76#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3802 : BitVec 32 := Scalar.addi c0_i32_1210 v56
  let v3805 : Index := Scalar.indexCast v3802
  ![76, v3805.toNat]
def k0_off231 (k0_t1 : Fin k0_t1_loop.trips) (c0_i32_1210 : BitVec 32) : Fin 2 → Nat :=
  let c2432_1212 : Index := 2432#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3802 : BitVec 32 := Scalar.addi c0_i32_1210 v56
  let v3812 : Index := Scalar.indexCast v3802
  ![2432, v3812.toNat]
def k0_off232 (k0_t1 : Fin k0_t1_loop.trips) : Fin 2 → Nat :=
  let c2464 : Index := 2464#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3830 : Index := Scalar.indexCast v56
  ![2464, v3830.toNat]
def k0_off233 (k0_t1 : Fin k0_t1_loop.trips) (c0_i32_1225 : BitVec 32) : Fin 2 → Nat :=
  let c77 : Index := 77#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3851 : BitVec 32 := Scalar.addi c0_i32_1225 v56
  let v3854 : Index := Scalar.indexCast v3851
  ![77, v3854.toNat]
def k0_off234 (k0_t1 : Fin k0_t1_loop.trips) (c0_i32_1225 : BitVec 32) : Fin 2 → Nat :=
  let c2464_1227 : Index := 2464#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3851 : BitVec 32 := Scalar.addi c0_i32_1225 v56
  let v3861 : Index := Scalar.indexCast v3851
  ![2464, v3861.toNat]
def k0_off235 (k0_t1 : Fin k0_t1_loop.trips) : Fin 2 → Nat :=
  let c2496 : Index := 2496#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3879 : Index := Scalar.indexCast v56
  ![2496, v3879.toNat]
def k0_off236 (k0_t1 : Fin k0_t1_loop.trips) (c0_i32_1240 : BitVec 32) : Fin 2 → Nat :=
  let c78 : Index := 78#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3900 : BitVec 32 := Scalar.addi c0_i32_1240 v56
  let v3903 : Index := Scalar.indexCast v3900
  ![78, v3903.toNat]
def k0_off237 (k0_t1 : Fin k0_t1_loop.trips) (c0_i32_1240 : BitVec 32) : Fin 2 → Nat :=
  let c2496_1242 : Index := 2496#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3900 : BitVec 32 := Scalar.addi c0_i32_1240 v56
  let v3910 : Index := Scalar.indexCast v3900
  ![2496, v3910.toNat]
def k0_off238 (k0_t1 : Fin k0_t1_loop.trips) : Fin 2 → Nat :=
  let c2528 : Index := 2528#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3928 : Index := Scalar.indexCast v56
  ![2528, v3928.toNat]
def k0_off239 (k0_t1 : Fin k0_t1_loop.trips) (c0_i32_1255 : BitVec 32) : Fin 2 → Nat :=
  let c79 : Index := 79#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3949 : BitVec 32 := Scalar.addi c0_i32_1255 v56
  let v3952 : Index := Scalar.indexCast v3949
  ![79, v3952.toNat]
def k0_off240 (k0_t1 : Fin k0_t1_loop.trips) (c0_i32_1255 : BitVec 32) : Fin 2 → Nat :=
  let c2528_1257 : Index := 2528#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3949 : BitVec 32 := Scalar.addi c0_i32_1255 v56
  let v3959 : Index := Scalar.indexCast v3949
  ![2528, v3959.toNat]
def k0_off241 (k0_t1 : Fin k0_t1_loop.trips) : Fin 2 → Nat :=
  let c2560_1262 : Index := 2560#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3977 : Index := Scalar.indexCast v56
  ![2560, v3977.toNat]
def k0_off242 (k0_t1 : Fin k0_t1_loop.trips) (c0_i32_1271 : BitVec 32) : Fin 2 → Nat :=
  let c80 : Index := 80#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3998 : BitVec 32 := Scalar.addi c0_i32_1271 v56
  let v4001 : Index := Scalar.indexCast v3998
  ![80, v4001.toNat]
def k0_off243 (k0_t1 : Fin k0_t1_loop.trips) (c0_i32_1271 : BitVec 32) : Fin 2 → Nat :=
  let c2560_1273 : Index := 2560#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v3998 : BitVec 32 := Scalar.addi c0_i32_1271 v56
  let v4008 : Index := Scalar.indexCast v3998
  ![2560, v4008.toNat]
def k0_off244 (k0_t1 : Fin k0_t1_loop.trips) : Fin 2 → Nat :=
  let c2592 : Index := 2592#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4026 : Index := Scalar.indexCast v56
  ![2592, v4026.toNat]
def k0_off245 (k0_t1 : Fin k0_t1_loop.trips) (c0_i32_1286 : BitVec 32) : Fin 2 → Nat :=
  let c81 : Index := 81#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4047 : BitVec 32 := Scalar.addi c0_i32_1286 v56
  let v4050 : Index := Scalar.indexCast v4047
  ![81, v4050.toNat]
def k0_off246 (k0_t1 : Fin k0_t1_loop.trips) (c0_i32_1286 : BitVec 32) : Fin 2 → Nat :=
  let c2592_1288 : Index := 2592#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4047 : BitVec 32 := Scalar.addi c0_i32_1286 v56
  let v4057 : Index := Scalar.indexCast v4047
  ![2592, v4057.toNat]
def k0_off247 (k0_t1 : Fin k0_t1_loop.trips) : Fin 2 → Nat :=
  let c2624 : Index := 2624#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4075 : Index := Scalar.indexCast v56
  ![2624, v4075.toNat]
def k0_off248 (k0_t1 : Fin k0_t1_loop.trips) (c0_i32_1301 : BitVec 32) : Fin 2 → Nat :=
  let c82 : Index := 82#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4096 : BitVec 32 := Scalar.addi c0_i32_1301 v56
  let v4099 : Index := Scalar.indexCast v4096
  ![82, v4099.toNat]
def k0_off249 (k0_t1 : Fin k0_t1_loop.trips) (c0_i32_1301 : BitVec 32) : Fin 2 → Nat :=
  let c2624_1303 : Index := 2624#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4096 : BitVec 32 := Scalar.addi c0_i32_1301 v56
  let v4106 : Index := Scalar.indexCast v4096
  ![2624, v4106.toNat]
def k0_off250 (k0_t1 : Fin k0_t1_loop.trips) : Fin 2 → Nat :=
  let c2656 : Index := 2656#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4124 : Index := Scalar.indexCast v56
  ![2656, v4124.toNat]
def k0_off251 (k0_t1 : Fin k0_t1_loop.trips) (c0_i32_1316 : BitVec 32) : Fin 2 → Nat :=
  let c83 : Index := 83#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4145 : BitVec 32 := Scalar.addi c0_i32_1316 v56
  let v4148 : Index := Scalar.indexCast v4145
  ![83, v4148.toNat]
def k0_off252 (k0_t1 : Fin k0_t1_loop.trips) (c0_i32_1316 : BitVec 32) : Fin 2 → Nat :=
  let c2656_1318 : Index := 2656#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4145 : BitVec 32 := Scalar.addi c0_i32_1316 v56
  let v4155 : Index := Scalar.indexCast v4145
  ![2656, v4155.toNat]
def k0_off253 (k0_t1 : Fin k0_t1_loop.trips) : Fin 2 → Nat :=
  let c2688 : Index := 2688#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4173 : Index := Scalar.indexCast v56
  ![2688, v4173.toNat]
def k0_off254 (k0_t1 : Fin k0_t1_loop.trips) (c0_i32_1331 : BitVec 32) : Fin 2 → Nat :=
  let c84 : Index := 84#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4194 : BitVec 32 := Scalar.addi c0_i32_1331 v56
  let v4197 : Index := Scalar.indexCast v4194
  ![84, v4197.toNat]
def k0_off255 (k0_t1 : Fin k0_t1_loop.trips) (c0_i32_1331 : BitVec 32) : Fin 2 → Nat :=
  let c2688_1333 : Index := 2688#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4194 : BitVec 32 := Scalar.addi c0_i32_1331 v56
  let v4204 : Index := Scalar.indexCast v4194
  ![2688, v4204.toNat]
def k0_off256 (k0_t1 : Fin k0_t1_loop.trips) : Fin 2 → Nat :=
  let c2720 : Index := 2720#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4222 : Index := Scalar.indexCast v56
  ![2720, v4222.toNat]
def k0_off257 (k0_t1 : Fin k0_t1_loop.trips) (c0_i32_1346 : BitVec 32) : Fin 2 → Nat :=
  let c85 : Index := 85#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4243 : BitVec 32 := Scalar.addi c0_i32_1346 v56
  let v4246 : Index := Scalar.indexCast v4243
  ![85, v4246.toNat]
def k0_off258 (k0_t1 : Fin k0_t1_loop.trips) (c0_i32_1346 : BitVec 32) : Fin 2 → Nat :=
  let c2720_1348 : Index := 2720#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4243 : BitVec 32 := Scalar.addi c0_i32_1346 v56
  let v4253 : Index := Scalar.indexCast v4243
  ![2720, v4253.toNat]
def k0_off259 (k0_t1 : Fin k0_t1_loop.trips) : Fin 2 → Nat :=
  let c2752 : Index := 2752#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4271 : Index := Scalar.indexCast v56
  ![2752, v4271.toNat]
def k0_off260 (k0_t1 : Fin k0_t1_loop.trips) (c0_i32_1361 : BitVec 32) : Fin 2 → Nat :=
  let c86 : Index := 86#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4292 : BitVec 32 := Scalar.addi c0_i32_1361 v56
  let v4295 : Index := Scalar.indexCast v4292
  ![86, v4295.toNat]
def k0_off261 (k0_t1 : Fin k0_t1_loop.trips) (c0_i32_1361 : BitVec 32) : Fin 2 → Nat :=
  let c2752_1363 : Index := 2752#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4292 : BitVec 32 := Scalar.addi c0_i32_1361 v56
  let v4302 : Index := Scalar.indexCast v4292
  ![2752, v4302.toNat]
def k0_off262 (k0_t1 : Fin k0_t1_loop.trips) : Fin 2 → Nat :=
  let c2784 : Index := 2784#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4320 : Index := Scalar.indexCast v56
  ![2784, v4320.toNat]
def k0_off263 (k0_t1 : Fin k0_t1_loop.trips) (c0_i32_1376 : BitVec 32) : Fin 2 → Nat :=
  let c87 : Index := 87#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4341 : BitVec 32 := Scalar.addi c0_i32_1376 v56
  let v4344 : Index := Scalar.indexCast v4341
  ![87, v4344.toNat]
def k0_off264 (k0_t1 : Fin k0_t1_loop.trips) (c0_i32_1376 : BitVec 32) : Fin 2 → Nat :=
  let c2784_1378 : Index := 2784#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4341 : BitVec 32 := Scalar.addi c0_i32_1376 v56
  let v4351 : Index := Scalar.indexCast v4341
  ![2784, v4351.toNat]
def k0_off265 (k0_t1 : Fin k0_t1_loop.trips) : Fin 2 → Nat :=
  let c2816 : Index := 2816#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4369 : Index := Scalar.indexCast v56
  ![2816, v4369.toNat]
def k0_off266 (k0_t1 : Fin k0_t1_loop.trips) (c0_i32_1391 : BitVec 32) : Fin 2 → Nat :=
  let c88 : Index := 88#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4390 : BitVec 32 := Scalar.addi c0_i32_1391 v56
  let v4393 : Index := Scalar.indexCast v4390
  ![88, v4393.toNat]
def k0_off267 (k0_t1 : Fin k0_t1_loop.trips) (c0_i32_1391 : BitVec 32) : Fin 2 → Nat :=
  let c2816_1393 : Index := 2816#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4390 : BitVec 32 := Scalar.addi c0_i32_1391 v56
  let v4400 : Index := Scalar.indexCast v4390
  ![2816, v4400.toNat]
def k0_off268 (k0_t1 : Fin k0_t1_loop.trips) : Fin 2 → Nat :=
  let c2848 : Index := 2848#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4418 : Index := Scalar.indexCast v56
  ![2848, v4418.toNat]
def k0_off269 (k0_t1 : Fin k0_t1_loop.trips) (c0_i32_1406 : BitVec 32) : Fin 2 → Nat :=
  let c89 : Index := 89#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4439 : BitVec 32 := Scalar.addi c0_i32_1406 v56
  let v4442 : Index := Scalar.indexCast v4439
  ![89, v4442.toNat]
def k0_off270 (k0_t1 : Fin k0_t1_loop.trips) (c0_i32_1406 : BitVec 32) : Fin 2 → Nat :=
  let c2848_1408 : Index := 2848#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4439 : BitVec 32 := Scalar.addi c0_i32_1406 v56
  let v4449 : Index := Scalar.indexCast v4439
  ![2848, v4449.toNat]
def k0_off271 (k0_t1 : Fin k0_t1_loop.trips) : Fin 2 → Nat :=
  let c2880 : Index := 2880#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4467 : Index := Scalar.indexCast v56
  ![2880, v4467.toNat]
def k0_off272 (k0_t1 : Fin k0_t1_loop.trips) (c0_i32_1421 : BitVec 32) : Fin 2 → Nat :=
  let c90 : Index := 90#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4488 : BitVec 32 := Scalar.addi c0_i32_1421 v56
  let v4491 : Index := Scalar.indexCast v4488
  ![90, v4491.toNat]
def k0_off273 (k0_t1 : Fin k0_t1_loop.trips) (c0_i32_1421 : BitVec 32) : Fin 2 → Nat :=
  let c2880_1423 : Index := 2880#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4488 : BitVec 32 := Scalar.addi c0_i32_1421 v56
  let v4498 : Index := Scalar.indexCast v4488
  ![2880, v4498.toNat]
def k0_off274 (k0_t1 : Fin k0_t1_loop.trips) : Fin 2 → Nat :=
  let c2912 : Index := 2912#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4516 : Index := Scalar.indexCast v56
  ![2912, v4516.toNat]
def k0_off275 (k0_t1 : Fin k0_t1_loop.trips) (c0_i32_1436 : BitVec 32) : Fin 2 → Nat :=
  let c91 : Index := 91#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4537 : BitVec 32 := Scalar.addi c0_i32_1436 v56
  let v4540 : Index := Scalar.indexCast v4537
  ![91, v4540.toNat]
def k0_off276 (k0_t1 : Fin k0_t1_loop.trips) (c0_i32_1436 : BitVec 32) : Fin 2 → Nat :=
  let c2912_1438 : Index := 2912#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4537 : BitVec 32 := Scalar.addi c0_i32_1436 v56
  let v4547 : Index := Scalar.indexCast v4537
  ![2912, v4547.toNat]
def k0_off277 (k0_t1 : Fin k0_t1_loop.trips) : Fin 2 → Nat :=
  let c2944 : Index := 2944#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4565 : Index := Scalar.indexCast v56
  ![2944, v4565.toNat]
def k0_off278 (k0_t1 : Fin k0_t1_loop.trips) (c0_i32_1451 : BitVec 32) : Fin 2 → Nat :=
  let c92 : Index := 92#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4586 : BitVec 32 := Scalar.addi c0_i32_1451 v56
  let v4589 : Index := Scalar.indexCast v4586
  ![92, v4589.toNat]
def k0_off279 (k0_t1 : Fin k0_t1_loop.trips) (c0_i32_1451 : BitVec 32) : Fin 2 → Nat :=
  let c2944_1453 : Index := 2944#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4586 : BitVec 32 := Scalar.addi c0_i32_1451 v56
  let v4596 : Index := Scalar.indexCast v4586
  ![2944, v4596.toNat]
def k0_off280 (k0_t1 : Fin k0_t1_loop.trips) : Fin 2 → Nat :=
  let c2976 : Index := 2976#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4614 : Index := Scalar.indexCast v56
  ![2976, v4614.toNat]
def k0_off281 (k0_t1 : Fin k0_t1_loop.trips) (c0_i32_1466 : BitVec 32) : Fin 2 → Nat :=
  let c93 : Index := 93#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4635 : BitVec 32 := Scalar.addi c0_i32_1466 v56
  let v4638 : Index := Scalar.indexCast v4635
  ![93, v4638.toNat]
def k0_off282 (k0_t1 : Fin k0_t1_loop.trips) (c0_i32_1466 : BitVec 32) : Fin 2 → Nat :=
  let c2976_1468 : Index := 2976#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4635 : BitVec 32 := Scalar.addi c0_i32_1466 v56
  let v4645 : Index := Scalar.indexCast v4635
  ![2976, v4645.toNat]
def k0_off283 (k0_t1 : Fin k0_t1_loop.trips) : Fin 2 → Nat :=
  let c3008 : Index := 3008#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4663 : Index := Scalar.indexCast v56
  ![3008, v4663.toNat]
def k0_off284 (k0_t1 : Fin k0_t1_loop.trips) (c0_i32_1481 : BitVec 32) : Fin 2 → Nat :=
  let c94 : Index := 94#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4684 : BitVec 32 := Scalar.addi c0_i32_1481 v56
  let v4687 : Index := Scalar.indexCast v4684
  ![94, v4687.toNat]
def k0_off285 (k0_t1 : Fin k0_t1_loop.trips) (c0_i32_1481 : BitVec 32) : Fin 2 → Nat :=
  let c3008_1483 : Index := 3008#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4684 : BitVec 32 := Scalar.addi c0_i32_1481 v56
  let v4694 : Index := Scalar.indexCast v4684
  ![3008, v4694.toNat]
def k0_off286 (k0_t1 : Fin k0_t1_loop.trips) : Fin 2 → Nat :=
  let c3040 : Index := 3040#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4712 : Index := Scalar.indexCast v56
  ![3040, v4712.toNat]
def k0_off287 (k0_t1 : Fin k0_t1_loop.trips) (c0_i32_1496 : BitVec 32) : Fin 2 → Nat :=
  let c95 : Index := 95#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4733 : BitVec 32 := Scalar.addi c0_i32_1496 v56
  let v4736 : Index := Scalar.indexCast v4733
  ![95, v4736.toNat]
def k0_off288 (k0_t1 : Fin k0_t1_loop.trips) (c0_i32_1496 : BitVec 32) : Fin 2 → Nat :=
  let c3040_1498 : Index := 3040#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4733 : BitVec 32 := Scalar.addi c0_i32_1496 v56
  let v4743 : Index := Scalar.indexCast v4733
  ![3040, v4743.toNat]
def k0_off289 (k0_t1 : Fin k0_t1_loop.trips) : Fin 2 → Nat :=
  let c3072_1503 : Index := 3072#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4761 : Index := Scalar.indexCast v56
  ![3072, v4761.toNat]
def k0_off290 (k0_t1 : Fin k0_t1_loop.trips) (c0_i32_1512 : BitVec 32) : Fin 2 → Nat :=
  let c96_1513 : Index := 96#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4782 : BitVec 32 := Scalar.addi c0_i32_1512 v56
  let v4785 : Index := Scalar.indexCast v4782
  ![96, v4785.toNat]
def k0_off291 (k0_t1 : Fin k0_t1_loop.trips) (c0_i32_1512 : BitVec 32) : Fin 2 → Nat :=
  let c3072_1515 : Index := 3072#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4782 : BitVec 32 := Scalar.addi c0_i32_1512 v56
  let v4792 : Index := Scalar.indexCast v4782
  ![3072, v4792.toNat]
def k0_off292 (k0_t1 : Fin k0_t1_loop.trips) : Fin 2 → Nat :=
  let c3104 : Index := 3104#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4810 : Index := Scalar.indexCast v56
  ![3104, v4810.toNat]
def k0_off293 (k0_t1 : Fin k0_t1_loop.trips) (c0_i32_1528 : BitVec 32) : Fin 2 → Nat :=
  let c97 : Index := 97#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4831 : BitVec 32 := Scalar.addi c0_i32_1528 v56
  let v4834 : Index := Scalar.indexCast v4831
  ![97, v4834.toNat]
def k0_off294 (k0_t1 : Fin k0_t1_loop.trips) (c0_i32_1528 : BitVec 32) : Fin 2 → Nat :=
  let c3104_1530 : Index := 3104#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4831 : BitVec 32 := Scalar.addi c0_i32_1528 v56
  let v4841 : Index := Scalar.indexCast v4831
  ![3104, v4841.toNat]
def k0_off295 (k0_t1 : Fin k0_t1_loop.trips) : Fin 2 → Nat :=
  let c3136 : Index := 3136#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4859 : Index := Scalar.indexCast v56
  ![3136, v4859.toNat]
def k0_off296 (k0_t1 : Fin k0_t1_loop.trips) (c0_i32_1543 : BitVec 32) : Fin 2 → Nat :=
  let c98 : Index := 98#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4880 : BitVec 32 := Scalar.addi c0_i32_1543 v56
  let v4883 : Index := Scalar.indexCast v4880
  ![98, v4883.toNat]
def k0_off297 (k0_t1 : Fin k0_t1_loop.trips) (c0_i32_1543 : BitVec 32) : Fin 2 → Nat :=
  let c3136_1545 : Index := 3136#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4880 : BitVec 32 := Scalar.addi c0_i32_1543 v56
  let v4890 : Index := Scalar.indexCast v4880
  ![3136, v4890.toNat]
def k0_off298 (k0_t1 : Fin k0_t1_loop.trips) : Fin 2 → Nat :=
  let c3168 : Index := 3168#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4908 : Index := Scalar.indexCast v56
  ![3168, v4908.toNat]
def k0_off299 (k0_t1 : Fin k0_t1_loop.trips) (c0_i32_1558 : BitVec 32) : Fin 2 → Nat :=
  let c99 : Index := 99#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4929 : BitVec 32 := Scalar.addi c0_i32_1558 v56
  let v4932 : Index := Scalar.indexCast v4929
  ![99, v4932.toNat]
def k0_off300 (k0_t1 : Fin k0_t1_loop.trips) (c0_i32_1558 : BitVec 32) : Fin 2 → Nat :=
  let c3168_1560 : Index := 3168#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4929 : BitVec 32 := Scalar.addi c0_i32_1558 v56
  let v4939 : Index := Scalar.indexCast v4929
  ![3168, v4939.toNat]
def k0_off301 (k0_t1 : Fin k0_t1_loop.trips) : Fin 2 → Nat :=
  let c3200 : Index := 3200#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4957 : Index := Scalar.indexCast v56
  ![3200, v4957.toNat]
def k0_off302 (k0_t1 : Fin k0_t1_loop.trips) (c0_i32_1573 : BitVec 32) : Fin 2 → Nat :=
  let c100 : Index := 100#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4978 : BitVec 32 := Scalar.addi c0_i32_1573 v56
  let v4981 : Index := Scalar.indexCast v4978
  ![100, v4981.toNat]
def k0_off303 (k0_t1 : Fin k0_t1_loop.trips) (c0_i32_1573 : BitVec 32) : Fin 2 → Nat :=
  let c3200_1575 : Index := 3200#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v4978 : BitVec 32 := Scalar.addi c0_i32_1573 v56
  let v4988 : Index := Scalar.indexCast v4978
  ![3200, v4988.toNat]
def k0_off304 (k0_t1 : Fin k0_t1_loop.trips) : Fin 2 → Nat :=
  let c3232 : Index := 3232#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5006 : Index := Scalar.indexCast v56
  ![3232, v5006.toNat]
def k0_off305 (k0_t1 : Fin k0_t1_loop.trips) (c0_i32_1588 : BitVec 32) : Fin 2 → Nat :=
  let c101 : Index := 101#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5027 : BitVec 32 := Scalar.addi c0_i32_1588 v56
  let v5030 : Index := Scalar.indexCast v5027
  ![101, v5030.toNat]
def k0_off306 (k0_t1 : Fin k0_t1_loop.trips) (c0_i32_1588 : BitVec 32) : Fin 2 → Nat :=
  let c3232_1590 : Index := 3232#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5027 : BitVec 32 := Scalar.addi c0_i32_1588 v56
  let v5037 : Index := Scalar.indexCast v5027
  ![3232, v5037.toNat]
def k0_off307 (k0_t1 : Fin k0_t1_loop.trips) : Fin 2 → Nat :=
  let c3264 : Index := 3264#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5055 : Index := Scalar.indexCast v56
  ![3264, v5055.toNat]
def k0_off308 (k0_t1 : Fin k0_t1_loop.trips) (c0_i32_1603 : BitVec 32) : Fin 2 → Nat :=
  let c102 : Index := 102#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5076 : BitVec 32 := Scalar.addi c0_i32_1603 v56
  let v5079 : Index := Scalar.indexCast v5076
  ![102, v5079.toNat]
def k0_off309 (k0_t1 : Fin k0_t1_loop.trips) (c0_i32_1603 : BitVec 32) : Fin 2 → Nat :=
  let c3264_1605 : Index := 3264#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5076 : BitVec 32 := Scalar.addi c0_i32_1603 v56
  let v5086 : Index := Scalar.indexCast v5076
  ![3264, v5086.toNat]
def k0_off310 (k0_t1 : Fin k0_t1_loop.trips) : Fin 2 → Nat :=
  let c3296 : Index := 3296#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5104 : Index := Scalar.indexCast v56
  ![3296, v5104.toNat]
def k0_off311 (k0_t1 : Fin k0_t1_loop.trips) (c0_i32_1618 : BitVec 32) : Fin 2 → Nat :=
  let c103 : Index := 103#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5125 : BitVec 32 := Scalar.addi c0_i32_1618 v56
  let v5128 : Index := Scalar.indexCast v5125
  ![103, v5128.toNat]
def k0_off312 (k0_t1 : Fin k0_t1_loop.trips) (c0_i32_1618 : BitVec 32) : Fin 2 → Nat :=
  let c3296_1620 : Index := 3296#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5125 : BitVec 32 := Scalar.addi c0_i32_1618 v56
  let v5135 : Index := Scalar.indexCast v5125
  ![3296, v5135.toNat]
def k0_off313 (k0_t1 : Fin k0_t1_loop.trips) : Fin 2 → Nat :=
  let c3328 : Index := 3328#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5153 : Index := Scalar.indexCast v56
  ![3328, v5153.toNat]
def k0_off314 (k0_t1 : Fin k0_t1_loop.trips) (c0_i32_1633 : BitVec 32) : Fin 2 → Nat :=
  let c104 : Index := 104#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5174 : BitVec 32 := Scalar.addi c0_i32_1633 v56
  let v5177 : Index := Scalar.indexCast v5174
  ![104, v5177.toNat]
def k0_off315 (k0_t1 : Fin k0_t1_loop.trips) (c0_i32_1633 : BitVec 32) : Fin 2 → Nat :=
  let c3328_1635 : Index := 3328#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5174 : BitVec 32 := Scalar.addi c0_i32_1633 v56
  let v5184 : Index := Scalar.indexCast v5174
  ![3328, v5184.toNat]
def k0_off316 (k0_t1 : Fin k0_t1_loop.trips) : Fin 2 → Nat :=
  let c3360 : Index := 3360#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5202 : Index := Scalar.indexCast v56
  ![3360, v5202.toNat]
def k0_off317 (k0_t1 : Fin k0_t1_loop.trips) (c0_i32_1648 : BitVec 32) : Fin 2 → Nat :=
  let c105 : Index := 105#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5223 : BitVec 32 := Scalar.addi c0_i32_1648 v56
  let v5226 : Index := Scalar.indexCast v5223
  ![105, v5226.toNat]
def k0_off318 (k0_t1 : Fin k0_t1_loop.trips) (c0_i32_1648 : BitVec 32) : Fin 2 → Nat :=
  let c3360_1650 : Index := 3360#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5223 : BitVec 32 := Scalar.addi c0_i32_1648 v56
  let v5233 : Index := Scalar.indexCast v5223
  ![3360, v5233.toNat]
def k0_off319 (k0_t1 : Fin k0_t1_loop.trips) : Fin 2 → Nat :=
  let c3392 : Index := 3392#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5251 : Index := Scalar.indexCast v56
  ![3392, v5251.toNat]
def k0_off320 (k0_t1 : Fin k0_t1_loop.trips) (c0_i32_1663 : BitVec 32) : Fin 2 → Nat :=
  let c106 : Index := 106#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5272 : BitVec 32 := Scalar.addi c0_i32_1663 v56
  let v5275 : Index := Scalar.indexCast v5272
  ![106, v5275.toNat]
def k0_off321 (k0_t1 : Fin k0_t1_loop.trips) (c0_i32_1663 : BitVec 32) : Fin 2 → Nat :=
  let c3392_1665 : Index := 3392#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5272 : BitVec 32 := Scalar.addi c0_i32_1663 v56
  let v5282 : Index := Scalar.indexCast v5272
  ![3392, v5282.toNat]
def k0_off322 (k0_t1 : Fin k0_t1_loop.trips) : Fin 2 → Nat :=
  let c3424 : Index := 3424#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5300 : Index := Scalar.indexCast v56
  ![3424, v5300.toNat]
def k0_off323 (k0_t1 : Fin k0_t1_loop.trips) (c0_i32_1678 : BitVec 32) : Fin 2 → Nat :=
  let c107 : Index := 107#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5321 : BitVec 32 := Scalar.addi c0_i32_1678 v56
  let v5324 : Index := Scalar.indexCast v5321
  ![107, v5324.toNat]
def k0_off324 (k0_t1 : Fin k0_t1_loop.trips) (c0_i32_1678 : BitVec 32) : Fin 2 → Nat :=
  let c3424_1680 : Index := 3424#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5321 : BitVec 32 := Scalar.addi c0_i32_1678 v56
  let v5331 : Index := Scalar.indexCast v5321
  ![3424, v5331.toNat]
def k0_off325 (k0_t1 : Fin k0_t1_loop.trips) : Fin 2 → Nat :=
  let c3456 : Index := 3456#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5349 : Index := Scalar.indexCast v56
  ![3456, v5349.toNat]
def k0_off326 (k0_t1 : Fin k0_t1_loop.trips) (c0_i32_1693 : BitVec 32) : Fin 2 → Nat :=
  let c108 : Index := 108#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5370 : BitVec 32 := Scalar.addi c0_i32_1693 v56
  let v5373 : Index := Scalar.indexCast v5370
  ![108, v5373.toNat]
def k0_off327 (k0_t1 : Fin k0_t1_loop.trips) (c0_i32_1693 : BitVec 32) : Fin 2 → Nat :=
  let c3456_1695 : Index := 3456#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5370 : BitVec 32 := Scalar.addi c0_i32_1693 v56
  let v5380 : Index := Scalar.indexCast v5370
  ![3456, v5380.toNat]
def k0_off328 (k0_t1 : Fin k0_t1_loop.trips) : Fin 2 → Nat :=
  let c3488 : Index := 3488#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5398 : Index := Scalar.indexCast v56
  ![3488, v5398.toNat]
def k0_off329 (k0_t1 : Fin k0_t1_loop.trips) (c0_i32_1708 : BitVec 32) : Fin 2 → Nat :=
  let c109 : Index := 109#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5419 : BitVec 32 := Scalar.addi c0_i32_1708 v56
  let v5422 : Index := Scalar.indexCast v5419
  ![109, v5422.toNat]
def k0_off330 (k0_t1 : Fin k0_t1_loop.trips) (c0_i32_1708 : BitVec 32) : Fin 2 → Nat :=
  let c3488_1710 : Index := 3488#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5419 : BitVec 32 := Scalar.addi c0_i32_1708 v56
  let v5429 : Index := Scalar.indexCast v5419
  ![3488, v5429.toNat]
def k0_off331 (k0_t1 : Fin k0_t1_loop.trips) : Fin 2 → Nat :=
  let c3520 : Index := 3520#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5447 : Index := Scalar.indexCast v56
  ![3520, v5447.toNat]
def k0_off332 (k0_t1 : Fin k0_t1_loop.trips) (c0_i32_1723 : BitVec 32) : Fin 2 → Nat :=
  let c110 : Index := 110#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5468 : BitVec 32 := Scalar.addi c0_i32_1723 v56
  let v5471 : Index := Scalar.indexCast v5468
  ![110, v5471.toNat]
def k0_off333 (k0_t1 : Fin k0_t1_loop.trips) (c0_i32_1723 : BitVec 32) : Fin 2 → Nat :=
  let c3520_1725 : Index := 3520#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5468 : BitVec 32 := Scalar.addi c0_i32_1723 v56
  let v5478 : Index := Scalar.indexCast v5468
  ![3520, v5478.toNat]
def k0_off334 (k0_t1 : Fin k0_t1_loop.trips) : Fin 2 → Nat :=
  let c3552 : Index := 3552#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5496 : Index := Scalar.indexCast v56
  ![3552, v5496.toNat]
def k0_off335 (k0_t1 : Fin k0_t1_loop.trips) (c0_i32_1738 : BitVec 32) : Fin 2 → Nat :=
  let c111 : Index := 111#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5517 : BitVec 32 := Scalar.addi c0_i32_1738 v56
  let v5520 : Index := Scalar.indexCast v5517
  ![111, v5520.toNat]
def k0_off336 (k0_t1 : Fin k0_t1_loop.trips) (c0_i32_1738 : BitVec 32) : Fin 2 → Nat :=
  let c3552_1740 : Index := 3552#32
  let c0_i32_59 : BitVec 32 := 0#32
  let c0_i32_54 : BitVec 32 := 0#32
  let c1_i32_56 : BitVec 32 := 1#32
  let arg10 : BitVec 32 := Scf.iv c0_i32_54 c1_i32_56 k0_t1
  let c1_i32_58 : BitVec 32 := 1#32
  let v53 : BitVec 32 := Scalar.muli arg10 c1_i32_58
  let v54 : BitVec 32 := Scalar.addi c0_i32_59 v53
  let c256_i32 : BitVec 32 := 256#32
  let v55 : BitVec 32 := Scalar.muli v54 c256_i32
  let v56 : BitVec 32 := v55
  let v5517 : BitVec 32 := Scalar.addi c0_i32_1738 v56
  let v5527 : Index := Scalar.indexCast v5517
  ![3552, v5527.toNat]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult2 (k0_t2 : Fin k0_t2_loop.trips) : BitVec 32 :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  v46
def k0_off337 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v49 : Index := Scalar.indexCast v47
  let c0_52 : Index := 0#32
  ![v49.toNat, 0]
def k0_off338 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v52 : Index := Scalar.indexCast v47
  let c128 : Index := 128#32
  ![v52.toNat, 128]
def k0_off339 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v55 : Index := Scalar.indexCast v47
  let c256 : Index := 256#32
  ![v55.toNat, 256]
def k0_off340 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v58 : Index := Scalar.indexCast v47
  let c384 : Index := 384#32
  ![v58.toNat, 384]
def k0_off341 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v61 : Index := Scalar.indexCast v47
  let c512_53 : Index := 512#32
  ![v61.toNat, 512]
def k0_off342 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v64 : Index := Scalar.indexCast v47
  let c640 : Index := 640#32
  ![v64.toNat, 640]
def k0_off343 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v67 : Index := Scalar.indexCast v47
  let c768 : Index := 768#32
  ![v67.toNat, 768]
def k0_off344 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v70 : Index := Scalar.indexCast v47
  let c896 : Index := 896#32
  ![v70.toNat, 896]
def k0_off345 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v73 : Index := Scalar.indexCast v47
  let c1024_54 : Index := 1024#32
  ![v73.toNat, 1024]
def k0_off346 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v76 : Index := Scalar.indexCast v47
  let c1152 : Index := 1152#32
  ![v76.toNat, 1152]
def k0_off347 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v79 : Index := Scalar.indexCast v47
  let c1280 : Index := 1280#32
  ![v79.toNat, 1280]
def k0_off348 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v82 : Index := Scalar.indexCast v47
  let c1408 : Index := 1408#32
  ![v82.toNat, 1408]
def k0_off349 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v85 : Index := Scalar.indexCast v47
  let c1536_55 : Index := 1536#32
  ![v85.toNat, 1536]
def k0_off350 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v88 : Index := Scalar.indexCast v47
  let c1664 : Index := 1664#32
  ![v88.toNat, 1664]
def k0_off351 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v91 : Index := Scalar.indexCast v47
  let c1792 : Index := 1792#32
  ![v91.toNat, 1792]
def k0_off352 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v94 : Index := Scalar.indexCast v47
  let c1920 : Index := 1920#32
  ![v94.toNat, 1920]
def k0_off353 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v97 : Index := Scalar.indexCast v47
  let c2048_56 : Index := 2048#32
  ![v97.toNat, 2048]
def k0_off354 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v100 : Index := Scalar.indexCast v47
  let c2176 : Index := 2176#32
  ![v100.toNat, 2176]
def k0_off355 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v103 : Index := Scalar.indexCast v47
  let c2304 : Index := 2304#32
  ![v103.toNat, 2304]
def k0_off356 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v106 : Index := Scalar.indexCast v47
  let c2432 : Index := 2432#32
  ![v106.toNat, 2432]
def k0_off357 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v109 : Index := Scalar.indexCast v47
  let c2560_57 : Index := 2560#32
  ![v109.toNat, 2560]
def k0_off358 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v112 : Index := Scalar.indexCast v47
  let c2688 : Index := 2688#32
  ![v112.toNat, 2688]
def k0_off359 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v115 : Index := Scalar.indexCast v47
  let c2816 : Index := 2816#32
  ![v115.toNat, 2816]
def k0_off360 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v118 : Index := Scalar.indexCast v47
  let c2944 : Index := 2944#32
  ![v118.toNat, 2944]
def k0_off361 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v121 : Index := Scalar.indexCast v47
  let c3072_58 : Index := 3072#32
  ![v121.toNat, 3072]
def k0_off362 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v124 : Index := Scalar.indexCast v47
  let c3200 : Index := 3200#32
  ![v124.toNat, 3200]
def k0_off363 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v127 : Index := Scalar.indexCast v47
  let c3328 : Index := 3328#32
  ![v127.toNat, 3328]
def k0_off364 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v130 : Index := Scalar.indexCast v47
  let c3456 : Index := 3456#32
  ![v130.toNat, 3456]
def k0_off365 (k0_t2 : Fin k0_t2_loop.trips) : Fin 2 → Nat :=
  let c0_i32_51 : BitVec 32 := 0#32
  let c0_i32_1 : BitVec 32 := 0#32
  let c1_i32 : BitVec 32 := 1#32
  let arg10 : BitVec 32 := Scf.iv c0_i32_1 c1_i32 k0_t2
  let c1_i32_50 : BitVec 32 := 1#32
  let v44 : BitVec 32 := Scalar.muli arg10 c1_i32_50
  let v45 : BitVec 32 := Scalar.addi c0_i32_51 v44
  let c32_i32 : BitVec 32 := 32#32
  let v46 : BitVec 32 := Scalar.muli v45 c32_i32
  let v47 : BitVec 32 := v46
  let v664 : Index := Scalar.indexCast v47
  let c0_182 : Index := 0#32
  ![v664.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x112 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x2048x3584 : Shape := ⟨3, ![4, 2048, 3584]⟩
abbrev S3584x2048 : Shape := ⟨2, ![3584, 2048]⟩
abbrev S112x4096 : Shape := ⟨2, ![112, 4096]⟩
abbrev S8192x112x32 : Shape := ⟨3, ![8192, 112, 32]⟩
abbrev S_ : Shape := ⟨0, ![]⟩
abbrev S8192x112 : Shape := ⟨2, ![8192, 112]⟩
abbrev S254 : Shape := ⟨1, ![254]⟩
abbrev S8192x112x1 : Shape := ⟨3, ![8192, 112, 1]⟩
abbrev S1x1x254 : Shape := ⟨3, ![1, 1, 254]⟩
abbrev S8192x112x254 : Shape := ⟨3, ![8192, 112, 254]⟩
abbrev S8192x3584 : Shape := ⟨2, ![8192, 3584]⟩
abbrev S3584x4096 : Shape := ⟨2, ![3584, 4096]⟩
abbrev S112x32x4096 : Shape := ⟨3, ![112, 32, 4096]⟩
abbrev S112x1x4096 : Shape := ⟨3, ![112, 1, 4096]⟩
abbrev S8192x4096 : Shape := ⟨2, ![8192, 4096]⟩

abbrev nBuf : Space → Nat
  | .hbm => 147
  | .vmem => 5
  | .smem => 0
  | _ => 0

abbrev hbmTy0_0 (i : Nat) : BufTy := match i % 128 with
  | 0 => ⟨S4x2048x3584, .bf16⟩
  | 1 => ⟨S3584x2048, .i8⟩
  | 2 => ⟨S112x4096, .i8⟩
  | 3 => ⟨S4x2048x3584, .f32⟩
  | 4 => ⟨S8192x112x32, .f32⟩
  | 5 => ⟨S8192x112x32, .f32⟩
  | 6 => ⟨S_, .f32⟩
  | 7 => ⟨S8192x112, .f32⟩
  | 8 => ⟨S_, .f32⟩
  | 9 => ⟨S8192x112, .f32⟩
  | 10 => ⟨S8192x112, .f32⟩
  | 11 => ⟨S254, .i32⟩
  | 12 => ⟨S_, .i32⟩
  | 13 => ⟨S254, .i32⟩
  | 14 => ⟨S254, .i32⟩
  | 15 => ⟨S254, .f32⟩
  | 16 => ⟨S_, .f32⟩
  | 17 => ⟨S254, .f32⟩
  | 18 => ⟨S254, .f32⟩
  | 19 => ⟨S8192x112x1, .f32⟩
  | 20 => ⟨S1x1x254, .f32⟩
  | 21 => ⟨S8192x112x254, .f32⟩
  | 22 => ⟨S8192x112x254, .f32⟩
  | 23 => ⟨S8192x112x254, .i1⟩
  | 24 => ⟨S_, .f32⟩
  | 25 => ⟨S_, .f32⟩
  | 26 => ⟨S8192x112x254, .f32⟩
  | 27 => ⟨S8192x112x254, .f32⟩
  | 28 => ⟨S8192x112x254, .f32⟩
  | 29 => ⟨S_, .f32⟩
  | 30 => ⟨S8192x112, .f32⟩
  | 31 => ⟨S_, .f32⟩
  | 32 => ⟨S8192x112, .f32⟩
  | 33 => ⟨S8192x112, .i1⟩
  | 34 => ⟨S_, .f32⟩
  | 35 => ⟨S8192x112, .f32⟩
  | 36 => ⟨S8192x112, .f32⟩
  | 37 => ⟨S_, .f32⟩
  | 38 => ⟨S_, .f32⟩
  | 39 => ⟨S8192x112, .f32⟩
  | 40 => ⟨S8192x112, .f32⟩
  | 41 => ⟨S_, .f32⟩
  | 42 => ⟨S8192x112, .f32⟩
  | 43 => ⟨S8192x112, .f32⟩
  | 44 => ⟨S8192x112x1, .f32⟩
  | 45 => ⟨S8192x112x32, .f32⟩
  | 46 => ⟨S8192x112x32, .f32⟩
  | 47 => ⟨S_, .f32⟩
  | 48 => ⟨S_, .f32⟩
  | 49 => ⟨S_, .f32⟩
  | 50 => ⟨S8192x112x32, .f32⟩
  | 51 => ⟨S8192x112x32, .f32⟩
  | 52 => ⟨S_, .f32⟩
  | 53 => ⟨S8192x112x32, .f32⟩
  | 54 => ⟨S8192x112x32, .f32⟩
  | 55 => ⟨S8192x3584, .f32⟩
  | 56 => ⟨S8192x112, .bf16⟩
  | 57 => ⟨S8192x112x1, .bf16⟩
  | 58 => ⟨S8192x112x32, .bf16⟩
  | 59 => ⟨S8192x3584, .bf16⟩
  | 60 => ⟨S3584x2048, .i32⟩
  | 61 => ⟨S_, .i32⟩
  | 62 => ⟨S3584x2048, .i32⟩
  | 63 => ⟨S3584x2048, .i32⟩
  | 64 => ⟨S_, .i32⟩
  | 65 => ⟨S3584x2048, .i32⟩
  | 66 => ⟨S3584x2048, .i32⟩
  | 67 => ⟨S3584x4096, .i32⟩
  | 68 => ⟨S112x4096, .i32⟩
  | 69 => ⟨S112x4096, .f32⟩
  | 70 => ⟨S_, .f32⟩
  | 71 => ⟨S112x4096, .f32⟩
  | 72 => ⟨S112x4096, .f32⟩
  | 73 => ⟨S_, .f32⟩
  | 74 => ⟨S112x4096, .f32⟩
  | 75 => ⟨S112x4096, .f32⟩
  | 76 => ⟨S_, .i32⟩
  | 77 => ⟨S112x4096, .i32⟩
  | 78 => ⟨S112x4096, .i1⟩
  | 79 => ⟨S_, .i32⟩
  | 80 => ⟨S112x4096, .i32⟩
  | 81 => ⟨S112x4096, .i1⟩
  | 82 => ⟨S_, .f32⟩
  | 83 => ⟨S_, .f32⟩
  | 84 => ⟨S112x4096, .f32⟩
  | 85 => ⟨S112x4096, .f32⟩
  | 86 => ⟨S_, .f32⟩
  | 87 => ⟨S_, .f32⟩
  | 88 => ⟨S112x4096, .f32⟩
  | 89 => ⟨S112x4096, .f32⟩
  | 90 => ⟨S112x4096, .bf16⟩
  | 91 => ⟨S_, .i32⟩
  | 92 => ⟨S3584x4096, .i32⟩
  | 93 => ⟨S3584x4096, .i32⟩
  | 94 => ⟨S_, .i32⟩
  | 95 => ⟨S3584x4096, .i32⟩
  | 96 => ⟨S3584x4096, .i1⟩
  | 97 => ⟨S_, .i32⟩
  | 98 => ⟨S3584x4096, .i32⟩
  | 99 => ⟨S3584x4096, .i32⟩
  | 100 => ⟨S_, .i32⟩
  | 101 => ⟨S3584x4096, .i32⟩
  | 102 => ⟨S3584x4096, .i1⟩
  | 103 => ⟨S_, .i32⟩
  | 104 => ⟨S3584x4096, .i32⟩
  | 105 => ⟨S3584x4096, .i32⟩
  | 106 => ⟨S_, .i32⟩
  | 107 => ⟨S3584x4096, .i32⟩
  | 108 => ⟨S3584x4096, .i1⟩
  | 109 => ⟨S_, .i32⟩
  | 110 => ⟨S3584x4096, .i32⟩
  | 111 => ⟨S3584x4096, .i32⟩
  | 112 => ⟨S_, .i32⟩
  | 113 => ⟨S3584x4096, .i32⟩
  | 114 => ⟨S3584x4096, .i1⟩
  | 115 => ⟨S_, .bf16⟩
  | 116 => ⟨S_, .bf16⟩
  | 117 => ⟨S3584x4096, .bf16⟩
  | 118 => ⟨S3584x4096, .bf16⟩
  | 119 => ⟨S3584x4096, .bf16⟩
  | 120 => ⟨S_, .bf16⟩
  | 121 => ⟨S_, .bf16⟩
  | 122 => ⟨S3584x4096, .bf16⟩
  | 123 => ⟨S3584x4096, .bf16⟩
  | 124 => ⟨S3584x4096, .bf16⟩
  | 125 => ⟨S_, .bf16⟩
  | 126 => ⟨S_, .bf16⟩
  | 127 => ⟨S3584x4096, .bf16⟩
  | _ => ⟨S4x2048x3584, .bf16⟩

abbrev hbmTy0_1 (i : Nat) : BufTy := match i % 128 with
  | 0 => ⟨S3584x4096, .bf16⟩
  | 1 => ⟨S3584x4096, .bf16⟩
  | 2 => ⟨S_, .bf16⟩
  | 3 => ⟨S_, .bf16⟩
  | 4 => ⟨S3584x4096, .bf16⟩
  | 5 => ⟨S3584x4096, .bf16⟩
  | 6 => ⟨S3584x4096, .bf16⟩
  | 7 => ⟨S3584x4096, .bf16⟩
  | 8 => ⟨S3584x4096, .bf16⟩
  | 9 => ⟨S3584x4096, .bf16⟩
  | 10 => ⟨S3584x4096, .bf16⟩
  | 11 => ⟨S3584x4096, .bf16⟩
  | 12 => ⟨S112x32x4096, .bf16⟩
  | 13 => ⟨S112x1x4096, .bf16⟩
  | 14 => ⟨S112x32x4096, .bf16⟩
  | 15 => ⟨S112x32x4096, .bf16⟩
  | 16 => ⟨S3584x4096, .bf16⟩
  | 17 => ⟨S8192x4096, .bf16⟩
  | 18 => ⟨S8192x3584, .fp8e4m3⟩
  | _ => ⟨S4x2048x3584, .bf16⟩

abbrev hbmTy (i : Nat) : BufTy := match i / 128 with
  | 0 => hbmTy0_0 i
  | 1 => hbmTy0_1 i
  | _ => ⟨S4x2048x3584, .bf16⟩

abbrev bufTy : (tb : Table) → Fin (tcTables nBuf tb) → BufTy
  | .hbm, ⟨i, _⟩ => hbmTy i
  | .local _ .vmem, ⟨0, _⟩ => ⟨S8192x3584, .f32⟩
  | .local _ .vmem, ⟨1, _⟩ => ⟨S8192x3584, .bf16⟩
  | .local _ .vmem, ⟨2, _⟩ => ⟨S3584x4096, .bf16⟩
  | .local _ .vmem, ⟨3, _⟩ => ⟨S8192x4096, .bf16⟩
  | .local _ .vmem, ⟨4, _⟩ => ⟨S8192x3584, .fp8e4m3⟩
  | _, _ => ⟨S4x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_cst_9 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_c_14 : Ref sig .tc := ⟨.hbm, 76, rfl⟩
abbrev main_v47 : Ref sig .tc := ⟨.hbm, 77, rfl⟩
abbrev main_v48 : Ref sig .tc := ⟨.hbm, 78, rfl⟩
abbrev main_c_15 : Ref sig .tc := ⟨.hbm, 79, rfl⟩
abbrev main_v49 : Ref sig .tc := ⟨.hbm, 80, rfl⟩
abbrev main_v50 : Ref sig .tc := ⟨.hbm, 81, rfl⟩
abbrev main_cst_16 : Ref sig .tc := ⟨.hbm, 82, rfl⟩
abbrev main_call3_v0 : Ref sig .tc := ⟨.hbm, 83, rfl⟩
abbrev main_call3_v1 : Ref sig .tc := ⟨.hbm, 84, rfl⟩
abbrev main_v51 : Ref sig .tc := ⟨.hbm, 85, rfl⟩
abbrev main_cst_17 : Ref sig .tc := ⟨.hbm, 86, rfl⟩
abbrev main_call4_v0 : Ref sig .tc := ⟨.hbm, 87, rfl⟩
abbrev main_call4_v1 : Ref sig .tc := ⟨.hbm, 88, rfl⟩
abbrev main_v52 : Ref sig .tc := ⟨.hbm, 89, rfl⟩
abbrev main_v53 : Ref sig .tc := ⟨.hbm, 90, rfl⟩
abbrev main_c_18 : Ref sig .tc := ⟨.hbm, 91, rfl⟩
abbrev main_v54 : Ref sig .tc := ⟨.hbm, 92, rfl⟩
abbrev main_v55 : Ref sig .tc := ⟨.hbm, 93, rfl⟩
abbrev main_c_19 : Ref sig .tc := ⟨.hbm, 94, rfl⟩
abbrev main_v56 : Ref sig .tc := ⟨.hbm, 95, rfl⟩
abbrev main_v57 : Ref sig .tc := ⟨.hbm, 96, rfl⟩
abbrev main_c_20 : Ref sig .tc := ⟨.hbm, 97, rfl⟩
abbrev main_v58 : Ref sig .tc := ⟨.hbm, 98, rfl⟩
abbrev main_v59 : Ref sig .tc := ⟨.hbm, 99, rfl⟩
abbrev main_c_21 : Ref sig .tc := ⟨.hbm, 100, rfl⟩
abbrev main_v60 : Ref sig .tc := ⟨.hbm, 101, rfl⟩
abbrev main_v61 : Ref sig .tc := ⟨.hbm, 102, rfl⟩
abbrev main_c_22 : Ref sig .tc := ⟨.hbm, 103, rfl⟩
abbrev main_v62 : Ref sig .tc := ⟨.hbm, 104, rfl⟩
abbrev main_v63 : Ref sig .tc := ⟨.hbm, 105, rfl⟩
abbrev main_c_23 : Ref sig .tc := ⟨.hbm, 106, rfl⟩
abbrev main_v64 : Ref sig .tc := ⟨.hbm, 107, rfl⟩
abbrev main_v65 : Ref sig .tc := ⟨.hbm, 108, rfl⟩
abbrev main_c_24 : Ref sig .tc := ⟨.hbm, 109, rfl⟩
abbrev main_v66 : Ref sig .tc := ⟨.hbm, 110, rfl⟩
abbrev main_v67 : Ref sig .tc := ⟨.hbm, 111, rfl⟩
abbrev main_c_25 : Ref sig .tc := ⟨.hbm, 112, rfl⟩
abbrev main_v68 : Ref sig .tc := ⟨.hbm, 113, rfl⟩
abbrev main_v69 : Ref sig .tc := ⟨.hbm, 114, rfl⟩
abbrev main_cst_26 : Ref sig .tc := ⟨.hbm, 115, rfl⟩
abbrev main_cst_27 : Ref sig .tc := ⟨.hbm, 116, rfl⟩
abbrev main_call5_v0 : Ref sig .tc := ⟨.hbm, 117, rfl⟩
abbrev main_call5_v1 : Ref sig .tc := ⟨.hbm, 118, rfl⟩
abbrev main_v70 : Ref sig .tc := ⟨.hbm, 119, rfl⟩
abbrev main_cst_28 : Ref sig .tc := ⟨.hbm, 120, rfl⟩
abbrev main_cst_29 : Ref sig .tc := ⟨.hbm, 121, rfl⟩
abbrev main_call6_v0 : Ref sig .tc := ⟨.hbm, 122, rfl⟩
abbrev main_call6_v1 : Ref sig .tc := ⟨.hbm, 123, rfl⟩
abbrev main_v71 : Ref sig .tc := ⟨.hbm, 124, rfl⟩
abbrev main_cst_30 : Ref sig .tc := ⟨.hbm, 125, rfl⟩
abbrev main_cst_31 : Ref sig .tc := ⟨.hbm, 126, rfl⟩
abbrev main_call7_v0 : Ref sig .tc := ⟨.hbm, 127, rfl⟩
abbrev main_call7_v1 : Ref sig .tc := ⟨.hbm, 128, rfl⟩
abbrev main_v72 : Ref sig .tc := ⟨.hbm, 129, rfl⟩
abbrev main_cst_32 : Ref sig .tc := ⟨.hbm, 130, rfl⟩
abbrev main_cst_33 : Ref sig .tc := ⟨.hbm, 131, rfl⟩
abbrev main_call8_v0 : Ref sig .tc := ⟨.hbm, 132, rfl⟩
abbrev main_call8_v1 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84_0 : Ref sig .tc := ⟨.hbm, 145, rfl⟩
abbrev main_v84_1 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Arith.lean ====
module
public import Idealize.ShloMosaic.PureOps
public import Idealize.ShloMosaic.Lib.IdealHost

/-!
The arithmetic of the two quantisers and of the two weight decoders, number by number, over the
extended reals: the kernel's ladder of comparisons against the reference's largest power of two, the
kernel's re-laid four-bit codes against the reference's bit tests, and the two readings of an eight-bit
exponent.
-/

@[expose] public section

noncomputable section

namespace Cert.Arith

open Idealize.ShloMosaic

/-- The power of two `2^e` as an extended real. -/
def two (e : ℤ) : EReal := (((2 : ℝ) ^ e : ℝ) : EReal)

theorem two_le_iff {a b : ℤ} : two a ≤ two b ↔ a ≤ b := by
  unfold two
  rw [EReal.coe_le_coe_iff]
  exact zpow_le_zpow_iff_right₀ (by norm_num)

theorem two_mul (a b : ℤ) : two a * two b = two (a + b) := by
  unfold two
  rw [← EReal.coe_mul, zpow_add₀ (by norm_num)]

theorem two_zero : two 0 = 1 := by simp [two]

theorem two_pos (a : ℤ) : 0 < two a := by
  unfold two
  have : (0 : ℝ) < (2 : ℝ) ^ a := by positivity
  exact_mod_cast this

/-- A positive normal pattern with an empty fraction is the power of two its exponent field says. -/
theorem ieee_two (e m : ℕ) {w : ℕ} (b : BitVec w) (x : ℕ) (hn : b.extractLsb' (e + m) 1 = 0#1)
    (hf : (b.extractLsb' 0 m).toNat = 0) (hx : (b.extractLsb' m e).toNat = x) (h0 : x ≠ 0) (h1 : x ≠ 2 ^ e - 1) :
    Ideal.ieee e m b = two ((x : ℤ) - (2 ^ (e - 1) - 1)) := by
  unfold Ideal.ieee
  simp only [hn, hf, hx]
  rw [if_neg h1, if_neg h0]
  have h : (0#1 == 1#1) = false := by decide
  rw [h]
  unfold two
  rw [Nat.add_zero, Nat.cast_pow, Nat.cast_ofNat, if_neg Bool.false_ne_true, one_mul, ← zpow_natCast,
    ← zpow_add₀ (two_ne_zero), add_sub_cancel]

/-- A single-precision pattern with an empty fraction and exponent field `e` is `2^(e - 127)`. -/
theorem ofBits_two (b : BitVec 32) (e : ℕ) (hb : b.toNat = e * 8388608) (h0 : 0 < e) (h1 : e < 255) :
    Ideal.ofBits .f32 b = two ((e : ℤ) - 127) := by
  have hn : (BitVec.extractLsb' (8 + 23) 1 b) = 0#1 := by
    apply BitVec.eq_of_toNat_eq
    simp only [BitVec.extractLsb'_toNat, Nat.shiftRight_eq_div_pow, hb]
    norm_num
    omega
  have hx : (BitVec.extractLsb' 23 8 b).toNat = e := by
    simp only [BitVec.extractLsb'_toNat, Nat.shiftRight_eq_div_pow, hb]
    norm_num
    omega
  have hf : (BitVec.extractLsb' 0 23 b).toNat = 0 := by
    simp only [BitVec.extractLsb'_toNat, Nat.shiftRight_eq_div_pow, hb]
    norm_num
  exact (ieee_two 8 23 b e hn hf hx (by omega) (by norm_num; omega)).trans (by norm_num)

/-! ### The ladder -/

/-- One rung: multiply by `2^b` when the result does not pass `ρ`. -/
def rung (ρ p u : EReal) : EReal := if p * u ≤ ρ then p * u else p

/-- The kernel's ladder: the largest of the powers `2^-126 … 2^127` that is at most `ρ`, doubled; `1` below the
    smallest of them. -/
def ladder (ρ : EReal) : EReal :=
  if ρ < two (-126) then 1 else
    rung ρ (rung ρ (rung ρ (rung ρ (rung ρ (rung ρ (rung ρ (rung ρ (two (-126)) (two 126)) (two 64)) (two 32))
      (two 16)) (two 8)) (two 4)) (two 2)) (two 1) * two 1

/-- A number at least `2^-126` has a largest power of two at most it, among the exponents `-126 … 127`. -/
theorem exists_top (ρ : EReal) (h : two (-126) ≤ ρ) :
    ∃ K : ℤ, -126 ≤ K ∧ K ≤ 127 ∧ ∀ e : ℤ, -126 ≤ e → e ≤ 127 → (two e ≤ ρ ↔ e ≤ K) := by
  classical
  let S := (Finset.Icc (-126 : ℤ) 127).filter fun e => two e ≤ ρ
  have hS : S.Nonempty := ⟨-126, by simp [S, h]⟩
  have hm := S.max'_mem hS
  simp only [S, Finset.mem_filter, Finset.mem_Icc] at hm
  refine ⟨S.max' hS, hm.1.1, hm.1.2, fun e h1 h2 => ⟨fun he => S.le_max' e (by simp [S, h1, h2, he]), fun he => ?_⟩⟩
  exact (two_le_iff.2 he).trans hm.2

/-- A rung keeps the exponent at most `K` and within `s` of it. -/
theorem rung_step {ρ : EReal} {K : ℤ} (hK : ∀ e : ℤ, -126 ≤ e → e ≤ 127 → (two e ≤ ρ ↔ e ≤ K))
    {p : EReal} {b s s' : ℤ} (hb : 0 ≤ b) (hs' : 0 ≤ s') (hs : s = s' + b) (hs1 : b ≤ s' + 1)
    (h : ∃ e : ℤ, p = two e ∧ -126 ≤ e ∧ e + s ≤ 127 ∧ e ≤ K ∧ K ≤ e + s) :
    ∃ e : ℤ, rung ρ p (two b) = two e ∧ -126 ≤ e ∧ e + s' ≤ 127 ∧ e ≤ K ∧ K ≤ e + s' := by
  obtain ⟨e, rfl, h1, h4, h2, h3⟩ := h
  unfold rung
  rw [two_mul]
  have hc := hK (e + b) (by omega) (by omega)
  by_cases hk : e + b ≤ K
  · rw [if_pos (hc.2 hk)]
    exact ⟨e + b, rfl, by omega, by omega, by omega, by omega⟩
  · rw [if_neg (fun hh => hk (hc.1 hh))]
    exact ⟨e, rfl, h1, by omega, h2, by omega⟩

/-- The reference's power: the largest of `2^-126 … 2^127` at most `ρ` (nothing but zero below them), doubled, and `1`
    when there is none. -/
def below (ρ : EReal) : EReal :=
  Finset.univ.sup fun k : Fin 254 => if two ((k.val : ℤ) - 126) ≤ ρ then two ((k.val : ℤ) - 126) else 0

/-- The scale of a group whose largest magnitude over 448 is `ρ`. -/
def pow2 (ρ : EReal) : EReal := if below ρ = 0 then 1 else two 1 * below ρ

/-- Below the smallest power there is nothing. -/
theorem below_small {ρ : EReal} (h : ρ < two (-126)) : below ρ = 0 := by
  unfold below
  apply le_antisymm
  · apply Finset.sup_le
    intro k _
    rw [if_neg]
    intro hk
    have := two_le_iff.1 (hk.trans h.le)
    have h0 : ((k.val : ℤ) - 126) ≠ -126 := fun h' => absurd (h' ▸ hk) (not_le.2 h)
    omega
  · have := Finset.le_sup (f := fun k : Fin 254 => if two ((k.val : ℤ) - 126) ≤ ρ then two ((k.val : ℤ) - 126) else 0)
      (Finset.mem_univ (0 : Fin 254))
    refine le_trans ?_ this
    split_ifs
    · exact (two_pos _).le
    · exact le_rfl

/-- The largest power, when there is one. -/
theorem below_eq {ρ : EReal} {K : ℤ} (h1 : -126 ≤ K) (h2 : K ≤ 127)
    (hK : ∀ e : ℤ, -126 ≤ e → e ≤ 127 → (two e ≤ ρ ↔ e ≤ K)) : below ρ = two K := by
  unfold below
  apply le_antisymm
  · apply Finset.sup_le
    intro k _
    have hk := k.isLt
    split_ifs with h
    · exact two_le_iff.2 ((hK _ (by omega) (by omega)).1 h)
    · exact (two_pos _).le
  · have := Finset.le_sup (f := fun k : Fin 254 => if two ((k.val : ℤ) - 126) ≤ ρ then two ((k.val : ℤ) - 126) else 0)
      (Finset.mem_univ (⟨(K + 126).toNat, by omega⟩ : Fin 254))
    simp only at this
    rw [show (((K + 126).toNat : ℕ) : ℤ) - 126 = K by omega, if_pos ((hK K h1 h2).2 le_rfl)] at this
    exact this

/-- THE LADDER IS THE REFERENCE'S POWER, whatever the number. -/
theorem ladder_eq (ρ : EReal) : ladder ρ = pow2 ρ := by
  unfold ladder pow2
  by_cases h : ρ < two (-126)
  · rw [if_pos h, below_small h, if_pos rfl]
  · rw [if_neg h]
    obtain ⟨K, h1, h2, hK⟩ := exists_top ρ (not_lt.1 h)
    rw [below_eq h1 h2 hK, if_neg (two_pos K).ne']
    have s0 : ∃ e : ℤ, two (-126) = two e ∧ -126 ≤ e ∧ e + 253 ≤ 127 ∧ e ≤ K ∧ K ≤ e + 253 :=
      ⟨-126, rfl, by omega, by omega, h1, by omega⟩
    have s1 := rung_step hK (b := 126) (s' := 127) (by omega) (by omega) (by omega) (by omega) s0
    have s2 := rung_step hK (b := 64) (s' := 63) (by omega) (by omega) (by omega) (by omega) s1
    have s3 := rung_step hK (b := 32) (s' := 31) (by omega) (by omega) (by omega) (by omega) s2
    have s4 := rung_step hK (b := 16) (s' := 15) (by omega) (by omega) (by omega) (by omega) s3
    have s5 := rung_step hK (b := 8) (s' := 7) (by omega) (by omega) (by omega) (by omega) s4
    have s6 := rung_step hK (b := 4) (s' := 3) (by omega) (by omega) (by omega) (by omega) s5
    have s7 := rung_step hK (b := 2) (s' := 1) (by omega) (by omega) (by omega) (by omega) s6
    obtain ⟨e, he, -, -, h5, h6⟩ := rung_step hK (b := 1) (s' := 0) (by omega) (by omega) (by omega) (by omega) s7
    rw [he, show e = K by omega, mul_comm]

/-! ### The eight-bit exponent -/

/-- The reference's reading of an eight-bit exponent: `2^(e - 127)`, with `0` and infinity at the ends. -/
def e8m0 (e : ℕ) : EReal := if e = 0 then 0 else if e = 255 then ⊤ else two ((e : ℤ) - 127)

/-- The exponent shifted into a single-precision pattern is that number. -/
theorem ofBits_e8m0 (b : BitVec 8) : Ideal.ofBits .f32 (b.setWidth 32 <<< 23) = e8m0 b.toNat := by
  have hb := b.isLt
  have ht : (b.setWidth 32 <<< 23).toNat = b.toNat * 8388608 := by
    rw [BitVec.toNat_shiftLeft, BitVec.toNat_setWidth, Nat.shiftLeft_eq]
    norm_num
    omega
  unfold e8m0
  by_cases h0 : b.toNat = 0
  · rw [if_pos h0]
    have : b = 0#8 := BitVec.eq_of_toNat_eq h0
    subst this
    simp [Ideal.ofBits, Ideal.ieee]
  · rw [if_neg h0]
    by_cases h1 : b.toNat = 255
    · rw [if_pos h1]
      have : b = 255#8 := BitVec.eq_of_toNat_eq h1
      subst this
      simp [Ideal.ofBits, Ideal.ieee]
    · rw [if_neg h1]
      exact ofBits_two _ _ ht (by omega) (by omega)

/-! ### The four-bit codes -/

/-- The reference's reading of a four-bit code: bit 0 the fraction, bits 1 and 2 the exponent, bit 3 the sign. -/
def e2m1 (b0 b1 b2 b3 : Bool) : EReal :=
  let mag : ℝ := match b2, b1, b0 with
    | false, false, false => 0
    | false, false, true => 1 / 2
    | false, true, false => 1
    | false, true, true => 3 / 2
    | true, false, false => 2
    | true, false, true => 3
    | true, true, false => 4
    | true, true, true => 6
  (((if b3 then -mag else mag) : ℝ) : EReal)

theorem ofBits_64 : Ideal.ofBits .bf16 0x4280#16 = ((64 : ℝ) : EReal) := by
  refine (ieee_two 8 7 0x4280#16 133 (by decide) (by decide) (by decide) (by decide) (by decide)).trans ?_
  unfold two
  norm_num

/-- The pattern the kernel lays a code into: sign on top, two zero exponent bits, exponent and fraction, two zero bits. -/
theorem e4m3_code (b : BitVec 8) (b0 b1 b2 b3 : Bool)
    (h : b = BitVec.ofNat 8 (b0.toNat * 4 + b1.toNat * 8 + b2.toNat * 16 + b3.toNat * 128)) :
    Ideal.ofBits .fp8e4m3 b * Ideal.ofBits .bf16 0x4280#16 = e2m1 b0 b1 b2 b3 := by
  subst h
  rw [ofBits_64]
  cases b0 <;> cases b1 <;> cases b2 <;> cases b3 <;>
    simp [Ideal.ofBits, Ideal.e4m3fn, e2m1, ← EReal.coe_mul, -EReal.coe_neg] <;> norm_num

end Cert.Arith
-- ==== Proof.Butterfly.lean ====
module
public import Mathlib.Data.EReal.Basic
public import Mathlib.Data.Fintype.Basic
public import Mathlib.Data.Finset.Lattice.Fold
public import Mathlib.Tactic.FinCases

/-!
The butterfly that takes the maximum of every group of 32 lanes of up to 32 rows at once, as a statement
about functions of a lane: what one exchange does, and what five of them leave.
-/

@[expose] public section

noncomputable section

namespace Cert.Butterfly

/-- Lane `l` with the bits of `d` flipped. -/
def xr (l : Fin 128) (d : Fin 32) : Fin 128 :=
  ⟨l.val ^^^ d.val, Nat.xor_lt_two_pow (n := 7) l.isLt (lt_trans d.isLt (by decide))⟩

theorem xr_xr (l : Fin 128) (a b : Fin 32) : xr (xr l a) b = xr l (a ^^^ b) := by
  apply Fin.ext
  show (l.val ^^^ a.val) ^^^ b.val = l.val ^^^ (a ^^^ b).val
  have h : (a ^^^ b).val = a.val ^^^ b.val := by
    show (a.val ^^^ b.val) % 32 = _
    exact Nat.mod_eq_of_lt (Nat.xor_lt_two_pow (n := 5) a.isLt b.isLt)
  rw [h, Nat.xor_assoc]

/-- Whether lane `l` has bit `d` clear. -/
def low (d : ℕ) (l : Fin 128) : Bool := l.val &&& d == 0

/-- One exchange: a lane with bit `d` clear takes `a`, another takes `b`, each the maximum over the lane and its partner. -/
def merge (d : Fin 32) (a b : Fin 128 → EReal) (l : Fin 128) : EReal :=
  max (if low d.val l then a l else b l) (if low d.val (xr l d) then b (xr l d) else a (xr l d))

/-- The exchange of a row with no partner. -/
def solo (d : Fin 32) (a : Fin 128 → EReal) (l : Fin 128) : EReal := max (a l) (a (xr l d))

theorem solo_eq (d : Fin 32) (a : Fin 128 → EReal) : solo d a = merge d a a := by
  funext l; simp [solo, merge]

/-- The five rounds over 28 rows. -/
def tree (A : ℕ → Fin 128 → EReal) : Fin 128 → EReal :=
  let w (i : ℕ) := merge 16 (A (2 * i)) (A (2 * i + 1))
  let x (i : ℕ) := merge 8 (w (2 * i)) (w (2 * i + 1))
  merge 1 (merge 2 (merge 4 (x 0) (x 1)) (merge 4 (x 2) (x 3))) (merge 2 (merge 4 (x 4) (x 5)) (solo 4 (x 6)))

/-- The row whose groups lane `l` ends up holding. -/
def row (l : Fin 128) : ℕ :=
  let b (d : ℕ) := if low d l then 0 else 1
  let t := b 16 + 2 * b 8 + 4 * b 4 + 8 * b 2 + 16 * b 1
  if t < 28 then t else t - 4

theorem merge_le_iff (d : Fin 32) (hd : ∀ l, low d.val (xr l d) = !low d.val l) (a b : Fin 128 → EReal) (l : Fin 128) (B : EReal) :
    merge d a b l ≤ B ↔ (if low d.val l then a l else b l) ≤ B ∧ (if low d.val l then a (xr l d) else b (xr l d)) ≤ B := by
  unfold merge
  rw [hd, max_le_iff]
  cases low d.val l <;> simp

theorem low16 : ∀ l, low 16 (xr l 16) = !low 16 l := by decide +kernel
theorem low8 : ∀ l, low 8 (xr l 8) = !low 8 l := by decide +kernel
theorem low4 : ∀ l, low 4 (xr l 4) = !low 4 l := by decide +kernel
theorem low2 : ∀ l, low 2 (xr l 2) = !low 2 l := by decide +kernel
theorem low1 : ∀ l, low 1 (xr l 1) = !low 1 l := by decide +kernel

/-! A lane's bit is not changed by flipping the others. -/
theorem low16_8 : ∀ l, low 16 (xr l 8) = low 16 l := by decide +kernel
theorem low16_4 : ∀ l, low 16 (xr l 4) = low 16 l := by decide +kernel
theorem low16_2 : ∀ l, low 16 (xr l 2) = low 16 l := by decide +kernel
theorem low16_1 : ∀ l, low 16 (xr l 1) = low 16 l := by decide +kernel
theorem low8_4 : ∀ l, low 8 (xr l 4) = low 8 l := by decide +kernel
theorem low8_2 : ∀ l, low 8 (xr l 2) = low 8 l := by decide +kernel
theorem low8_1 : ∀ l, low 8 (xr l 1) = low 8 l := by decide +kernel
theorem low4_2 : ∀ l, low 4 (xr l 2) = low 4 l := by decide +kernel
theorem low4_1 : ∀ l, low 4 (xr l 1) = low 4 l := by decide +kernel
theorem low2_1 : ∀ l, low 2 (xr l 1) = low 2 l := by decide +kernel

theorem pick (c : Bool) (a b : Fin 128 → EReal) (l : Fin 128) : (if c then a l else b l) = (if c then a else b) l := by
  cases c <;> rfl

/-- One exchange, as the two values the lane's row holds. -/
theorem merge_eq (d : Fin 32) (hd : ∀ l, low d.val (xr l d) = !low d.val l) (a b : Fin 128 → EReal) (l : Fin 128) :
    merge d a b l = solo d (if low d.val l then a else b) l := by
  unfold merge solo
  rw [hd]
  cases low d.val l <;> simp

theorem v16 : ((16 : Fin 32) : ℕ) = 16 := rfl
theorem v8 : ((8 : Fin 32) : ℕ) = 8 := rfl
theorem v4 : ((4 : Fin 32) : ℕ) = 4 := rfl
theorem v2 : ((2 : Fin 32) : ℕ) = 2 := rfl
theorem v1 : ((1 : Fin 32) : ℕ) = 1 := rfl

/-- The lane's row through the rounds. -/
theorem tree_eq (A : ℕ → Fin 128 → EReal) (l : Fin 128) :
    tree A l = solo 1 (solo 2 (solo 4 (solo 8 (solo 16 (A (row l)))))) l := by
  unfold tree row
  rcases h16 : low 16 l with _ | _ <;> rcases h8 : low 8 l with _ | _ <;> rcases h4 : low 4 l with _ | _ <;>
    rcases h2 : low 2 l with _ | _ <;> rcases h1 : low 1 l with _ | _ <;>
    simp only [solo, merge_eq 16 low16, merge_eq 8 low8, merge_eq 4 low4, merge_eq 2 low2, merge_eq 1 low1, v16, v8, v4, v2, v1,
      low16_8, low16_4, low16_2, low16_1, low8_4, low8_2, low8_1, low4_2, low4_1, low2_1, h16, h8, h4, h2, h1, if_true, if_false, Bool.false_eq_true] <;> rfl

/-- Lane `j` of the group of 32 lanes that lane `l` lies in. -/
def grp (l : Fin 128) (j : Fin 32) : Fin 128 := ⟨32 * (l.val / 32) + j.val, by omega⟩

theorem xr_eq_grp : ∀ (l : Fin 128) (m : Fin 32), xr l m = grp l (m ^^^ ⟨l.val % 32, Nat.mod_lt _ (by decide)⟩) := by decide +kernel

theorem grp_eq_xr : ∀ (l : Fin 128) (m : Fin 32), grp l m = xr l (m ^^^ ⟨l.val % 32, Nat.mod_lt _ (by decide)⟩) := by decide +kernel

/-- Five exchanges of one row take the maximum over the group. -/
theorem solo5 (a : Fin 128 → EReal) (l : Fin 128) :
    solo 1 (solo 2 (solo 4 (solo 8 (solo 16 a)))) l = Finset.univ.sup fun j => a (grp l j) := by
  apply eq_of_forall_ge_iff
  intro B
  have key : solo 1 (solo 2 (solo 4 (solo 8 (solo 16 a)))) l ≤ B ↔ ∀ m : Fin 32, a (xr l m) ≤ B := by
    have e0 : xr l 0 = l := Fin.ext (Nat.xor_zero _)
    simp only [solo, max_le_iff, xr_xr]
    constructor
    · rintro ⟨⟨⟨⟨⟨h0, h16⟩, ⟨h8, h24⟩⟩, ⟨⟨h4, h20⟩, ⟨h12, h28⟩⟩⟩, ⟨⟨⟨h2, h18⟩, ⟨h10, h26⟩⟩, ⟨⟨h6, h22⟩, ⟨h14, h30⟩⟩⟩⟩, ⟨⟨⟨⟨h1, h17⟩, ⟨h9, h25⟩⟩, ⟨⟨h5, h21⟩, ⟨h13, h29⟩⟩⟩, ⟨⟨⟨h3, h19⟩, ⟨h11, h27⟩⟩, ⟨⟨h7, h23⟩, ⟨h15, h31⟩⟩⟩⟩⟩ m
      fin_cases m
      · first | exact h0 | exact e0.symm ▸ h0
      · first | exact h1 | exact e0.symm ▸ h1
      · first | exact h2 | exact e0.symm ▸ h2
      · first | exact h3 | exact e0.symm ▸ h3
      · first | exact h4 | exact e0.symm ▸ h4
      · first | exact h5 | exact e0.symm ▸ h5
      · first | exact h6 | exact e0.symm ▸ h6
      · first | exact h7 | exact e0.symm ▸ h7
      · first | exact h8 | exact e0.symm ▸ h8
      · first | exact h9 | exact e0.symm ▸ h9
      · first | exact h10 | exact e0.symm ▸ h10
      · first | exact h11 | exact e0.symm ▸ h11
      · first | exact h12 | exact e0.symm ▸ h12
      · first | exact h13 | exact e0.symm ▸ h13
      · first | exact h14 | exact e0.symm ▸ h14
      · first | exact h15 | exact e0.symm ▸ h15
      · first | exact h16 | exact e0.symm ▸ h16
      · first | exact h17 | exact e0.symm ▸ h17
      · first | exact h18 | exact e0.symm ▸ h18
      · first | exact h19 | exact e0.symm ▸ h19
      · first | exact h20 | exact e0.symm ▸ h20
      · first | exact h21 | exact e0.symm ▸ h21
      · first | exact h22 | exact e0.symm ▸ h22
      · first | exact h23 | exact e0.symm ▸ h23
      · first | exact h24 | exact e0.symm ▸ h24
      · first | exact h25 | exact e0.symm ▸ h25
      · first | exact h26 | exact e0.symm ▸ h26
      · first | exact h27 | exact e0.symm ▸ h27
      · first | exact h28 | exact e0.symm ▸ h28
      · first | exact h29 | exact e0.symm ▸ h29
      · first | exact h30 | exact e0.symm ▸ h30
      · first | exact h31 | exact e0.symm ▸ h31
    · intro h
      have h0 : a l ≤ B := e0 ▸ h 0
      exact ⟨⟨⟨⟨⟨h0, (h 16)⟩, ⟨(h 8), (h 24)⟩⟩, ⟨⟨(h 4), (h 20)⟩, ⟨(h 12), (h 28)⟩⟩⟩, ⟨⟨⟨(h 2), (h 18)⟩, ⟨(h 10), (h 26)⟩⟩, ⟨⟨(h 6), (h 22)⟩, ⟨(h 14), (h 30)⟩⟩⟩⟩, ⟨⟨⟨⟨(h 1), (h 17)⟩, ⟨(h 9), (h 25)⟩⟩, ⟨⟨(h 5), (h 21)⟩, ⟨(h 13), (h 29)⟩⟩⟩, ⟨⟨⟨(h 3), (h 19)⟩, ⟨(h 11), (h 27)⟩⟩, ⟨⟨(h 7), (h 23)⟩, ⟨(h 15), (h 31)⟩⟩⟩⟩⟩
  rw [key, Finset.sup_le_iff]
  constructor
  · intro h j _
    rw [grp_eq_xr]
    exact h _
  · intro h m
    rw [xr_eq_grp]
    exact h _ (Finset.mem_univ _)

/-- THE FIVE ROUNDS: lane `l` holds the maximum, over the group of lanes `l` lies in, of its row. -/
theorem tree_max (A : ℕ → Fin 128 → EReal) (l : Fin 128) :
    tree A l = Finset.univ.sup fun j => A (row l) (grp l j) := (tree_eq A l).trans (solo5 _ _)

end Cert.Butterfly
-- ==== Proof.Spec.lean ====
module
public import proofs.«01_k».proof.Proof.Arith
public import Idealize.ShloMosaic.Lib.ValueIdxCore

/-!
What the kernel and the reference both compute, element by element over the extended reals: the quantiser of a row
of activations and the decoded weight.
-/

@[expose] public noncomputable section

namespace Cert.Spec

open Idealize.ShloMosaic Cert.Arith

/-- The scale of one group of 32 elements: the power of two above its largest magnitude over 448. -/
def groupScale (v : Fin 32 → EReal) : EReal :=
  pow2 ((Finset.univ.sup fun j => max (v j) (-(v j))) * Ideal.ofBits .f32 0x3B124925#32)

/-- A number divided by its group's scale and clipped to what the eight-bit format holds. -/
def code (x s : EReal) : EReal :=
  min (Ideal.ofBits .f32 0x43E00000#32) (max (Ideal.ofBits .f32 0xC3E00000#32) (x * Ideal.div 1 s))

/-- The scale of group `g` of a row of activations. -/
def rowScale (v : Fin 3584 → EReal) (g : Fin 112) : EReal :=
  groupScale fun j => v ⟨32 * g.val + j.val, by have := g.isLt; omega⟩

/-- The group column `c` lies in. -/
def colGroup (c : Fin 3584) : Fin 112 := ⟨c.val / 32, by have := c.isLt; omega⟩

/-- The code at column `c` of a row of activations. -/
def rowCode (v : Fin 3584 → EReal) (c : Fin 3584) : EReal := code (v c) (rowScale v (colGroup c))

/-- The activation at column `c` of a row, quantised and scaled back. -/
def rowXq (v : Fin 3584 → EReal) (c : Fin 3584) : EReal := rowCode v c * rowScale v (colGroup c)

/-- The number in four bits of `b`, the lowest of them bit `o`. -/
def nibble (b : BitVec 8) (o : ℕ) : EReal := e2m1 (b.getLsbD o) (b.getLsbD (o + 1)) (b.getLsbD (o + 2)) (b.getLsbD (o + 3))

/-- The weight in row `r`, column `c`: the low halves of the packed bytes are the first 2048 columns. -/
def weight (p : Fin 3584 → Fin 2048 → BitVec 8) (s : Fin 112 → Fin 4096 → BitVec 8) (r : Fin 3584) (c : Fin 4096) : EReal :=
  nibble (p r ⟨c.val % 2048, Nat.mod_lt _ (by decide)⟩) (if c.val < 2048 then 0 else 4) * e8m0 (s (colGroup r) c).toNat

/-! ### The three results, from the three arguments -/

/-- Row `r` of the activations, the batch and the sequence laid out one after the other. -/
def actRow (x : (⟨3, ![4, 2048, 3584]⟩ : Shape).Idx → EReal) (r : Fin 8192) (d : Fin 3584) : EReal :=
  x (ValueIdx.ix3 (n0 := 4) (n1 := 2048) (n2 := 3584) ⟨r.val / 2048, by have := r.isLt; omega⟩ ⟨r.val % 2048, Nat.mod_lt _ (by decide)⟩ d)

/-- The codes of the activations. -/
def resCodes (x : (⟨3, ![4, 2048, 3584]⟩ : Shape).Idx → EReal) (i : (⟨2, ![8192, 3584]⟩ : Shape).Idx) : EReal :=
  rowCode (actRow x (i 0)) (i 1)

/-- The scales of the activations. -/
def resScale (x : (⟨3, ![4, 2048, 3584]⟩ : Shape).Idx → EReal) (i : (⟨2, ![8192, 112]⟩ : Shape).Idx) : EReal :=
  rowScale (actRow x (i 0)) (i 1)

/-- The product of the quantised activations and the decoded weights. -/
def resProduct (x : (⟨3, ![4, 2048, 3584]⟩ : Shape).Idx → EReal) (p : (⟨2, ![3584, 2048]⟩ : Shape).Idx → BitVec 8)
    (s : (⟨2, ![112, 4096]⟩ : Shape).Idx → BitVec 8) (i : (⟨2, ![8192, 4096]⟩ : Shape).Idx) : EReal :=
  ∑ d : Fin 3584, rowXq (actRow x (i 0)) d *
    weight (fun r c => p (ValueIdx.ix2 (n0 := 3584) (n1 := 2048) r c)) (fun r c => s (ValueIdx.ix2 (n0 := 112) (n1 := 4096) r c)) d (i 1)

end Cert.Spec
-- ==== Proof.Ops.lean ====
module
public import proofs.«01_k».proof.Proof.Gen.KernelIdeal
public import proofs.«01_k».proof.Proof.Arith
public import proofs.«01_k».proof.Proof.Butterfly
public import proofs.«01_k».proof.Proof.Spec
public import Idealize.ShloMosaic.Lib.ValueIdxCore
import Idealize.ShloMosaic.Lib.Pointwise.Reshape

/-!
The quantiser of one block of 32 rows, written once: the same operations the printed kernel applies to its 28
tiles, as functions of the tiles, and what each is at one element over the extended reals.
-/

@[expose] public section

noncomputable section

namespace Cert.KernelIdeal.Quant

open Cert.KernelIdeal Cert.KernelIdeal.Gen Idealize.ShloMosaic Idealize.ShloMosaic.ValueIdx Idealize.SL.Sem Cert.Arith Cert.Butterfly Cert.Spec

section
variable {F : FTy → Type} [FloatOps F]

/-- The lane numbers. -/
def lane : IVec S32x128 32 := iota .tc S32x128 32 [1] iota_S32x128_d1_w32

/-- A gather along the lanes, its negative indices counted from the end. -/
def gath (x : FVec F S32x128 .f32) (i : IVec S32x128 32) : FVec F S32x128 .f32 :=
  dynamicGather 1 x (shapeCast S32x128 (shapeCast S32x128x1
    (select (cmpi .slt i (broadcast S32x128 0#32)) (addi i (broadcast S32x128 128#32)) i)
    shapeCasts_S32x128_S32x128x1) shapeCasts_S32x128x1_S32x128)

/-- Whether bit `d` of the lane number is clear. -/
def lowV (d : BitVec 32) : IVec S32x128 1 := cmpi .eq (andi lane (broadcast S32x128 d)) (broadcast S32x128 0#32)

/-- One exchange of two rows. -/
def mergeV (d : BitVec 32) (a b : FVec F S32x128 .f32) : FVec F S32x128 .f32 :=
  maximumf (select (lowV d) a b) (gath (select (lowV d) b a) (xori lane (broadcast S32x128 d)))

/-- One exchange of a row with itself. -/
def soloV (d : BitVec 32) (a : FVec F S32x128 .f32) : FVec F S32x128 .f32 :=
  maximumf a (gath a (xori lane (broadcast S32x128 d)))

/-- The magnitudes of a tile. -/
def magV (x : FVec F S32x128 .bf16) : FVec F S32x128 .f32 := absf (extf .f32 x bitsLt_bf16_f32)

/-- The five rounds over the 28 tiles. -/
def treeV (A : ℕ → FVec F S32x128 .f32) : FVec F S32x128 .f32 :=
  let w (i : ℕ) := mergeV 16#32 (A (2 * i)) (A (2 * i + 1))
  let x (i : ℕ) := mergeV 8#32 (w (2 * i)) (w (2 * i + 1))
  mergeV 1#32 (mergeV 2#32 (mergeV 4#32 (x 0) (x 1)) (mergeV 4#32 (x 2) (x 3)))
    (mergeV 2#32 (mergeV 4#32 (x 4) (x 5)) (soloV 4#32 (x 6)))

/-- One rung of the ladder. -/
def rungV (r p : FVec F S32x128 .f32) (u : BitVec 32) : FVec F S32x128 .f32 :=
  select (cmpf .oge r (mulf p (broadcast S32x128 (Scalar.ofBits .f32 u : F .f32)))) (mulf p (broadcast S32x128 (Scalar.ofBits .f32 u : F .f32))) p

/-- The scales, one lane a group. -/
def ladderV (r : FVec F S32x128 .f32) : FVec F S32x128 .f32 :=
  select (cmpf .olt r (broadcast S32x128 (Scalar.ofBits .f32 0x00800000#32 : F .f32)))
    (broadcast S32x128 (Scalar.ofBits .f32 0x3F800000#32 : F .f32))
    (mulf (rungV r (rungV r (rungV r (rungV r (rungV r (rungV r (rungV r (rungV r
        (broadcast S32x128 (Scalar.ofBits .f32 0x00800000#32 : F .f32)) 0x7E800000#32) 0x5F800000#32) 0x4F800000#32)
        0x47800000#32) 0x43800000#32) 0x41800000#32) 0x40800000#32) 0x40000000#32)
      (broadcast S32x128 (Scalar.ofBits .f32 0x40000000#32 : F .f32)))

/-- The packed scales of the 28 tiles. -/
def packedV (X : ℕ → FVec F S32x128 .bf16) : FVec F S32x128 .f32 :=
  ladderV (mulf (treeV fun t => magV (X t)) (broadcast S32x128 (Scalar.ofBits .f32 0x3B124925#32 : F .f32)))

/-- One tile's scales, a lane's own group's on every lane. -/
def tileScaleV (p : FVec F S32x128 .f32) (c : BitVec 32) : FVec F S32x128 .f32 :=
  gath p (addi (andi lane (broadcast S32x128 4294967264#32)) (broadcast S32x128 c))

/-- One tile's codes. -/
def codesV (x : FVec F S32x128 .bf16) (s : FVec F S32x128 .f32) : FVec F S32x128 .fp8e4m3 :=
  truncf .fp8e4m3 (minimumf (broadcast S32x128 (Scalar.truncf .bf16 bitsLt_bf16_f32 (Scalar.ofBits .f32 0x43E00000#32 : F .f32)))
    (maximumf (broadcast S32x128 (Scalar.truncf .bf16 bitsLt_bf16_f32 (Scalar.ofBits .f32 0xC3E00000#32 : F .f32)))
      (mulf x (truncf .bf16 (divf (broadcast S32x128 (Scalar.ofBits .f32 0x3F800000#32 : F .f32)) s) bitsLt_bf16_f32)))) bitsLt_fp8e4m3_bf16

/-- One tile of the quantised activations, scaled back. -/
def xqV (x : FVec F S32x128 .bf16) (s : FVec F S32x128 .f32) : FVec F S32x128 .bf16 :=
  shapeCast S32x128 (mulf (extf .bf16 (codesV x s) bitsLt_fp8e4m3_bf16) (truncf .bf16 s bitsLt_bf16_f32)) shapeCasts_S32x128_S32x128

/-- Five bits of `v` in reverse order, as the kernel assembles them. -/
def revV (v : IVec S32x128 32) : IVec S32x128 32 :=
  let b (s u : BitVec 32) := shli (andi (shrsi v (broadcast S32x128 s)) (broadcast S32x128 1#32)) (broadcast S32x128 u)
  ori (ori (ori (ori (ori (broadcast S32x128 0#32) (b 0#32 4#32)) (b 1#32 3#32)) (b 2#32 2#32)) (b 3#32 1#32)) (b 4#32 0#32)

/-- The scales in the order of their groups. -/
def scaleV (p : FVec F S32x128 .f32) : FVec F S32x112 .f32 :=
  extractStridedSlice S32x112 ![0, 0] (gath p (addi (muli (andi lane (broadcast S32x128 3#32)) (broadcast S32x128 32#32))
    (revV (shrsi lane (broadcast S32x128 2#32))))) slices_S32x128_o0_0_S32x112

end

/-! ### Element by element, over the extended reals -/

/-- Row `r`, lane `l` of a tile. -/
abbrev at2 (r : Fin 32) (l : Fin 128) : S32x128.Idx := ValueIdx.ix2 (n0 := 32) (n1 := 128) r l

theorem reshape_back (v : IVec S32x128 32) :
    shapeCast S32x128 (shapeCast S32x128x1 v shapeCasts_S32x128_S32x128x1) shapeCasts_S32x128x1_S32x128 = v := by
  funext j
  show v _ = v j
  congr 1
  unfold Shape.reshapeEquiv
  simp

theorem lane_apply (r : Fin 32) (l : Fin 128) : lane (at2 r l) = BitVec.ofNat 32 l.val := by
  show BitVec.ofNat 32 (0 * 128 + l.val) = _
  rw [Nat.zero_mul, Nat.zero_add]

theorem index_fix : ∀ m : Fin 128, Scalar.select (IntOp.cmpi .slt (BitVec.ofNat 32 m.val) 0#32)
    (IntOp.addi (BitVec.ofNat 32 m.val) 128#32) (BitVec.ofNat 32 m.val) = BitVec.ofNat 32 m.val := by decide +kernel

/-- A gather at one lane, where the index word names lane `m`. -/
theorem gath_apply (x : FVec Ideal S32x128 .f32) (i : IVec S32x128 32) (r : Fin 32) (l m : Fin 128)
    (h : i (at2 r l) = BitVec.ofNat 32 m.val) : gath x i (at2 r l) = x (at2 r m) := by
  unfold gath
  rw [reshape_back]
  have hs : (select (cmpi .slt i (broadcast S32x128 0#32)) (addi i (broadcast S32x128 128#32)) i) (at2 r l) = BitVec.ofNat 32 m.val := by
    show Scalar.select (IntOp.cmpi .slt (i (at2 r l)) 0#32) (IntOp.addi (i (at2 r l)) 128#32) (i (at2 r l)) = _
    rw [h]
    exact index_fix m
  unfold dynamicGather
  congr 1
  funext b
  fin_cases b
  · rfl
  · apply Fin.ext
    show BitVec.toNat ((select (cmpi .slt i (broadcast S32x128 0#32)) (addi i (broadcast S32x128 128#32)) i) (at2 r l)) % 128 = m.val
    rw [hs]
    have := m.isLt
    rw [BitVec.toNat_ofNat]
    omega

/-- Row `r` of a tile of numbers, a function of the lane. -/
def rowOf (a : FVec Ideal S32x128 .f32) (r : Fin 32) : Fin 128 → EReal := fun l => a (at2 r l)

theorem low_word : ∀ (l : Fin 128) (d : Fin 32), IntOp.cmpi .eq (IntOp.andi (BitVec.ofNat 32 l.val) (BitVec.ofNat 32 d.val)) 0#32
    = BitVec.ofBool (low d.val l) := by decide +kernel

theorem xor_word : ∀ (l : Fin 128) (d : Fin 32), IntOp.xori (BitVec.ofNat 32 l.val) (BitVec.ofNat 32 d.val)
    = BitVec.ofNat 32 (xr l d).val := by decide +kernel

theorem lowV_apply (d : Fin 32) (r : Fin 32) (l : Fin 128) : lowV (BitVec.ofNat 32 d.val) (at2 r l) = BitVec.ofBool (low d.val l) := by
  show IntOp.cmpi .eq (IntOp.andi (lane (at2 r l)) (BitVec.ofNat 32 d.val)) 0#32 = _
  rw [lane_apply, low_word]

theorem xorV_apply (d : Fin 32) (r : Fin 32) (l : Fin 128) :
    xori lane (broadcast S32x128 (BitVec.ofNat 32 d.val)) (at2 r l) = BitVec.ofNat 32 (xr l d).val := by
  show IntOp.xori (lane (at2 r l)) (BitVec.ofNat 32 d.val) = _
  rw [lane_apply, xor_word]

theorem select_ofBool {α : Type} (b : Bool) (x y : α) : Scalar.select (BitVec.ofBool b) x y = if b then x else y := by
  cases b <;> rfl

theorem mergeV_row (d : Fin 32) (a b : FVec Ideal S32x128 .f32) (r : Fin 32) :
    rowOf (mergeV (BitVec.ofNat 32 d.val) a b) r = merge d (rowOf a r) (rowOf b r) := by
  funext l
  show max (Scalar.select (lowV (BitVec.ofNat 32 d.val) (at2 r l)) (a (at2 r l)) (b (at2 r l)))
    (gath (select (lowV (BitVec.ofNat 32 d.val)) b a) (xori lane (broadcast S32x128 (BitVec.ofNat 32 d.val))) (at2 r l)) = _
  rw [gath_apply _ _ r l _ (xorV_apply d r l), lowV_apply, select_ofBool]
  show max _ (Scalar.select (lowV (BitVec.ofNat 32 d.val) (at2 r (xr l d))) _ _) = _
  rw [lowV_apply, select_ofBool]
  rfl

theorem soloV_row (d : Fin 32) (a : FVec Ideal S32x128 .f32) (r : Fin 32) :
    rowOf (soloV (BitVec.ofNat 32 d.val) a) r = solo d (rowOf a r) := by
  funext l
  show max (a (at2 r l)) (gath a (xori lane (broadcast S32x128 (BitVec.ofNat 32 d.val))) (at2 r l)) = _
  rw [gath_apply _ _ r l _ (xorV_apply d r l)]
  rfl

theorem treeV_row (A : ℕ → FVec Ideal S32x128 .f32) (r : Fin 32) :
    rowOf (treeV A) r = tree (fun t => rowOf (A t) r) := by
  have m16 := fun a b => mergeV_row 16 a b r
  have m8 := fun a b => mergeV_row 8 a b r
  have m4 := fun a b => mergeV_row 4 a b r
  have m2 := fun a b => mergeV_row 2 a b r
  have m1 := fun a b => mergeV_row 1 a b r
  have s4 := fun a => soloV_row 4 a r
  change ∀ a b, rowOf (mergeV 16#32 a b) r = _ at m16
  change ∀ a b, rowOf (mergeV 8#32 a b) r = _ at m8
  change ∀ a b, rowOf (mergeV 4#32 a b) r = _ at m4
  change ∀ a b, rowOf (mergeV 2#32 a b) r = _ at m2
  change ∀ a b, rowOf (mergeV 1#32 a b) r = _ at m1
  change ∀ a, rowOf (soloV 4#32 a) r = _ at s4
  unfold treeV tree
  simp only [m16, m8, m4, m2, m1, s4]

/-! The ladder's constants. -/
theorem c_m126 : Ideal.ofBits .f32 0x00800000#32 = two (-126) := ofBits_two _ 1 (by decide) (by decide) (by decide)
theorem c_126 : Ideal.ofBits .f32 0x7E800000#32 = two 126 := ofBits_two _ 253 (by decide) (by decide) (by decide)
theorem c_64 : Ideal.ofBits .f32 0x5F800000#32 = two 64 := ofBits_two _ 191 (by decide) (by decide) (by decide)
theorem c_32 : Ideal.ofBits .f32 0x4F800000#32 = two 32 := ofBits_two _ 159 (by decide) (by decide) (by decide)
theorem c_16 : Ideal.ofBits .f32 0x47800000#32 = two 16 := ofBits_two _ 143 (by decide) (by decide) (by decide)
theorem c_8 : Ideal.ofBits .f32 0x43800000#32 = two 8 := ofBits_two _ 135 (by decide) (by decide) (by decide)
theorem c_4 : Ideal.ofBits .f32 0x41800000#32 = two 4 := ofBits_two _ 131 (by decide) (by decide) (by decide)
theorem c_2 : Ideal.ofBits .f32 0x40800000#32 = two 2 := ofBits_two _ 129 (by decide) (by decide) (by decide)
theorem c_1 : Ideal.ofBits .f32 0x40000000#32 = two 1 := ofBits_two _ 128 (by decide) (by decide) (by decide)

theorem rungV_apply (r p : FVec Ideal S32x128 .f32) (u : BitVec 32) (i : S32x128.Idx) :
    rungV r p u i = rung (r i) (p i) (Ideal.ofBits .f32 u) := by
  show Scalar.select (BitVec.ofBool (decide (p i * Ideal.ofBits .f32 u ≤ r i))) (p i * Ideal.ofBits .f32 u) (p i) = _
  rw [select_ofBool]
  unfold rung
  simp only [decide_eq_true_eq]

theorem ladderV_apply (r : FVec Ideal S32x128 .f32) (i : S32x128.Idx) : ladderV r i = pow2 (r i) := by
  rw [← ladder_eq]
  unfold ladderV
  show Scalar.select (BitVec.ofBool (decide (r i < Ideal.ofBits .f32 0x00800000#32))) (Ideal.ofBits .f32 0x3F800000#32)
    (rungV _ _ _ i * Ideal.ofBits .f32 0x40000000#32) = _
  rw [select_ofBool]
  simp only [rungV_apply, decide_eq_true_eq]
  show (if r i < Ideal.ofBits .f32 0x00800000#32 then Ideal.ofBits .f32 0x3F800000#32 else
    rung (r i) (rung (r i) (rung (r i) (rung (r i) (rung (r i) (rung (r i) (rung (r i) (rung (r i) (Ideal.ofBits .f32 0x00800000#32) _) _) _) _) _) _) _) _ * _) = _
  rw [c_m126, c_126, c_64, c_32, c_16, c_8, c_4, c_2, c_1, Ideal.ofBits_one_f32]
  rfl

/-- The packed scales: lane `l` holds the scale of its row's group. -/
theorem packedV_apply (X : ℕ → FVec Ideal S32x128 .bf16) (r : Fin 32) (l : Fin 128) :
    packedV X (at2 r l) = groupScale fun j => X (row l) (at2 r (grp l j)) := by
  unfold packedV
  rw [ladderV_apply]
  show pow2 (rowOf (treeV fun t => magV (X t)) r l * Ideal.ofBits .f32 0x3B124925#32) = _
  rw [treeV_row, tree_max]
  rfl

/-- The lane, within a group, that holds tile `t`'s scales: the five bits of `t` reversed. -/
def rev (t : ℕ) : ℕ := (t &&& 1) * 16 + (t >>> 1 &&& 1) * 8 + (t >>> 2 &&& 1) * 4 + (t >>> 3 &&& 1) * 2 + (t >>> 4 &&& 1)

theorem rev_lt (t : ℕ) : rev t < 32 := by
  unfold rev
  simp only [Nat.and_one_is_mod]
  omega

theorem row_rev : ∀ (t : Fin 28) (l : Fin 128), row (grp l ⟨rev t.val, rev_lt _⟩) = t.val := by decide +kernel

theorem grp_grp : ∀ (a : Fin 32) (l : Fin 128) (j : Fin 32), grp (grp l a) j = grp l j := by
  intro a l j
  apply Fin.ext
  show 32 * ((32 * (l.val / 32) + a.val) / 32) + j.val = 32 * (l.val / 32) + j.val
  omega

theorem tile_word : ∀ (t : Fin 28) (l : Fin 128), IntOp.addi (IntOp.andi (BitVec.ofNat 32 l.val) 4294967264#32) (BitVec.ofNat 32 (rev t.val))
    = BitVec.ofNat 32 (grp l ⟨rev t.val, rev_lt _⟩).val := by decide +kernel

/-- Tile `t`'s scales: the scale of the lane's own group of the tile. -/
theorem tileScaleV_apply (X : ℕ → FVec Ideal S32x128 .bf16) (t : Fin 28) (r : Fin 32) (l : Fin 128) :
    tileScaleV (packedV X) (BitVec.ofNat 32 (rev t.val)) (at2 r l) = groupScale fun j => X t.val (at2 r (grp l j)) := by
  unfold tileScaleV
  rw [gath_apply _ _ r l (grp l ⟨rev t.val, rev_lt _⟩), packedV_apply, row_rev]
  · simp only [grp_grp]
  · show IntOp.addi (IntOp.andi (lane (at2 r l)) 4294967264#32) (BitVec.ofNat 32 (rev t.val)) = _
    rw [lane_apply, tile_word]

theorem codesV_apply (x : FVec Ideal S32x128 .bf16) (s : FVec Ideal S32x128 .f32) (i : S32x128.Idx) :
    codesV x s i = code (x i) (s i) := by
  show min (Ideal.ofBits .f32 0x43E00000#32) (max (Ideal.ofBits .f32 0xC3E00000#32) (x i * Ideal.div (Ideal.ofBits .f32 0x3F800000#32) (s i))) = _
  rw [Ideal.ofBits_one_f32]
  rfl

theorem xqV_apply (x : FVec Ideal S32x128 .bf16) (s : FVec Ideal S32x128 .f32) (i : S32x128.Idx) :
    xqV x s i = code (x i) (s i) * s i := by
  unfold xqV
  rw [shapeCast_id]
  show codesV x s i * s i = _
  rw [codesV_apply]

/-- The lane that holds group `g`'s scale. -/
def slot (g : Fin 112) : Fin 128 := ⟨(g.val % 4) * 32 + rev (g.val / 4), by have := rev_lt (g.val / 4); omega⟩

theorem slot_word : ∀ g : Fin 112, IntOp.addi (IntOp.muli (IntOp.andi (BitVec.ofNat 32 g.val) 3#32) 32#32)
    (let v := IntOp.shrsi .vector (BitVec.ofNat 32 g.val) 2#32
     let b (s u : BitVec 32) := IntOp.shli .vector (IntOp.andi (IntOp.shrsi .vector v s) 1#32) u
     IntOp.ori (IntOp.ori (IntOp.ori (IntOp.ori (IntOp.ori 0#32 (b 0#32 4#32)) (b 1#32 3#32)) (b 2#32 2#32)) (b 3#32 1#32)) (b 4#32 0#32))
    = BitVec.ofNat 32 (slot g).val := by decide +kernel

theorem slot_row : ∀ g : Fin 112, row (slot g) = g.val / 4 := by decide +kernel

/-- The scales, in the order of the groups. -/
theorem scaleV_apply (X : ℕ → FVec Ideal S32x128 .bf16) (r : Fin 32) (g : Fin 112) :
    scaleV (packedV X) (ValueIdx.ix2 (n0 := 32) (n1 := 112) r g) = groupScale fun j => X (g.val / 4) (at2 r ⟨32 * (g.val % 4) + j.val, by omega⟩) := by
  have hg := g.isLt
  have h := gath_apply (packedV X) (addi (muli (andi lane (broadcast S32x128 3#32)) (broadcast S32x128 32#32))
    (revV (shrsi lane (broadcast S32x128 2#32)))) r ⟨g.val, by omega⟩ (slot g) (by
      refine Eq.trans ?_ (slot_word g)
      show IntOp.addi (IntOp.muli (IntOp.andi (lane (at2 r ⟨g.val, _⟩)) 3#32) 32#32) (let v := IntOp.shrsi .vector (lane (at2 r ⟨g.val, _⟩)) 2#32
         let b (s u : BitVec 32) := IntOp.shli .vector (IntOp.andi (IntOp.shrsi .vector v s) 1#32) u
         IntOp.ori (IntOp.ori (IntOp.ori (IntOp.ori (IntOp.ori 0#32 (b 0#32 4#32)) (b 1#32 3#32)) (b 2#32 2#32)) (b 3#32 1#32)) (b 4#32 0#32)) = _
      rw [lane_apply])
  rw [packedV_apply, slot_row] at h
  have e : scaleV (packedV X) (ValueIdx.ix2 (n0 := 32) (n1 := 112) r g) = gath (packedV X) (addi (muli (andi lane (broadcast S32x128 3#32)) (broadcast S32x128 32#32))
    (revV (shrsi lane (broadcast S32x128 2#32)))) (at2 r ⟨g.val, by omega⟩) := by
    show gath _ _ _ = gath _ _ _
    congr 1
    funext a
    fin_cases a
    · exact Fin.ext (Nat.zero_add _)
    · exact Fin.ext (Nat.zero_add _)
  rw [e, h]
  congr 1
  funext j
  congr 2
  apply Fin.ext
  have := rev_lt (g.val / 4)
  show 32 * (((g.val % 4) * 32 + rev (g.val / 4)) / 32) + j.val = 32 * (g.val % 4) + j.val
  omega

end Cert.KernelIdeal.Quant
-- ==== Proof.Quant.lean ====
module
public import proofs.«01_k».proof.Proof.Gen.KernelIdeal.Loops
public import proofs.«01_k».proof.Proof.Ops
import Idealize.ShloMosaic.Lib.Pointwise.Reshape

/-!
The kernel's second loop, one trip of which quantises a block of 32 rows: what its stores hold, and what the codes,
the scales and the scaled-back activations are once all eight trips have run.
-/

@[expose] public noncomputable section

namespace Cert.KernelIdeal.Quant

open Cert.KernelIdeal Cert.KernelIdeal.Gen Idealize.ShloMosaic

section pieces
variable {F : FTy → Type} [FloatOps F]
variable (𝒱 : Variants) (c : Dev nD) (bd : Option 𝒱.V) (i : grid0.Coords) (arg1 : Memref sig .tc .vmem S256x3584 .bf16) (harg1 : arg1.IsWhole)
  (arg2 : Memref sig .tc .vmem S3584x2048 .i8) (harg2 : arg2.IsWhole) (arg3 : Memref sig .tc .vmem S112x4096 .i8) (harg3 : arg3.IsWhole)
  (arg4 : Memref sig .tc .vmem S256x4096 .bf16) (harg4 : arg4.IsWhole) (arg5 : Memref sig .tc .vmem S256x3584 .fp8e4m3) (harg5 : arg5.IsWhole)
  (arg6 : Memref sig .tc .vmem S256x112 .f32) (harg6 : arg6.IsWhole) (arg7 : Memref sig .tc .vmem S3584x4096 .bf16) (harg7 : arg7.IsWhole)
  (arg8 : Memref sig .tc .vmem S112x4096 .f32) (harg8 : arg8.IsWhole) (arg9 : Memref sig .tc .vmem S256x3584 .bf16) (harg9 : arg9.IsWhole)
  (X : BufTy.Contents (Elt F) arg1.view.ty) (k : Fin k0_t2_loop.trips)

/-- The 28 tiles the trip loads. -/
def tiles : ℕ → FVec F S32x128 .bf16
  | 0 => trip_k0_t2.sl.v51 arg1 X k
  | 1 => trip_k0_t2.sl.v54 arg1 X k
  | 2 => trip_k0_t2.sl.v57 arg1 X k
  | 3 => trip_k0_t2.sl.v60 arg1 X k
  | 4 => trip_k0_t2.sl.v63 arg1 X k
  | 5 => trip_k0_t2.sl.v66 arg1 X k
  | 6 => trip_k0_t2.sl.v69 arg1 X k
  | 7 => trip_k0_t2.sl.v72 arg1 X k
  | 8 => trip_k0_t2.sl.v75 arg1 X k
  | 9 => trip_k0_t2.sl.v78 arg1 X k
  | 10 => trip_k0_t2.sl.v81 arg1 X k
  | 11 => trip_k0_t2.sl.v84 arg1 X k
  | 12 => trip_k0_t2.sl.v87 arg1 X k
  | 13 => trip_k0_t2.sl.v90 arg1 X k
  | 14 => trip_k0_t2.sl.v93 arg1 X k
  | 15 => trip_k0_t2.sl.v96 arg1 X k
  | 16 => trip_k0_t2.sl.v99 arg1 X k
  | 17 => trip_k0_t2.sl.v102 arg1 X k
  | 18 => trip_k0_t2.sl.v105 arg1 X k
  | 19 => trip_k0_t2.sl.v108 arg1 X k
  | 20 => trip_k0_t2.sl.v111 arg1 X k
  | 21 => trip_k0_t2.sl.v114 arg1 X k
  | 22 => trip_k0_t2.sl.v117 arg1 X k
  | 23 => trip_k0_t2.sl.v120 arg1 X k
  | 24 => trip_k0_t2.sl.v123 arg1 X k
  | 25 => trip_k0_t2.sl.v126 arg1 X k
  | 26 => trip_k0_t2.sl.v129 arg1 X k
  | 27 => trip_k0_t2.sl.r_2 arg1 X k
  | _ => trip_k0_t2.sl.v51 arg1 X k

/-- Where each tile lies, as the trip computes it. -/
def offs : ℕ → Fin S256x3584.rank → ℕ
  | 0 => k0_off337 k
  | 1 => k0_off338 k
  | 2 => k0_off339 k
  | 3 => k0_off340 k
  | 4 => k0_off341 k
  | 5 => k0_off342 k
  | 6 => k0_off343 k
  | 7 => k0_off344 k
  | 8 => k0_off345 k
  | 9 => k0_off346 k
  | 10 => k0_off347 k
  | 11 => k0_off348 k
  | 12 => k0_off349 k
  | 13 => k0_off350 k
  | 14 => k0_off351 k
  | 15 => k0_off352 k
  | 16 => k0_off353 k
  | 17 => k0_off354 k
  | 18 => k0_off355 k
  | 19 => k0_off356 k
  | 20 => k0_off357 k
  | 21 => k0_off358 k
  | 22 => k0_off359 k
  | 23 => k0_off360 k
  | 24 => k0_off361 k
  | 25 => k0_off362 k
  | 26 => k0_off363 k
  | 27 => k0_off364 k
  | _ => k0_off337 k

theorem offs_eq (t : Fin 28) : offs k t.val = ![32 * k.val, 128 * t.val] := by
  fin_cases t
  · exact k0_off337_eq k
  · exact k0_off338_eq k
  · exact k0_off339_eq k
  · exact k0_off340_eq k
  · exact k0_off341_eq k
  · exact k0_off342_eq k
  · exact k0_off343_eq k
  · exact k0_off344_eq k
  · exact k0_off345_eq k
  · exact k0_off346_eq k
  · exact k0_off347_eq k
  · exact k0_off348_eq k
  · exact k0_off349_eq k
  · exact k0_off350_eq k
  · exact k0_off351_eq k
  · exact k0_off352_eq k
  · exact k0_off353_eq k
  · exact k0_off354_eq k
  · exact k0_off355_eq k
  · exact k0_off356_eq k
  · exact k0_off357_eq k
  · exact k0_off358_eq k
  · exact k0_off359_eq k
  · exact k0_off360_eq k
  · exact k0_off361_eq k
  · exact k0_off362_eq k
  · exact k0_off363_eq k
  · exact k0_off364_eq k

theorem all_tiles : ∀ t : Fin 28, t ∈ ([27, 26, 25, 24, 23, 22, 21, 20, 19, 18, 17, 16, 15, 14, 13, 12, 11, 10, 9, 8, 7, 6, 5, 4, 3, 2, 1, 0] : List (Fin 28)) := by decide

theorem trips_eq : k0_t2_loop.trips = 8 := by decide

theorem offs_inb (t : Fin 28) (a : Fin S256x3584.rank) : offs k t.val a + S32x128.size a ≤ S256x3584.size a := by
  have hk : k.val < 8 := lt_of_lt_of_eq k.isLt trips_eq
  have ht := t.isLt
  rw [offs_eq]
  fin_cases a
  · show 32 * k.val + 32 ≤ 256
    omega
  · show 128 * t.val + 128 ≤ 3584
    omega

/-- A tile's scales. -/
def tileScale (t : Fin 28) : FVec F S32x128 .f32 := tileScaleV (trip_k0_t2.sl.r_69 arg1 X k) (BitVec.ofNat 32 (rev t.val))

/-- The store of a tile's codes. -/
def codePiece (t : Fin 28) : View.Piece (Elt F) S256x3584 .fp8e4m3 :=
  ⟨Rect.unit (offs k t.val) S32x128.size (offs_inb k t), codesV (tiles arg1 X k t.val) (tileScale arg1 X k t)⟩

/-- The store of a tile's scaled-back activations. -/
def xqPiece (t : Fin 28) : View.Piece (Elt F) S256x3584 .bf16 :=
  ⟨Rect.unit (offs k t.val) S32x128.size (offs_inb k t), xqV (tiles arg1 X k t.val) (tileScale arg1 X k t)⟩

theorem packed_eq : trip_k0_t2.sl.r_69 arg1 X k = packedV (tiles arg1 X k) := rfl

theorem scale_eq : trip_k0_t2.sl.v663 arg1 X k = scaleV (trip_k0_t2.sl.r_69 arg1 X k) := rfl

theorem trip_codes : (tripL_k0_t2 (F := F) 𝒱 c bd i arg1 harg1 arg2 harg2 arg3 harg3 arg4 harg4 arg5 harg5 arg6 harg6 arg7 harg7 arg8 harg8 arg9 harg9 X k).1 = ([27, 26, 25, 24, 23, 22, 21, 20, 19, 18, 17, 16, 15, 14, 13, 12, 11, 10, 9, 8, 7, 6, 5, 4, 3, 2, 1, 0] : List (Fin 28)).map (codePiece arg1 X k) := by
  unfold tripL_k0_t2 trip_k0_t2
  dsimp only
  simp only [List.map_cons, List.map_nil]
  repeat' refine congrArg₂ List.cons ?_ ?_
  all_goals rfl

theorem trip_xq : (tripL_k0_t2 (F := F) 𝒱 c bd i arg1 harg1 arg2 harg2 arg3 harg3 arg4 harg4 arg5 harg5 arg6 harg6 arg7 harg7 arg8 harg8 arg9 harg9 X k).2.2 = ([27, 26, 25, 24, 23, 22, 21, 20, 19, 18, 17, 16, 15, 14, 13, 12, 11, 10, 9, 8, 7, 6, 5, 4, 3, 2, 1, 0] : List (Fin 28)).map (xqPiece arg1 X k) := by
  unfold tripL_k0_t2 trip_k0_t2
  dsimp only
  simp only [List.map_cons, List.map_nil]
  repeat' refine congrArg₂ List.cons ?_ ?_
  all_goals rfl

theorem scale_inb (a : Fin S256x112.rank) : k0_off365 k a + S32x112.size a ≤ S256x112.size a := by
  have hk : k.val < 8 := lt_of_lt_of_eq k.isLt trips_eq
  rw [k0_off365_eq]
  fin_cases a
  · show 32 * k.val + 32 ≤ 256
    omega
  · show 0 + 112 ≤ 112
    omega

theorem trip_scale : (tripL_k0_t2 (F := F) 𝒱 c bd i arg1 harg1 arg2 harg2 arg3 harg3 arg4 harg4 arg5 harg5 arg6 harg6 arg7 harg7 arg8 harg8 arg9 harg9 X k).2.1 =
    [⟨Rect.unit (k0_off365 k) S32x112.size (scale_inb k), scaleV (trip_k0_t2.sl.r_69 arg1 X k)⟩] := by
  unfold tripL_k0_t2 trip_k0_t2
  dsimp only
  exact congrArg (fun v => [(⟨Rect.unit (k0_off365 k) S32x112.size (scale_inb k), v⟩ : View.Piece (Elt F) S256x112 .f32)]) (scale_eq arg1 X k)

/-! The stores of the whole loop are those of its trips. -/

theorem mem_codes (n : ℕ) (hn : n ≤ 8) (p) : p ∈ (pb_k0_t2 (F := F) 𝒱 c bd i arg1 harg1 arg2 harg2 arg3 harg3 arg4 harg4 arg5 harg5 arg6 harg6 arg7 harg7 arg8 harg8 arg9 harg9 X n).1 ↔
    ∃ k : Fin k0_t2_loop.trips, k.val < n ∧ ∃ t, p = codePiece arg1 X k t := by
  induction n with
  | zero => exact ⟨fun h => absurd h List.not_mem_nil, fun ⟨_, h, _⟩ => absurd h (Nat.not_lt_zero _)⟩
  | succ n ih =>
    have hb : n < k0_t2_loop.trips := lt_of_lt_of_eq (by omega) trips_eq.symm
    have e : (pb_k0_t2 (F := F) 𝒱 c bd i arg1 harg1 arg2 harg2 arg3 harg3 arg4 harg4 arg5 harg5 arg6 harg6 arg7 harg7 arg8 harg8 arg9 harg9 X (n + 1)).1 = (tripL_k0_t2 (F := F) 𝒱 c bd i arg1 harg1 arg2 harg2 arg3 harg3 arg4 harg4 arg5 harg5 arg6 harg6 arg7 harg7 arg8 harg8 arg9 harg9 X ⟨n, hb⟩).1 ++ (pb_k0_t2 (F := F) 𝒱 c bd i arg1 harg1 arg2 harg2 arg3 harg3 arg4 harg4 arg5 harg5 arg6 harg6 arg7 harg7 arg8 harg8 arg9 harg9 X n).1 :=
      congrArg (fun q => q.1) (pb_k0_t2_succ (F := F) 𝒱 c bd i arg1 harg1 arg2 harg2 arg3 harg3 arg4 harg4 arg5 harg5 arg6 harg6 arg7 harg7 arg8 harg8 arg9 harg9 X ⟨n, hb⟩)
    rw [e, List.mem_append, ih (by omega), trip_codes, List.mem_map]
    constructor
    · rintro (⟨t, _, rfl⟩ | ⟨k, hk, h⟩)
      · exact ⟨_, Nat.lt_succ_self n, t, rfl⟩
      · exact ⟨k, by omega, h⟩
    · rintro ⟨k, hk, t, rfl⟩
      rcases Nat.lt_or_ge k.val n with h | h
      · exact Or.inr ⟨k, h, t, rfl⟩
      · have : k = ⟨n, hb⟩ := Fin.ext (by dsimp only; omega)
        subst this
        exact Or.inl ⟨t, all_tiles t, rfl⟩

theorem mem_xq (n : ℕ) (hn : n ≤ 8) (p) : p ∈ (pb_k0_t2 (F := F) 𝒱 c bd i arg1 harg1 arg2 harg2 arg3 harg3 arg4 harg4 arg5 harg5 arg6 harg6 arg7 harg7 arg8 harg8 arg9 harg9 X n).2.2 ↔
    ∃ k : Fin k0_t2_loop.trips, k.val < n ∧ ∃ t, p = xqPiece arg1 X k t := by
  induction n with
  | zero => exact ⟨fun h => absurd h List.not_mem_nil, fun ⟨_, h, _⟩ => absurd h (Nat.not_lt_zero _)⟩
  | succ n ih =>
    have hb : n < k0_t2_loop.trips := lt_of_lt_of_eq (by omega) trips_eq.symm
    have e : (pb_k0_t2 (F := F) 𝒱 c bd i arg1 harg1 arg2 harg2 arg3 harg3 arg4 harg4 arg5 harg5 arg6 harg6 arg7 harg7 arg8 harg8 arg9 harg9 X (n + 1)).2.2 = (tripL_k0_t2 (F := F) 𝒱 c bd i arg1 harg1 arg2 harg2 arg3 harg3 arg4 harg4 arg5 harg5 arg6 harg6 arg7 harg7 arg8 harg8 arg9 harg9 X ⟨n, hb⟩).2.2 ++ (pb_k0_t2 (F := F) 𝒱 c bd i arg1 harg1 arg2 harg2 arg3 harg3 arg4 harg4 arg5 harg5 arg6 harg6 arg7 harg7 arg8 harg8 arg9 harg9 X n).2.2 :=
      congrArg (fun q => q.2.2) (pb_k0_t2_succ (F := F) 𝒱 c bd i arg1 harg1 arg2 harg2 arg3 harg3 arg4 harg4 arg5 harg5 arg6 harg6 arg7 harg7 arg8 harg8 arg9 harg9 X ⟨n, hb⟩)
    rw [e, List.mem_append, ih (by omega), trip_xq, List.mem_map]
    constructor
    · rintro (⟨t, _, rfl⟩ | ⟨k, hk, h⟩)
      · exact ⟨_, Nat.lt_succ_self n, t, rfl⟩
      · exact ⟨k, by omega, h⟩
    · rintro ⟨k, hk, t, rfl⟩
      rcases Nat.lt_or_ge k.val n with h | h
      · exact Or.inr ⟨k, h, t, rfl⟩
      · have : k = ⟨n, hb⟩ := Fin.ext (by dsimp only; omega)
        subst this
        exact Or.inl ⟨t, all_tiles t, rfl⟩

theorem mem_scale (n : ℕ) (hn : n ≤ 8) (p) : p ∈ (pb_k0_t2 (F := F) 𝒱 c bd i arg1 harg1 arg2 harg2 arg3 harg3 arg4 harg4 arg5 harg5 arg6 harg6 arg7 harg7 arg8 harg8 arg9 harg9 X n).2.1 ↔
    ∃ k : Fin k0_t2_loop.trips, k.val < n ∧ p = ⟨Rect.unit (k0_off365 k) S32x112.size (scale_inb k), scaleV (trip_k0_t2.sl.r_69 arg1 X k)⟩ := by
  induction n with
  | zero => exact ⟨fun h => absurd h List.not_mem_nil, fun ⟨_, h, _⟩ => absurd h (Nat.not_lt_zero _)⟩
  | succ n ih =>
    have hb : n < k0_t2_loop.trips := lt_of_lt_of_eq (by omega) trips_eq.symm
    have e : (pb_k0_t2 (F := F) 𝒱 c bd i arg1 harg1 arg2 harg2 arg3 harg3 arg4 harg4 arg5 harg5 arg6 harg6 arg7 harg7 arg8 harg8 arg9 harg9 X (n + 1)).2.1 = (tripL_k0_t2 (F := F) 𝒱 c bd i arg1 harg1 arg2 harg2 arg3 harg3 arg4 harg4 arg5 harg5 arg6 harg6 arg7 harg7 arg8 harg8 arg9 harg9 X ⟨n, hb⟩).2.1 ++ (pb_k0_t2 (F := F) 𝒱 c bd i arg1 harg1 arg2 harg2 arg3 harg3 arg4 harg4 arg5 harg5 arg6 harg6 arg7 harg7 arg8 harg8 arg9 harg9 X n).2.1 :=
      congrArg (fun q => q.2.1) (pb_k0_t2_succ (F := F) 𝒱 c bd i arg1 harg1 arg2 harg2 arg3 harg3 arg4 harg4 arg5 harg5 arg6 harg6 arg7 harg7 arg8 harg8 arg9 harg9 X ⟨n, hb⟩)
    rw [e, List.mem_append, ih (by omega), trip_scale, List.mem_singleton]
    constructor
    · rintro (h | ⟨k, hk, h⟩)
      · exact ⟨_, Nat.lt_succ_self n, h⟩
      · exact ⟨k, by omega, h⟩
    · rintro ⟨k, hk, h'⟩
      rcases Nat.lt_or_ge k.val n with h | h
      · exact Or.inr ⟨k, h, h'⟩
      · have : k = ⟨n, hb⟩ := Fin.ext (by dsimp only; omega)
        subst this
        exact Or.inl h'

end pieces

end Cert.KernelIdeal.Quant
-- ==== Proof.QuantValue.lean ====
module
public import proofs.«01_k».proof.Proof.Quant
import Idealize.ShloMosaic.Lib.Pointwise.Reshape
import Idealize.ShloMosaic.Lib.Writes

/-!
What the kernel's second loop leaves, over the extended reals: the codes, the scales and the scaled-back activations
of a block of 256 rows.
-/

@[expose] public noncomputable section

namespace Cert.KernelIdeal.Quant

open Cert.KernelIdeal Cert.KernelIdeal.Gen Idealize.ShloMosaic Cert.Spec

variable (𝒱 : Variants) (c : Dev nD) (bd : Option 𝒱.V) (i : grid0.Coords) (arg1 : Memref sig .tc .vmem S256x3584 .bf16) (harg1 : arg1.IsWhole)
  (arg2 : Memref sig .tc .vmem S3584x2048 .i8) (harg2 : arg2.IsWhole) (arg3 : Memref sig .tc .vmem S112x4096 .i8) (harg3 : arg3.IsWhole)
  (arg4 : Memref sig .tc .vmem S256x4096 .bf16) (harg4 : arg4.IsWhole) (arg5 : Memref sig .tc .vmem S256x3584 .fp8e4m3) (harg5 : arg5.IsWhole)
  (arg6 : Memref sig .tc .vmem S256x112 .f32) (harg6 : arg6.IsWhole) (arg7 : Memref sig .tc .vmem S3584x4096 .bf16) (harg7 : arg7.IsWhole)
  (arg8 : Memref sig .tc .vmem S112x4096 .f32) (harg8 : arg8.IsWhole) (arg9 : Memref sig .tc .vmem S256x3584 .bf16) (harg9 : arg9.IsWhole)
  (X : BufTy.Contents (Elt Ideal) arg1.view.ty) (k : Fin k0_t2_loop.trips)

/-- Row `r` of the block of activations. -/
def inRow (r : Fin 256) : Fin 3584 → EReal := fun c => arg1.view.read (Elt Ideal) X (ValueIdx.ix2 (n0 := 256) (n1 := 3584) r c)

/-- Row `r` of trip `k`. -/
def rowAt (r : Fin 32) : Fin 256 := ⟨32 * k.val + r.val, by have := lt_of_lt_of_eq k.isLt trips_eq; omega⟩

theorem tiles_load (t : Fin 28) : tiles arg1 X k t.val = shapeCast S32x128
    (View.readAt (Elt Ideal) arg1.view (Rect.unit (offs k t.val) S32x128.size (offs_inb k t)).toLoadRect X) shapeCasts_S32x128_S32x128 := by
  fin_cases t <;> rfl

theorem emb_tile (t : Fin 28) (r : Fin 32) (l : Fin 128) : (Rect.unit (s := S256x3584) (offs k t.val) S32x128.size (offs_inb k t)).emb (at2 r l) =
    ValueIdx.ix2 (n0 := 256) (n1 := 3584) (rowAt k r) ⟨128 * t.val + l.val, by have := t.isLt; omega⟩ := by
  funext a
  apply Fin.ext
  rw [Rect.emb_apply]
  show offs k t.val a + 1 * _ = _
  rw [congrFun (offs_eq k t) a]
  fin_cases a
  · show 32 * k.val + 1 * r.val = 32 * k.val + r.val
    omega
  · show 128 * t.val + 1 * l.val = 128 * t.val + l.val
    omega

theorem tiles_apply (t : Fin 28) (r : Fin 32) (l : Fin 128) : tiles arg1 X k t.val (at2 r l) =
    inRow arg1 X (rowAt k r) ⟨128 * t.val + l.val, by have := t.isLt; omega⟩ := by
  rw [tiles_load]
  refine Eq.trans (congrFun (shapeCast_id _ _) _) ?_
  show arg1.view.read (Elt Ideal) X ((Rect.unit (s := S256x3584) (offs k t.val) S32x128.size (offs_inb k t)).emb (at2 r l)) = _
  rw [emb_tile]
  rfl

theorem tileScale_apply (t : Fin 28) (r : Fin 32) (l : Fin 128) : tileScale arg1 X k t (at2 r l) =
    rowScale (inRow arg1 X (rowAt k r)) (colGroup ⟨128 * t.val + l.val, by have := t.isLt; omega⟩) := by
  unfold tileScale
  rw [packed_eq, tileScaleV_apply]
  unfold rowScale
  congr 1
  funext j
  rw [tiles_apply]
  congr 1
  apply Fin.ext
  have := j.isLt
  show 128 * t.val + (32 * (l.val / 32) + j.val) = 32 * ((128 * t.val + l.val) / 32) + j.val
  omega

/-- The codes of the block. -/
def blockCode (y : S256x3584.Idx) : EReal := rowCode (inRow arg1 X (y 0)) (y 1)
/-- The block, quantised and scaled back. -/
def blockXq (y : S256x3584.Idx) : EReal := rowXq (inRow arg1 X (y 0)) (y 1)
/-- The scales of the block. -/
def blockScale (y : S256x112.Idx) : EReal := rowScale (inRow arg1 X (y 0)) (y 1)

theorem codePiece_apply (t : Fin 28) (x) : (codePiece arg1 X k t).2 x = blockCode arg1 X ((codePiece arg1 X k t).1.emb x) := by
  obtain ⟨r, l, rfl⟩ : ∃ r l, x = at2 r l := ⟨x 0, x 1, ValueIdx.eq_ix2 x⟩
  show codesV (tiles arg1 X k t.val) (tileScale arg1 X k t) (at2 r l) = blockCode arg1 X ((Rect.unit (s := S256x3584) (offs k t.val) S32x128.size (offs_inb k t)).emb (at2 r l))
  rw [codesV_apply, tiles_apply, tileScale_apply, emb_tile]
  rfl

theorem xqPiece_apply (t : Fin 28) (x) : (xqPiece arg1 X k t).2 x = blockXq arg1 X ((xqPiece arg1 X k t).1.emb x) := by
  obtain ⟨r, l, rfl⟩ : ∃ r l, x = at2 r l := ⟨x 0, x 1, ValueIdx.eq_ix2 x⟩
  show xqV (tiles arg1 X k t.val) (tileScale arg1 X k t) (at2 r l) = blockXq arg1 X ((Rect.unit (s := S256x3584) (offs k t.val) S32x128.size (offs_inb k t)).emb (at2 r l))
  rw [xqV_apply, tiles_apply, tileScale_apply, emb_tile]
  rfl

theorem emb_scale (r : Fin 32) (g : Fin 112) : (Rect.unit (s := S256x112) (k0_off365 k) S32x112.size (scale_inb k)).emb (ValueIdx.ix2 (n0 := 32) (n1 := 112) r g) =
    ValueIdx.ix2 (n0 := 256) (n1 := 112) (rowAt k r) g := by
  funext a
  apply Fin.ext
  rw [Rect.emb_apply]
  show k0_off365 k a + 1 * _ = _
  rw [congrFun (k0_off365_eq k) a]
  fin_cases a
  · show 32 * k.val + 1 * r.val = 32 * k.val + r.val
    omega
  · show 0 + 1 * g.val = g.val
    omega

theorem scalePiece_apply (x : S32x112.Idx) : scaleV (trip_k0_t2.sl.r_69 arg1 X k) x =
    blockScale arg1 X ((Rect.unit (s := S256x112) (k0_off365 k) S32x112.size (scale_inb k)).emb x) := by
  obtain ⟨r, g, rfl⟩ : ∃ r g, x = ValueIdx.ix2 (n0 := 32) (n1 := 112) r g := ⟨x 0, x 1, ValueIdx.eq_ix2 x⟩
  rw [packed_eq, scaleV_apply, emb_scale]
  have hg := g.isLt
  show _ = rowScale (inRow arg1 X (rowAt k r)) g
  unfold rowScale
  congr 1
  funext j
  rw [tiles_apply arg1 X k ⟨g.val / 4, by omega⟩]
  congr 1
  apply Fin.ext
  show 128 * (g.val / 4) + (32 * (g.val % 4) + j.val) = 32 * g.val + j.val
  omega

/-- The trip that quantises row `r`. -/
def tripOf (r : Fin 256) : Fin k0_t2_loop.trips := ⟨r.val / 32, by rw [trips_eq]; omega⟩

theorem row_split (r : Fin 256) : rowAt (tripOf r) ⟨r.val % 32, Nat.mod_lt _ (by decide)⟩ = r := by
  apply Fin.ext
  show 32 * (r.val / 32) + r.val % 32 = r.val
  omega

theorem mem_of_emb {s : Shape} (r : Rect s) (x : r.shape.Idx) {y : s.Idx} (h : r.emb x = y) : y ∈ r.set := by
  rw [← h]
  exact r.idx_mem x

theorem in_tile (y : S256x3584.Idx) : y ∈ (Rect.unit (s := S256x3584) (offs (tripOf (y 0)) ((y 1).val / 128)) S32x128.size
    (offs_inb (tripOf (y 0)) ⟨(y 1).val / 128, by have : (y 1).val < 3584 := (y 1).isLt; omega⟩)).set := by
  have h1 : (y 1).val < 3584 := (y 1).isLt
  have e := emb_tile (tripOf (y 0)) ⟨(y 1).val / 128, by omega⟩ ⟨(y 0).val % 32, Nat.mod_lt _ (by decide)⟩ ⟨(y 1).val % 128, Nat.mod_lt _ (by decide)⟩
  rw [row_split (y 0)] at e
  refine mem_of_emb _ _ (e.trans ?_)
  refine Eq.trans ?_ (ValueIdx.eq_ix2 y).symm
  funext a
  fin_cases a
  · rfl
  · apply Fin.ext
    show 128 * ((y 1).val / 128) + (y 1).val % 128 = (y 1).val
    omega

theorem in_scale (y : S256x112.Idx) : y ∈ (Rect.unit (s := S256x112) (k0_off365 (tripOf (y 0))) S32x112.size (scale_inb (tripOf (y 0)))).set := by
  have e := emb_scale (tripOf (y 0)) ⟨(y 0).val % 32, Nat.mod_lt _ (by decide)⟩ (y 1)
  rw [row_split (y 0)] at e
  exact mem_of_emb _ _ (e.trans (ValueIdx.eq_ix2 y).symm)

section whole
variable {sig' : RefSig} {κ : Kind} {sp : Space}

/-- Reading after the whole loop, through any view: the codes. -/
theorem read_codes (v : View sig' κ sp S256x3584 .fp8e4m3) (f) (n : ℕ) (hn : n = 8) :
    v.read (Elt Ideal) (v.writes (Elt Ideal) f (pb_k0_t2 (F := Ideal) 𝒱 c bd i arg1 harg1 arg2 harg2 arg3 harg3 arg4 harg4 arg5 harg5 arg6 harg6 arg7 harg7 arg8 harg8 arg9 harg9 X n).1) = blockCode arg1 X := by
  subst hn
  funext y
  refine View.read_writes_apply_of_pieces v f (blockCode arg1 X) _ (fun p hp => ?_) y ?_
  · obtain ⟨k, _, t, rfl⟩ := (mem_codes 𝒱 c bd i arg1 harg1 arg2 harg2 arg3 harg3 arg4 harg4 arg5 harg5 arg6 harg6 arg7 harg7 arg8 harg8 arg9 harg9 X 8 le_rfl p).1 hp
    exact codePiece_apply arg1 X k t
  · have h1 : (y 1).val < 3584 := (y 1).isLt
    refine ⟨codePiece arg1 X (tripOf (y 0)) ⟨(y 1).val / 128, by omega⟩, (mem_codes 𝒱 c bd i arg1 harg1 arg2 harg2 arg3 harg3 arg4 harg4 arg5 harg5 arg6 harg6 arg7 harg7 arg8 harg8 arg9 harg9 X 8 le_rfl _).2 ⟨_, ?_, _, rfl⟩, in_tile y⟩
    have h0 : (y 0).val < 256 := (y 0).isLt
    show (y 0).val / 32 < 8
    omega

/-- Reading after the whole loop, through any view: the activations quantised and scaled back. -/
theorem read_xq (v : View sig' κ sp S256x3584 .bf16) (f) (n : ℕ) (hn : n = 8) :
    v.read (Elt Ideal) (v.writes (Elt Ideal) f (pb_k0_t2 (F := Ideal) 𝒱 c bd i arg1 harg1 arg2 harg2 arg3 harg3 arg4 harg4 arg5 harg5 arg6 harg6 arg7 harg7 arg8 harg8 arg9 harg9 X n).2.2) = blockXq arg1 X := by
  subst hn
  funext y
  refine View.read_writes_apply_of_pieces v f (blockXq arg1 X) _ (fun p hp => ?_) y ?_
  · obtain ⟨k, _, t, rfl⟩ := (mem_xq 𝒱 c bd i arg1 harg1 arg2 harg2 arg3 harg3 arg4 harg4 arg5 harg5 arg6 harg6 arg7 harg7 arg8 harg8 arg9 harg9 X 8 le_rfl p).1 hp
    exact xqPiece_apply arg1 X k t
  · have h1 : (y 1).val < 3584 := (y 1).isLt
    refine ⟨xqPiece arg1 X (tripOf (y 0)) ⟨(y 1).val / 128, by omega⟩, (mem_xq 𝒱 c bd i arg1 harg1 arg2 harg2 arg3 harg3 arg4 harg4 arg5 harg5 arg6 harg6 arg7 harg7 arg8 harg8 arg9 harg9 X 8 le_rfl _).2 ⟨_, ?_, _, rfl⟩, in_tile y⟩
    have h0 : (y 0).val < 256 := (y 0).isLt
    show (y 0).val / 32 < 8
    omega

/-- Reading after the whole loop, through any view: the scales. -/
theorem read_scale (v : View sig' κ sp S256x112 .f32) (f) (n : ℕ) (hn : n = 8) :
    v.read (Elt Ideal) (v.writes (Elt Ideal) f (pb_k0_t2 (F := Ideal) 𝒱 c bd i arg1 harg1 arg2 harg2 arg3 harg3 arg4 harg4 arg5 harg5 arg6 harg6 arg7 harg7 arg8 harg8 arg9 harg9 X n).2.1) = blockScale arg1 X := by
  subst hn
  funext y
  refine View.read_writes_apply_of_pieces v f (blockScale arg1 X) _ (fun p hp => ?_) y ?_
  · obtain ⟨k, _, rfl⟩ := (mem_scale 𝒱 c bd i arg1 harg1 arg2 harg2 arg3 harg3 arg4 harg4 arg5 harg5 arg6 harg6 arg7 harg7 arg8 harg8 arg9 harg9 X 8 le_rfl p).1 hp
    exact scalePiece_apply arg1 X k
  · refine ⟨_, (mem_scale 𝒱 c bd i arg1 harg1 arg2 harg2 arg3 harg3 arg4 harg4 arg5 harg5 arg6 harg6 arg7 harg7 arg8 harg8 arg9 harg9 X 8 le_rfl _).2 ⟨tripOf (y 0), ?_, rfl⟩, in_scale y⟩
    have h0 : (y 0).val < 256 := (y 0).isLt
    show (y 0).val / 32 < 8
    omega

end whole

end Cert.KernelIdeal.Quant
-- ==== Proof.Decode.lean ====
module
public import proofs.«01_k».proof.Proof.Gen.KernelIdeal.Loops

/-!
The kernel's first loop, one trip of which decodes 256 columns of each half of the weights: what its stores hold.
-/

@[expose] public noncomputable section

namespace Cert.KernelIdeal.Decode

open Cert.KernelIdeal Cert.KernelIdeal.Gen Idealize.ShloMosaic

section pieces
variable {F : FTy → Type} [FloatOps F]

/-- The words whose bytes are the low halves of `w`'s bytes, as eight-bit floats. -/
def lowWords (w : IVec S8x256 32) : IVec S8x256 32 :=
  ori (shli (andi w (broadcast S8x256 117901063#32)) (broadcast S8x256 2#32)) (shli (andi w (broadcast S8x256 134744072#32)) (broadcast S8x256 4#32))

/-- The words whose bytes are the high halves of `w`'s bytes, as eight-bit floats. -/
def highWords (w : IVec S8x256 32) : IVec S8x256 32 :=
  ori (shli (andi (shrsi w (broadcast S8x256 4#32)) (broadcast S8x256 117901063#32)) (broadcast S8x256 2#32)) (andi w (broadcast S8x256 2155905152#32))

/-- A tile of decoded weights, from the packed bytes and the scales of its 256 columns. -/
def decodeV (b : Bool) (p : Vec F S32x256 .i8) (s : Vec F S1x256 .f32) : FVec F S32x256 .bf16 :=
  shapeCast S32x256 (mulf (mulf (extf .bf16 (bitcastToFloat .fp8e4m3 (bitcast S32x256 8
      (match b with | false => lowWords (bitcast S8x256 32 p bitcasts_S32x256_w8_S8x256_w32) | true => highWords (bitcast S8x256 32 p bitcasts_S32x256_w8_S8x256_w32))
      bitcasts_S8x256_w32_S32x256_w8)) bitsLt_fp8e4m3_bf16) (broadcast S32x256 (Scalar.ofBits .bf16 0x4280#16 : F .bf16)))
    (broadcastTo S32x256 (truncf .bf16 s bitsLt_bf16_f32) broadcasts_S1x256_S32x256)) shapeCasts_S32x256_S32x256

variable (𝒱 : Variants) (c : Dev nD) (bd : Option 𝒱.V) (i : grid0.Coords) (arg1 : Memref sig .tc .vmem S256x3584 .bf16) (harg1 : arg1.IsWhole)
  (arg2 : Memref sig .tc .vmem S3584x2048 .i8) (harg2 : arg2.IsWhole) (arg3 : Memref sig .tc .vmem S112x4096 .i8) (harg3 : arg3.IsWhole)
  (arg4 : Memref sig .tc .vmem S256x4096 .bf16) (harg4 : arg4.IsWhole) (arg5 : Memref sig .tc .vmem S256x3584 .fp8e4m3) (harg5 : arg5.IsWhole)
  (arg6 : Memref sig .tc .vmem S256x112 .f32) (harg6 : arg6.IsWhole) (arg7 : Memref sig .tc .vmem S3584x4096 .bf16) (harg7 : arg7.IsWhole)
  (arg8 : Memref sig .tc .vmem S112x4096 .f32) (harg8 : arg8.IsWhole) (arg9 : Memref sig .tc .vmem S256x3584 .bf16) (harg9 : arg9.IsWhole)
  (h1 : k0_cond1 i = 1#1) (X : BufTy.Contents (Elt F) arg2.view.ty) (Y : BufTy.Contents (Elt F) arg8.view.ty) (k : Fin k0_t1_loop.trips)

theorem trips_eq : k0_t1_loop.trips = 8 := by decide

/-- Which half: 0 the low halves, 1 the high ones. -/
def half (b : Bool) : ℕ := match b with | false => 0 | true => 1

theorem half_le (b : Bool) : half b ≤ 1 := by cases b <;> decide

variable {k}

theorem in_packed {g : Fin 112} {o : Fin S3584x2048.rank → ℕ} (h : o = ![32 * g.val, 256 * k.val]) (a : Fin S3584x2048.rank) :
    o a + S32x256.size a ≤ S3584x2048.size a := by
  have hk : k.val < 8 := lt_of_lt_of_eq k.isLt trips_eq
  have hg := g.isLt
  subst h
  fin_cases a
  · show 32 * g.val + 32 ≤ 3584
    omega
  · show 256 * k.val + 256 ≤ 2048
    omega

theorem in_scale {g : Fin 112} {b : Bool} {o : Fin S112x4096.rank → ℕ} (h : o = ![g.val, 2048 * half b + 256 * k.val]) (a : Fin S112x4096.rank) :
    o a + S1x256.size a ≤ S112x4096.size a := by
  have hk : k.val < 8 := lt_of_lt_of_eq k.isLt trips_eq
  have hg := g.isLt
  have hb := half_le b
  subst h
  fin_cases a
  · show g.val + 1 ≤ 112
    omega
  · show 2048 * half b + 256 * k.val + 256 ≤ 4096
    omega

theorem in_weight {g : Fin 112} {b : Bool} {o : Fin S3584x4096.rank → ℕ} (h : o = ![32 * g.val, 2048 * half b + 256 * k.val]) (a : Fin S3584x4096.rank) :
    o a + S32x256.size a ≤ S3584x4096.size a := by
  have hk : k.val < 8 := lt_of_lt_of_eq k.isLt trips_eq
  have hg := g.isLt
  have hb := half_le b
  subst h
  fin_cases a
  · show 32 * g.val + 32 ≤ 3584
    omega
  · show 2048 * half b + 256 * k.val + 256 ≤ 4096
    omega

variable (k)

/-- The store of the weights of one group of rows, of one half. -/
def IsPiece (q : Fin 112 × Bool) (p : View.Piece (Elt F) S3584x4096 .bf16) : Prop :=
  ∃ (o1 : Fin S3584x2048.rank → ℕ) (o2 : Fin S112x4096.rank → ℕ) (o3 : Fin S3584x4096.rank → ℕ)
    (e1 : o1 = ![32 * q.1.val, 256 * k.val]) (e2 : o2 = ![q.1.val, 2048 * half q.2 + 256 * k.val]) (e3 : o3 = ![32 * q.1.val, 2048 * half q.2 + 256 * k.val]),
    p = ⟨Rect.unit o3 S32x256.size (in_weight e3), decodeV q.2 (View.readAt (Elt F) arg2.view (Rect.unit o1 S32x256.size (in_packed e1)).toLoadRect X)
      (View.readAt (Elt F) arg8.view (Rect.unit o2 S1x256.size (in_scale e2)).toLoadRect Y)⟩

/-- The groups and halves, in the order the trip stores them, the last first. -/
def keys : List (Fin 112 × Bool) := (List.finRange 112).reverse.flatMap fun g => [(g, true), (g, false)]

theorem mem_keys (q : Fin 112 × Bool) : q ∈ keys := by
  unfold keys
  rw [List.mem_flatMap]
  obtain ⟨g, b⟩ := q
  exact ⟨g, List.mem_reverse.2 (List.mem_finRange g), by cases b <;> simp⟩

theorem trip_pieces : List.Forall₂ (IsPiece arg2 arg8 X Y k) keys (tripL_k0_t1 (F := F) 𝒱 c bd i arg1 harg1 arg2 harg2 arg3 harg3 arg4 harg4 arg5 harg5 arg6 harg6 arg7 harg7 arg8 harg8 arg9 harg9 h1 X Y k) := by
  unfold tripL_k0_t1 trip_k0_t1
  dsimp only
  refine .cons ⟨_, _, _, k0_off334_eq k, k0_off335_eq k 1, k0_off336_eq k 1, rfl⟩ ?_
  refine .cons ⟨_, _, _, k0_off334_eq k, k0_off335_eq k 0, k0_off336_eq k 0, rfl⟩ ?_
  refine .cons ⟨_, _, _, k0_off331_eq k, k0_off332_eq k 1, k0_off333_eq k 1, rfl⟩ ?_
  refine .cons ⟨_, _, _, k0_off331_eq k, k0_off332_eq k 0, k0_off333_eq k 0, rfl⟩ ?_
  refine .cons ⟨_, _, _, k0_off328_eq k, k0_off329_eq k 1, k0_off330_eq k 1, rfl⟩ ?_
  refine .cons ⟨_, _, _, k0_off328_eq k, k0_off329_eq k 0, k0_off330_eq k 0, rfl⟩ ?_
  refine .cons ⟨_, _, _, k0_off325_eq k, k0_off326_eq k 1, k0_off327_eq k 1, rfl⟩ ?_
  refine .cons ⟨_, _, _, k0_off325_eq k, k0_off326_eq k 0, k0_off327_eq k 0, rfl⟩ ?_
  refine .cons ⟨_, _, _, k0_off322_eq k, k0_off323_eq k 1, k0_off324_eq k 1, rfl⟩ ?_
  refine .cons ⟨_, _, _, k0_off322_eq k, k0_off323_eq k 0, k0_off324_eq k 0, rfl⟩ ?_
  refine .cons ⟨_, _, _, k0_off319_eq k, k0_off320_eq k 1, k0_off321_eq k 1, rfl⟩ ?_
  refine .cons ⟨_, _, _, k0_off319_eq k, k0_off320_eq k 0, k0_off321_eq k 0, rfl⟩ ?_
  refine .cons ⟨_, _, _, k0_off316_eq k, k0_off317_eq k 1, k0_off318_eq k 1, rfl⟩ ?_
  refine .cons ⟨_, _, _, k0_off316_eq k, k0_off317_eq k 0, k0_off318_eq k 0, rfl⟩ ?_
  refine .cons ⟨_, _, _, k0_off313_eq k, k0_off314_eq k 1, k0_off315_eq k 1, rfl⟩ ?_
  refine .cons ⟨_, _, _, k0_off313_eq k, k0_off314_eq k 0, k0_off315_eq k 0, rfl⟩ ?_
  refine .cons ⟨_, _, _, k0_off310_eq k, k0_off311_eq k 1, k0_off312_eq k 1, rfl⟩ ?_
  refine .cons ⟨_, _, _, k0_off310_eq k, k0_off311_eq k 0, k0_off312_eq k 0, rfl⟩ ?_
  refine .cons ⟨_, _, _, k0_off307_eq k, k0_off308_eq k 1, k0_off309_eq k 1, rfl⟩ ?_
  refine .cons ⟨_, _, _, k0_off307_eq k, k0_off308_eq k 0, k0_off309_eq k 0, rfl⟩ ?_
  refine .cons ⟨_, _, _, k0_off304_eq k, k0_off305_eq k 1, k0_off306_eq k 1, rfl⟩ ?_
  refine .cons ⟨_, _, _, k0_off304_eq k, k0_off305_eq k 0, k0_off306_eq k 0, rfl⟩ ?_
  refine .cons ⟨_, _, _, k0_off301_eq k, k0_off302_eq k 1, k0_off303_eq k 1, rfl⟩ ?_
  refine .cons ⟨_, _, _, k0_off301_eq k, k0_off302_eq k 0, k0_off303_eq k 0, rfl⟩ ?_
  refine .cons ⟨_, _, _, k0_off298_eq k, k0_off299_eq k 1, k0_off300_eq k 1, rfl⟩ ?_
  refine .cons ⟨_, _, _, k0_off298_eq k, k0_off299_eq k 0, k0_off300_eq k 0, rfl⟩ ?_
  refine .cons ⟨_, _, _, k0_off295_eq k, k0_off296_eq k 1, k0_off297_eq k 1, rfl⟩ ?_
  refine .cons ⟨_, _, _, k0_off295_eq k, k0_off296_eq k 0, k0_off297_eq k 0, rfl⟩ ?_
  refine .cons ⟨_, _, _, k0_off292_eq k, k0_off293_eq k 1, k0_off294_eq k 1, rfl⟩ ?_
  refine .cons ⟨_, _, _, k0_off292_eq k, k0_off293_eq k 0, k0_off294_eq k 0, rfl⟩ ?_
  refine .cons ⟨_, _, _, k0_off289_eq k, k0_off290_eq k 1, k0_off291_eq k 1, rfl⟩ ?_
  refine .cons ⟨_, _, _, k0_off289_eq k, k0_off290_eq k 0, k0_off291_eq k 0, rfl⟩ ?_
  refine .cons ⟨_, _, _, k0_off286_eq k, k0_off287_eq k 1, k0_off288_eq k 1, rfl⟩ ?_
  refine .cons ⟨_, _, _, k0_off286_eq k, k0_off287_eq k 0, k0_off288_eq k 0, rfl⟩ ?_
  refine .cons ⟨_, _, _, k0_off283_eq k, k0_off284_eq k 1, k0_off285_eq k 1, rfl⟩ ?_
  refine .cons ⟨_, _, _, k0_off283_eq k, k0_off284_eq k 0, k0_off285_eq k 0, rfl⟩ ?_
  refine .cons ⟨_, _, _, k0_off280_eq k, k0_off281_eq k 1, k0_off282_eq k 1, rfl⟩ ?_
  refine .cons ⟨_, _, _, k0_off280_eq k, k0_off281_eq k 0, k0_off282_eq k 0, rfl⟩ ?_
  refine .cons ⟨_, _, _, k0_off277_eq k, k0_off278_eq k 1, k0_off279_eq k 1, rfl⟩ ?_
  refine .cons ⟨_, _, _, k0_off277_eq k, k0_off278_eq k 0, k0_off279_eq k 0, rfl⟩ ?_
  refine .cons ⟨_, _, _, k0_off274_eq k, k0_off275_eq k 1, k0_off276_eq k 1, rfl⟩ ?_
  refine .cons ⟨_, _, _, k0_off274_eq k, k0_off275_eq k 0, k0_off276_eq k 0, rfl⟩ ?_
  refine .cons ⟨_, _, _, k0_off271_eq k, k0_off272_eq k 1, k0_off273_eq k 1, rfl⟩ ?_
  refine .cons ⟨_, _, _, k0_off271_eq k, k0_off272_eq k 0, k0_off273_eq k 0, rfl⟩ ?_
  refine .cons ⟨_, _, _, k0_off268_eq k, k0_off269_eq k 1, k0_off270_eq k 1, rfl⟩ ?_
  refine .cons ⟨_, _, _, k0_off268_eq k, k0_off269_eq k 0, k0_off270_eq k 0, rfl⟩ ?_
  refine .cons ⟨_, _, _, k0_off265_eq k, k0_off266_eq k 1, k0_off267_eq k 1, rfl⟩ ?_
  refine .cons ⟨_, _, _, k0_off265_eq k, k0_off266_eq k 0, k0_off267_eq k 0, rfl⟩ ?_
  refine .cons ⟨_, _, _, k0_off262_eq k, k0_off263_eq k 1, k0_off264_eq k 1, rfl⟩ ?_
  refine .cons ⟨_, _, _, k0_off262_eq k, k0_off263_eq k 0, k0_off264_eq k 0, rfl⟩ ?_
  refine .cons ⟨_, _, _, k0_off259_eq k, k0_off260_eq k 1, k0_off261_eq k 1, rfl⟩ ?_
  refine .cons ⟨_, _, _, k0_off259_eq k, k0_off260_eq k 0, k0_off261_eq k 0, rfl⟩ ?_
  refine .cons ⟨_, _, _, k0_off256_eq k, k0_off257_eq k 1, k0_off258_eq k 1, rfl⟩ ?_
  refine .cons ⟨_, _, _, k0_off256_eq k, k0_off257_eq k 0, k0_off258_eq k 0, rfl⟩ ?_
  refine .cons ⟨_, _, _, k0_off253_eq k, k0_off254_eq k 1, k0_off255_eq k 1, rfl⟩ ?_
  refine .cons ⟨_, _, _, k0_off253_eq k, k0_off254_eq k 0, k0_off255_eq k 0, rfl⟩ ?_
  refine .cons ⟨_, _, _, k0_off250_eq k, k0_off251_eq k 1, k0_off252_eq k 1, rfl⟩ ?_
  refine .cons ⟨_, _, _, k0_off250_eq k, k0_off251_eq k 0, k0_off252_eq k 0, rfl⟩ ?_
  refine .cons ⟨_, _, _, k0_off247_eq k, k0_off248_eq k 1, k0_off249_eq k 1, rfl⟩ ?_
  refine .cons ⟨_, _, _, k0_off247_eq k, k0_off248_eq k 0, k0_off249_eq k 0, rfl⟩ ?_
  refine .cons ⟨_, _, _, k0_off244_eq k, k0_off245_eq k 1, k0_off246_eq k 1, rfl⟩ ?_
  refine .cons ⟨_, _, _, k0_off244_eq k, k0_off245_eq k 0, k0_off246_eq k 0, rfl⟩ ?_
  refine .cons ⟨_, _, _, k0_off241_eq k, k0_off242_eq k 1, k0_off243_eq k 1, rfl⟩ ?_
  refine .cons ⟨_, _, _, k0_off241_eq k, k0_off242_eq k 0, k0_off243_eq k 0, rfl⟩ ?_
  refine .cons ⟨_, _, _, k0_off238_eq k, k0_off239_eq k 1, k0_off240_eq k 1, rfl⟩ ?_
  refine .cons ⟨_, _, _, k0_off238_eq k, k0_off239_eq k 0, k0_off240_eq k 0, rfl⟩ ?_
  refine .cons ⟨_, _, _, k0_off235_eq k, k0_off236_eq k 1, k0_off237_eq k 1, rfl⟩ ?_
  refine .cons ⟨_, _, _, k0_off235_eq k, k0_off236_eq k 0, k0_off237_eq k 0, rfl⟩ ?_
  refine .cons ⟨_, _, _, k0_off232_eq k, k0_off233_eq k 1, k0_off234_eq k 1, rfl⟩ ?_
  refine .cons ⟨_, _, _, k0_off232_eq k, k0_off233_eq k 0, k0_off234_eq k 0, rfl⟩ ?_
  refine .cons ⟨_, _, _, k0_off229_eq k, k0_off230_eq k 1, k0_off231_eq k 1, rfl⟩ ?_
  refine .cons ⟨_, _, _, k0_off229_eq k, k0_off230_eq k 0, k0_off231_eq k 0, rfl⟩ ?_
  refine .cons ⟨_, _, _, k0_off226_eq k, k0_off227_eq k 1, k0_off228_eq k 1, rfl⟩ ?_
  refine .cons ⟨_, _, _, k0_off226_eq k, k0_off227_eq k 0, k0_off228_eq k 0, rfl⟩ ?_
  refine .cons ⟨_, _, _, k0_off223_eq k, k0_off224_eq k 1, k0_off225_eq k 1, rfl⟩ ?_
  refine .cons ⟨_, _, _, k0_off223_eq k, k0_off224_eq k 0, k0_off225_eq k 0, rfl⟩ ?_
  refine .cons ⟨_, _, _, k0_off220_eq k, k0_off221_eq k 1, k0_off222_eq k 1, rfl⟩ ?_
  refine .cons ⟨_, _, _, k0_off220_eq k, k0_off221_eq k 0, k0_off222_eq k 0, rfl⟩ ?_
  refine .cons ⟨_, _, _, k0_off217_eq k, k0_off218_eq k 1, k0_off219_eq k 1, rfl⟩ ?_
  refine .cons ⟨_, _, _, k0_off217_eq k, k0_off218_eq k 0, k0_off219_eq k 0, rfl⟩ ?_
  refine .cons ⟨_, _, _, k0_off214_eq k, k0_off215_eq k 1, k0_off216_eq k 1, rfl⟩ ?_
  refine .cons ⟨_, _, _, k0_off214_eq k, k0_off215_eq k 0, k0_off216_eq k 0, rfl⟩ ?_
  refine .cons ⟨_, _, _, k0_off211_eq k, k0_off212_eq k 1, k0_off213_eq k 1, rfl⟩ ?_
  refine .cons ⟨_, _, _, k0_off211_eq k, k0_off212_eq k 0, k0_off213_eq k 0, rfl⟩ ?_
  refine .cons ⟨_, _, _, k0_off208_eq k, k0_off209_eq k 1, k0_off210_eq k 1, rfl⟩ ?_
  refine .cons ⟨_, _, _, k0_off208_eq k, k0_off209_eq k 0, k0_off210_eq k 0, rfl⟩ ?_
  refine .cons ⟨_, _, _, k0_off205_eq k, k0_off206_eq k 1, k0_off207_eq k 1, rfl⟩ ?_
  refine .cons ⟨_, _, _, k0_off205_eq k, k0_off206_eq k 0, k0_off207_eq k 0, rfl⟩ ?_
  refine .cons ⟨_, _, _, k0_off202_eq k, k0_off203_eq k 1, k0_off204_eq k 1, rfl⟩ ?_
  refine .cons ⟨_, _, _, k0_off202_eq k, k0_off203_eq k 0, k0_off204_eq k 0, rfl⟩ ?_
  refine .cons ⟨_, _, _, k0_off199_eq k, k0_off200_eq k 1, k0_off201_eq k 1, rfl⟩ ?_
  refine .cons ⟨_, _, _, k0_off199_eq k, k0_off200_eq k 0, k0_off201_eq k 0, rfl⟩ ?_
  refine .cons ⟨_, _, _, k0_off196_eq k, k0_off197_eq k 1, k0_off198_eq k 1, rfl⟩ ?_
  refine .cons ⟨_, _, _, k0_off196_eq k, k0_off197_eq k 0, k0_off198_eq k 0, rfl⟩ ?_
  refine .cons ⟨_, _, _, k0_off193_eq k, k0_off194_eq k 1, k0_off195_eq k 1, rfl⟩ ?_
  refine .cons ⟨_, _, _, k0_off193_eq k, k0_off194_eq k 0, k0_off195_eq k 0, rfl⟩ ?_
  refine .cons ⟨_, _, _, k0_off190_eq k, k0_off191_eq k 1, k0_off192_eq k 1, rfl⟩ ?_
  refine .cons ⟨_, _, _, k0_off190_eq k, k0_off191_eq k 0, k0_off192_eq k 0, rfl⟩ ?_
  refine .cons ⟨_, _, _, k0_off187_eq k, k0_off188_eq k 1, k0_off189_eq k 1, rfl⟩ ?_
  refine .cons ⟨_, _, _, k0_off187_eq k, k0_off188_eq k 0, k0_off189_eq k 0, rfl⟩ ?_
  refine .cons ⟨_, _, _, k0_off184_eq k, k0_off185_eq k 1, k0_off186_eq k 1, rfl⟩ ?_
  refine .cons ⟨_, _, _, k0_off184_eq k, k0_off185_eq k 0, k0_off186_eq k 0, rfl⟩ ?_
  refine .cons ⟨_, _, _, k0_off181_eq k, k0_off182_eq k 1, k0_off183_eq k 1, rfl⟩ ?_
  refine .cons ⟨_, _, _, k0_off181_eq k, k0_off182_eq k 0, k0_off183_eq k 0, rfl⟩ ?_
  refine .cons ⟨_, _, _, k0_off178_eq k, k0_off179_eq k 1, k0_off180_eq k 1, rfl⟩ ?_
  refine .cons ⟨_, _, _, k0_off178_eq k, k0_off179_eq k 0, k0_off180_eq k 0, rfl⟩ ?_
  refine .cons ⟨_, _, _, k0_off175_eq k, k0_off176_eq k 1, k0_off177_eq k 1, rfl⟩ ?_
  refine .cons ⟨_, _, _, k0_off175_eq k, k0_off176_eq k 0, k0_off177_eq k 0, rfl⟩ ?_
  refine .cons ⟨_, _, _, k0_off172_eq k, k0_off173_eq k 1, k0_off174_eq k 1, rfl⟩ ?_
  refine .cons ⟨_, _, _, k0_off172_eq k, k0_off173_eq k 0, k0_off174_eq k 0, rfl⟩ ?_
  refine .cons ⟨_, _, _, k0_off169_eq k, k0_off170_eq k 1, k0_off171_eq k 1, rfl⟩ ?_
  refine .cons ⟨_, _, _, k0_off169_eq k, k0_off170_eq k 0, k0_off171_eq k 0, rfl⟩ ?_
  refine .cons ⟨_, _, _, k0_off166_eq k, k0_off167_eq k 1, k0_off168_eq k 1, rfl⟩ ?_
  refine .cons ⟨_, _, _, k0_off166_eq k, k0_off167_eq k 0, k0_off168_eq k 0, rfl⟩ ?_
  refine .cons ⟨_, _, _, k0_off163_eq k, k0_off164_eq k 1, k0_off165_eq k 1, rfl⟩ ?_
  refine .cons ⟨_, _, _, k0_off163_eq k, k0_off164_eq k 0, k0_off165_eq k 0, rfl⟩ ?_
  refine .cons ⟨_, _, _, k0_off160_eq k, k0_off161_eq k 1, k0_off162_eq k 1, rfl⟩ ?_
  refine .cons ⟨_, _, _, k0_off160_eq k, k0_off161_eq k 0, k0_off162_eq k 0, rfl⟩ ?_
  refine .cons ⟨_, _, _, k0_off157_eq k, k0_off158_eq k 1, k0_off159_eq k 1, rfl⟩ ?_
  refine .cons ⟨_, _, _, k0_off157_eq k, k0_off158_eq k 0, k0_off159_eq k 0, rfl⟩ ?_
  refine .cons ⟨_, _, _, k0_off154_eq k, k0_off155_eq k 1, k0_off156_eq k 1, rfl⟩ ?_
  refine .cons ⟨_, _, _, k0_off154_eq k, k0_off155_eq k 0, k0_off156_eq k 0, rfl⟩ ?_
  refine .cons ⟨_, _, _, k0_off151_eq k, k0_off152_eq k 1, k0_off153_eq k 1, rfl⟩ ?_
  refine .cons ⟨_, _, _, k0_off151_eq k, k0_off152_eq k 0, k0_off153_eq k 0, rfl⟩ ?_
  refine .cons ⟨_, _, _, k0_off148_eq k, k0_off149_eq k 1, k0_off150_eq k 1, rfl⟩ ?_
  refine .cons ⟨_, _, _, k0_off148_eq k, k0_off149_eq k 0, k0_off150_eq k 0, rfl⟩ ?_
  refine .cons ⟨_, _, _, k0_off145_eq k, k0_off146_eq k 1, k0_off147_eq k 1, rfl⟩ ?_
  refine .cons ⟨_, _, _, k0_off145_eq k, k0_off146_eq k 0, k0_off147_eq k 0, rfl⟩ ?_
  refine .cons ⟨_, _, _, k0_off142_eq k, k0_off143_eq k 1, k0_off144_eq k 1, rfl⟩ ?_
  refine .cons ⟨_, _, _, k0_off142_eq k, k0_off143_eq k 0, k0_off144_eq k 0, rfl⟩ ?_
  refine .cons ⟨_, _, _, k0_off139_eq k, k0_off140_eq k 1, k0_off141_eq k 1, rfl⟩ ?_
  refine .cons ⟨_, _, _, k0_off139_eq k, k0_off140_eq k 0, k0_off141_eq k 0, rfl⟩ ?_
  refine .cons ⟨_, _, _, k0_off136_eq k, k0_off137_eq k 1, k0_off138_eq k 1, rfl⟩ ?_
  refine .cons ⟨_, _, _, k0_off136_eq k, k0_off137_eq k 0, k0_off138_eq k 0, rfl⟩ ?_
  refine .cons ⟨_, _, _, k0_off133_eq k, k0_off134_eq k 1, k0_off135_eq k 1, rfl⟩ ?_
  refine .cons ⟨_, _, _, k0_off133_eq k, k0_off134_eq k 0, k0_off135_eq k 0, rfl⟩ ?_
  refine .cons ⟨_, _, _, k0_off130_eq k, k0_off131_eq k 1, k0_off132_eq k 1, rfl⟩ ?_
  refine .cons ⟨_, _, _, k0_off130_eq k, k0_off131_eq k 0, k0_off132_eq k 0, rfl⟩ ?_
  refine .cons ⟨_, _, _, k0_off127_eq k, k0_off128_eq k 1, k0_off129_eq k 1, rfl⟩ ?_
  refine .cons ⟨_, _, _, k0_off127_eq k, k0_off128_eq k 0, k0_off129_eq k 0, rfl⟩ ?_
  refine .cons ⟨_, _, _, k0_off124_eq k, k0_off125_eq k 1, k0_off126_eq k 1, rfl⟩ ?_
  refine .cons ⟨_, _, _, k0_off124_eq k, k0_off125_eq k 0, k0_off126_eq k 0, rfl⟩ ?_
  refine .cons ⟨_, _, _, k0_off121_eq k, k0_off122_eq k 1, k0_off123_eq k 1, rfl⟩ ?_
  refine .cons ⟨_, _, _, k0_off121_eq k, k0_off122_eq k 0, k0_off123_eq k 0, rfl⟩ ?_
  refine .cons ⟨_, _, _, k0_off118_eq k, k0_off119_eq k 1, k0_off120_eq k 1, rfl⟩ ?_
  refine .cons ⟨_, _, _, k0_off118_eq k, k0_off119_eq k 0, k0_off120_eq k 0, rfl⟩ ?_
  refine .cons ⟨_, _, _, k0_off115_eq k, k0_off116_eq k 1, k0_off117_eq k 1, rfl⟩ ?_
  refine .cons ⟨_, _, _, k0_off115_eq k, k0_off116_eq k 0, k0_off117_eq k 0, rfl⟩ ?_
  refine .cons ⟨_, _, _, k0_off112_eq k, k0_off113_eq k 1, k0_off114_eq k 1, rfl⟩ ?_
  refine .cons ⟨_, _, _, k0_off112_eq k, k0_off113_eq k 0, k0_off114_eq k 0, rfl⟩ ?_
  refine .cons ⟨_, _, _, k0_off109_eq k, k0_off110_eq k 1, k0_off111_eq k 1, rfl⟩ ?_
  refine .cons ⟨_, _, _, k0_off109_eq k, k0_off110_eq k 0, k0_off111_eq k 0, rfl⟩ ?_
  refine .cons ⟨_, _, _, k0_off106_eq k, k0_off107_eq k 1, k0_off108_eq k 1, rfl⟩ ?_
  refine .cons ⟨_, _, _, k0_off106_eq k, k0_off107_eq k 0, k0_off108_eq k 0, rfl⟩ ?_
  refine .cons ⟨_, _, _, k0_off103_eq k, k0_off104_eq k 1, k0_off105_eq k 1, rfl⟩ ?_
  refine .cons ⟨_, _, _, k0_off103_eq k, k0_off104_eq k 0, k0_off105_eq k 0, rfl⟩ ?_
  refine .cons ⟨_, _, _, k0_off100_eq k, k0_off101_eq k 1, k0_off102_eq k 1, rfl⟩ ?_
  refine .cons ⟨_, _, _, k0_off100_eq k, k0_off101_eq k 0, k0_off102_eq k 0, rfl⟩ ?_
  refine .cons ⟨_, _, _, k0_off97_eq k, k0_off98_eq k 1, k0_off99_eq k 1, rfl⟩ ?_
  refine .cons ⟨_, _, _, k0_off97_eq k, k0_off98_eq k 0, k0_off99_eq k 0, rfl⟩ ?_
  refine .cons ⟨_, _, _, k0_off94_eq k, k0_off95_eq k 1, k0_off96_eq k 1, rfl⟩ ?_
  refine .cons ⟨_, _, _, k0_off94_eq k, k0_off95_eq k 0, k0_off96_eq k 0, rfl⟩ ?_
  refine .cons ⟨_, _, _, k0_off91_eq k, k0_off92_eq k 1, k0_off93_eq k 1, rfl⟩ ?_
  refine .cons ⟨_, _, _, k0_off91_eq k, k0_off92_eq k 0, k0_off93_eq k 0, rfl⟩ ?_
  refine .cons ⟨_, _, _, k0_off88_eq k, k0_off89_eq k 1, k0_off90_eq k 1, rfl⟩ ?_
  refine .cons ⟨_, _, _, k0_off88_eq k, k0_off89_eq k 0, k0_off90_eq k 0, rfl⟩ ?_
  refine .cons ⟨_, _, _, k0_off85_eq k, k0_off86_eq k 1, k0_off87_eq k 1, rfl⟩ ?_
  refine .cons ⟨_, _, _, k0_off85_eq k, k0_off86_eq k 0, k0_off87_eq k 0, rfl⟩ ?_
  refine .cons ⟨_, _, _, k0_off82_eq k, k0_off83_eq k 1, k0_off84_eq k 1, rfl⟩ ?_
  refine .cons ⟨_, _, _, k0_off82_eq k, k0_off83_eq k 0, k0_off84_eq k 0, rfl⟩ ?_
  refine .cons ⟨_, _, _, k0_off79_eq k, k0_off80_eq k 1, k0_off81_eq k 1, rfl⟩ ?_
  refine .cons ⟨_, _, _, k0_off79_eq k, k0_off80_eq k 0, k0_off81_eq k 0, rfl⟩ ?_
  refine .cons ⟨_, _, _, k0_off76_eq k, k0_off77_eq k 1, k0_off78_eq k 1, rfl⟩ ?_
  refine .cons ⟨_, _, _, k0_off76_eq k, k0_off77_eq k 0, k0_off78_eq k 0, rfl⟩ ?_
  refine .cons ⟨_, _, _, k0_off73_eq k, k0_off74_eq k 1, k0_off75_eq k 1, rfl⟩ ?_
  refine .cons ⟨_, _, _, k0_off73_eq k, k0_off74_eq k 0, k0_off75_eq k 0, rfl⟩ ?_
  refine .cons ⟨_, _, _, k0_off70_eq k, k0_off71_eq k 1, k0_off72_eq k 1, rfl⟩ ?_
  refine .cons ⟨_, _, _, k0_off70_eq k, k0_off71_eq k 0, k0_off72_eq k 0, rfl⟩ ?_
  refine .cons ⟨_, _, _, k0_off67_eq k, k0_off68_eq k 1, k0_off69_eq k 1, rfl⟩ ?_
  refine .cons ⟨_, _, _, k0_off67_eq k, k0_off68_eq k 0, k0_off69_eq k 0, rfl⟩ ?_
  refine .cons ⟨_, _, _, k0_off64_eq k, k0_off65_eq k 1, k0_off66_eq k 1, rfl⟩ ?_
  refine .cons ⟨_, _, _, k0_off64_eq k, k0_off65_eq k 0, k0_off66_eq k 0, rfl⟩ ?_
  refine .cons ⟨_, _, _, k0_off61_eq k, k0_off62_eq k 1, k0_off63_eq k 1, rfl⟩ ?_
  refine .cons ⟨_, _, _, k0_off61_eq k, k0_off62_eq k 0, k0_off63_eq k 0, rfl⟩ ?_
  refine .cons ⟨_, _, _, k0_off58_eq k, k0_off59_eq k 1, k0_off60_eq k 1, rfl⟩ ?_
  refine .cons ⟨_, _, _, k0_off58_eq k, k0_off59_eq k 0, k0_off60_eq k 0, rfl⟩ ?_
  refine .cons ⟨_, _, _, k0_off55_eq k, k0_off56_eq k 1, k0_off57_eq k 1, rfl⟩ ?_
  refine .cons ⟨_, _, _, k0_off55_eq k, k0_off56_eq k 0, k0_off57_eq k 0, rfl⟩ ?_
  refine .cons ⟨_, _, _, k0_off52_eq k, k0_off53_eq k 1, k0_off54_eq k 1, rfl⟩ ?_
  refine .cons ⟨_, _, _, k0_off52_eq k, k0_off53_eq k 0, k0_off54_eq k 0, rfl⟩ ?_
  refine .cons ⟨_, _, _, k0_off49_eq k, k0_off50_eq k 1, k0_off51_eq k 1, rfl⟩ ?_
  refine .cons ⟨_, _, _, k0_off49_eq k, k0_off50_eq k 0, k0_off51_eq k 0, rfl⟩ ?_
  refine .cons ⟨_, _, _, k0_off46_eq k, k0_off47_eq k 1, k0_off48_eq k 1, rfl⟩ ?_
  refine .cons ⟨_, _, _, k0_off46_eq k, k0_off47_eq k 0, k0_off48_eq k 0, rfl⟩ ?_
  refine .cons ⟨_, _, _, k0_off43_eq k, k0_off44_eq k 1, k0_off45_eq k 1, rfl⟩ ?_
  refine .cons ⟨_, _, _, k0_off43_eq k, k0_off44_eq k 0, k0_off45_eq k 0, rfl⟩ ?_
  refine .cons ⟨_, _, _, k0_off40_eq k, k0_off41_eq k 1, k0_off42_eq k 1, rfl⟩ ?_
  refine .cons ⟨_, _, _, k0_off40_eq k, k0_off41_eq k 0, k0_off42_eq k 0, rfl⟩ ?_
  refine .cons ⟨_, _, _, k0_off37_eq k, k0_off38_eq k 1, k0_off39_eq k 1, rfl⟩ ?_
  refine .cons ⟨_, _, _, k0_off37_eq k, k0_off38_eq k 0, k0_off39_eq k 0, rfl⟩ ?_
  refine .cons ⟨_, _, _, k0_off34_eq k, k0_off35_eq k 1, k0_off36_eq k 1, rfl⟩ ?_
  refine .cons ⟨_, _, _, k0_off34_eq k, k0_off35_eq k 0, k0_off36_eq k 0, rfl⟩ ?_
  refine .cons ⟨_, _, _, k0_off31_eq k, k0_off32_eq k 1, k0_off33_eq k 1, rfl⟩ ?_
  refine .cons ⟨_, _, _, k0_off31_eq k, k0_off32_eq k 0, k0_off33_eq k 0, rfl⟩ ?_
  refine .cons ⟨_, _, _, k0_off28_eq k, k0_off29_eq k 1, k0_off30_eq k 1, rfl⟩ ?_
  refine .cons ⟨_, _, _, k0_off28_eq k, k0_off29_eq k 0, k0_off30_eq k 0, rfl⟩ ?_
  refine .cons ⟨_, _, _, k0_off25_eq k, k0_off26_eq k 1, k0_off27_eq k 1, rfl⟩ ?_
  refine .cons ⟨_, _, _, k0_off25_eq k, k0_off26_eq k 0, k0_off27_eq k 0, rfl⟩ ?_
  refine .cons ⟨_, _, _, k0_off22_eq k, k0_off23_eq k 1, k0_off24_eq k 1, rfl⟩ ?_
  refine .cons ⟨_, _, _, k0_off22_eq k, k0_off23_eq k 0, k0_off24_eq k 0, rfl⟩ ?_
  refine .cons ⟨_, _, _, k0_off19_eq k, k0_off20_eq k 1, k0_off21_eq k 1, rfl⟩ ?_
  refine .cons ⟨_, _, _, k0_off19_eq k, k0_off20_eq k 0, k0_off21_eq k 0, rfl⟩ ?_
  refine .cons ⟨_, _, _, k0_off16_eq k, k0_off17_eq k 1, k0_off18_eq k 1, rfl⟩ ?_
  refine .cons ⟨_, _, _, k0_off16_eq k, k0_off17_eq k 0, k0_off18_eq k 0, rfl⟩ ?_
  refine .cons ⟨_, _, _, k0_off13_eq k, k0_off14_eq k 1, k0_off15_eq k 1, rfl⟩ ?_
  refine .cons ⟨_, _, _, k0_off13_eq k, k0_off14_eq k 0, k0_off15_eq k 0, rfl⟩ ?_
  refine .cons ⟨_, _, _, k0_off10_eq k, k0_off11_eq k 1, k0_off12_eq k 1, rfl⟩ ?_
  refine .cons ⟨_, _, _, k0_off10_eq k, k0_off11_eq k 0, k0_off12_eq k 0, rfl⟩ ?_
  refine .cons ⟨_, _, _, k0_off7_eq k, k0_off8_eq k 1, k0_off9_eq k 1, rfl⟩ ?_
  refine .cons ⟨_, _, _, k0_off7_eq k, k0_off8_eq k 0, k0_off9_eq k 0, rfl⟩ ?_
  refine .cons ⟨_, _, _, k0_off4_eq k, k0_off5_eq k 1, k0_off6_eq k 1, rfl⟩ ?_
  refine .cons ⟨_, _, _, k0_off4_eq k, k0_off5_eq k 0, k0_off6_eq k 0, rfl⟩ ?_
  refine .cons ⟨_, _, _, k0_off1_eq k, k0_off2_eq k 1, k0_off3_eq k 1, rfl⟩ ?_
  refine .cons ⟨_, _, _, k0_off1_eq k, k0_off2_eq k 0, k0_off3_eq k 0, rfl⟩ ?_
  exact .nil

end pieces

end Cert.KernelIdeal.Decode
-- ==== Proof.DecodeValue.lean ====
module
public import proofs.«01_k».proof.Proof.Decode
public import proofs.«01_k».proof.Proof.Spec
public import Idealize.ShloMosaic.Lib.ValueIdxCore
import Idealize.ShloMosaic.Lib.BitcastFour
import Idealize.ShloMosaic.Lib.Pointwise.Reshape
import Idealize.ShloMosaic.Lib.Writes

/-!
What the kernel's first loop leaves, over the extended reals: every weight, decoded and scaled.
-/

@[expose] public noncomputable section

namespace Cert.KernelIdeal.Decode

open Cert.KernelIdeal Cert.KernelIdeal.Gen Idealize.ShloMosaic Cert.Spec Cert.Arith

/-! ### Bits -/

/-- Bit `q` of the eight-bit float with the code whose bits are `n 0 … n 3`. -/
def spread (n : ℕ → Bool) (q : ℕ) : Bool := match q with | 2 => n 0 | 3 => n 1 | 4 => n 2 | 7 => n 3 | _ => false

theorem mask7 : ∀ p : Fin 32, (117901063#32).getLsbD p.val = decide (p.val % 8 < 3) := by decide +kernel
theorem mask8 : ∀ p : Fin 32, (134744072#32).getLsbD p.val = decide (p.val % 8 = 3) := by decide +kernel
theorem mask128 : ∀ p : Fin 32, (2155905152#32).getLsbD p.val = decide (p.val % 8 = 7) := by decide +kernel

theorem shli_bit (w : BitVec 32) (s : ℕ) (hs : s < 32) (p : ℕ) (hp : p < 32) :
    (IntOp.shli .vector w (BitVec.ofNat 32 s)).getLsbD p = (!decide (p < s) && w.getLsbD (p - s)) := by
  have e : (BitVec.ofNat 32 s).toNat = s := by rw [BitVec.toNat_ofNat]; omega
  have : IntOp.shli .vector w (BitVec.ofNat 32 s) = w <<< s := by
    unfold IntOp.shli
    rw [e, if_pos hs]
    show w <<< (BitVec.ofNat 32 s).toNat = _
    rw [e]
  rw [this, BitVec.getLsbD_shiftLeft]
  simp [hp]

theorem shrsi_bit (w : BitVec 32) (p : ℕ) (hp : p < 28) : (IntOp.shrsi .vector w 4#32).getLsbD p = w.getLsbD (4 + p) := by
  have : IntOp.shrsi .vector w 4#32 = w.sshiftRight 4 := by
    unfold IntOp.shrsi
    rw [if_pos (by decide)]
    rfl
  rw [this, BitVec.getLsbD_sshiftRight]
  have h1 : 4 + p < 32 := by omega
  have h2 : ¬ 32 ≤ p := by omega
  simp [h1, h2]

/-- The low halves, bit by bit. -/
theorem low_bits (w : BitVec 32) (m q : ℕ) (hm : m < 4) (hq : q < 8) :
    (IntOp.ori (IntOp.shli .vector (IntOp.andi w 117901063#32) 2#32) (IntOp.shli .vector (IntOp.andi w 134744072#32) 4#32)).getLsbD (8 * m + q)
      = spread (fun j => w.getLsbD (8 * m + j)) q := by
  have hp : 8 * m + q < 32 := by omega
  show (_ ||| _ : BitVec 32).getLsbD _ = _
  rw [BitVec.getLsbD_or, shli_bit _ 2 (by decide) _ hp, shli_bit _ 4 (by decide) _ hp]
  show ((!decide (8 * m + q < 2) && (w &&& 117901063#32).getLsbD (8 * m + q - 2)) || (!decide (8 * m + q < 4) && (w &&& 134744072#32).getLsbD (8 * m + q - 4))) = _
  rw [BitVec.getLsbD_and, BitVec.getLsbD_and, mask7 ⟨8 * m + q - 2, by omega⟩, mask8 ⟨8 * m + q - 4, by omega⟩]
  interval_cases m <;> interval_cases q <;> simp [spread]

/-- The high halves, bit by bit. -/
theorem high_bits (w : BitVec 32) (m q : ℕ) (hm : m < 4) (hq : q < 8) :
    (IntOp.ori (IntOp.shli .vector (IntOp.andi (IntOp.shrsi .vector w 4#32) 117901063#32) 2#32) (IntOp.andi w 2155905152#32)).getLsbD (8 * m + q)
      = spread (fun j => w.getLsbD (8 * m + (4 + j))) q := by
  have hp : 8 * m + q < 32 := by omega
  show (_ ||| _ : BitVec 32).getLsbD _ = _
  rw [BitVec.getLsbD_or, shli_bit _ 2 (by decide) _ hp]
  show ((!decide (8 * m + q < 2) && (IntOp.shrsi .vector w 4#32 &&& 117901063#32).getLsbD (8 * m + q - 2)) || (w &&& 2155905152#32).getLsbD (8 * m + q)) = _
  rw [BitVec.getLsbD_and, BitVec.getLsbD_and, mask7 ⟨8 * m + q - 2, by omega⟩, mask128 ⟨8 * m + q, by omega⟩]
  by_cases h : 8 * m + q - 2 < 28
  · rw [shrsi_bit w _ h]
    interval_cases m <;> interval_cases q <;> simp_all [spread]
  · have hm3 : m = 3 := by omega
    subst hm3
    interval_cases q <;> simp_all [spread]

/-- A byte is the code its bits spell. -/
theorem byte_of_bits (b : BitVec 8) (n : ℕ → Bool) (h : ∀ q, q < 8 → b.getLsbD q = spread n q) :
    b = BitVec.ofNat 8 ((n 0).toNat * 4 + (n 1).toNat * 8 + (n 2).toNat * 16 + (n 3).toNat * 128) := by
  apply BitVec.eq_of_getLsbD_eq
  intro q hq
  rw [h q hq]
  generalize hn0 : n 0 = n0
  generalize hn1 : n 1 = n1
  generalize hn2 : n 2 = n2
  generalize hn3 : n 3 = n3
  interval_cases q <;> simp only [spread, hn0, hn1, hn2, hn3] <;> revert n0 n1 n2 n3 <;> intro n0 _ n1 _ n2 _ n3 _ <;> cases n0 <;> cases n1 <;> cases n2 <;> cases n3 <;> rfl

/-! ### A tile -/

/-- Bytes out of words: bit `q` of row `r` is bit `8 (r % 4) + q` of word row `r / 4`. -/
theorem words_bit (w : IVec S8x256 32) (r : Fin 32) (l : Fin 256) (q : ℕ) (hq : q < 8) :
    (bitcast S32x256 8 w bitcasts_S8x256_w32_S32x256_w8 (ValueIdx.ix2 (n0 := 32) (n1 := 256) r l)).getLsbD q =
      (w (ValueIdx.ix2 (n0 := 8) (n1 := 256) ⟨r.val / 4, by omega⟩ l)).getLsbD (8 * (r.val % 4) + q) := by
  rw [bitcast_getLsbD w bitcasts_S8x256_w32_S32x256_w8 _ q hq (by decide)]
  have e : S32x256.row (ValueIdx.ix2 (n0 := 32) (n1 := 256) r l) = r.val := rfl
  have e2 : (S32x256.row (ValueIdx.ix2 (n0 := 32) (n1 := 256) r l) * 8 + q) % 32 = 8 * (r.val % 4) + q := by rw [e]; omega
  rw [e2]
  congr 2
  funext c
  match c with
  | ⟨0, _⟩ => exact Fin.ext ((Shape.Bitcasts.srcIdx_row _ _ _ _ ⟨0, Nat.zero_lt_two⟩ rfl).trans (by show (r.val * 8 + q) / 32 = r.val / 4; omega))
  | ⟨1, _⟩ => exact Fin.ext (Shape.Bitcasts.srcIdx_other _ _ _ _ ⟨1, Nat.one_lt_two⟩ (by show ¬ 1 + 2 = 2; omega))

/-- The bits of the packed words are those of the packed bytes. -/
theorem packed_bit (p : Vec Ideal S32x256 .i8) (r : Fin 32) (l : Fin 256) (o j : ℕ) (ho : o + j < 8) :
    (bitcast S8x256 32 p bitcasts_S32x256_w8_S8x256_w32 (ValueIdx.ix2 (n0 := 8) (n1 := 256) ⟨r.val / 4, by omega⟩ l)).getLsbD (8 * (r.val % 4) + (o + j)) =
      (p (ValueIdx.ix2 (n0 := 32) (n1 := 256) r l)).getLsbD (o + j) := by
  refine (bitcast_8_32_getLsbD_ix2 (R := 32) (r := 8) (n := 256) p bitcasts_S32x256_w8_S8x256_w32 ⟨r.val / 4, by omega⟩ l _ (by omega) r ?_).trans ?_
  · show r.val = 4 * (r.val / 4) + (8 * (r.val % 4) + (o + j)) / 8
    omega
  · have : (8 * (r.val % 4) + (o + j)) % 8 = o + j := by omega
    rw [this]

/-- Where a half's four bits start. -/
def shift (b : Bool) : ℕ := match b with | false => 0 | true => 4

theorem decodeV_apply (b : Bool) (p : Vec Ideal S32x256 .i8) (s : Vec Ideal S1x256 .f32) (r : Fin 32) (l : Fin 256) :
    decodeV b p s (ValueIdx.ix2 (n0 := 32) (n1 := 256) r l) =
      nibble (p (ValueIdx.ix2 (n0 := 32) (n1 := 256) r l)) (shift b) * s (ValueIdx.ix2 (n0 := 1) (n1 := 256) 0 l) := by
  unfold decodeV
  refine Eq.trans (congrFun (shapeCast_id _ _) _) ?_
  have hs : broadcastTo S32x256 (truncf (F := Ideal) .bf16 s bitsLt_bf16_f32) broadcasts_S1x256_S32x256 (ValueIdx.ix2 (n0 := 32) (n1 := 256) r l)
      = s (ValueIdx.ix2 (n0 := 1) (n1 := 256) 0 l) := by
    show s _ = s _
    congr 1
    funext a
    fin_cases a <;> rfl
  show (Ideal.ofBits .fp8e4m3 (bitcast S32x256 8 _ bitcasts_S8x256_w32_S32x256_w8 (ValueIdx.ix2 (n0 := 32) (n1 := 256) r l)) * Ideal.ofBits .bf16 0x4280#16)
    * broadcastTo S32x256 (truncf (F := Ideal) .bf16 s bitsLt_bf16_f32) broadcasts_S1x256_S32x256 (ValueIdx.ix2 (n0 := 32) (n1 := 256) r l) = _
  rw [hs]
  congr 1
  unfold nibble
  apply e4m3_code
  refine (byte_of_bits _ (fun j => (p (ValueIdx.ix2 (n0 := 32) (n1 := 256) r l)).getLsbD (shift b + j)) fun q hq => ?_).trans rfl
  have hm : r.val % 4 < 4 := Nat.mod_lt _ (by decide)
  rw [words_bit _ r l q hq]
  cases b
  · refine (low_bits _ (r.val % 4) q hm hq).trans ?_
    have hb := packed_bit p r l 0
    unfold spread shift
    split
    · exact hb 0 (by decide)
    · exact hb 1 (by decide)
    · exact hb 2 (by decide)
    · exact hb 3 (by decide)
    · rfl
  · refine (high_bits _ (r.val % 4) q hm hq).trans ?_
    have hb := packed_bit p r l 4
    unfold spread shift
    split
    · exact hb 0 (by decide)
    · exact hb 1 (by decide)
    · exact hb 2 (by decide)
    · exact hb 3 (by decide)
    · rfl

/-- The scale a byte spells, stored in the scratch the loop reads. -/
theorem scale_apply (v : Vec Ideal S112x4096 .i8) (y : S112x4096.Idx) : k0_pay766 (F := Ideal) v y = e8m0 (v y).toNat := by
  rw [← ofBits_e8m0]
  unfold k0_pay766
  refine Eq.trans (congrFun (shapeCast_id _ _) _) ?_
  rfl

variable (𝒱 : Variants) (c : Dev nD) (bd : Option 𝒱.V) (i : grid0.Coords) (arg1 : Memref sig .tc .vmem S256x3584 .bf16) (harg1 : arg1.IsWhole)
  (arg2 : Memref sig .tc .vmem S3584x2048 .i8) (harg2 : arg2.IsWhole) (arg3 : Memref sig .tc .vmem S112x4096 .i8) (harg3 : arg3.IsWhole)
  (arg4 : Memref sig .tc .vmem S256x4096 .bf16) (harg4 : arg4.IsWhole) (arg5 : Memref sig .tc .vmem S256x3584 .fp8e4m3) (harg5 : arg5.IsWhole)
  (arg6 : Memref sig .tc .vmem S256x112 .f32) (harg6 : arg6.IsWhole) (arg7 : Memref sig .tc .vmem S3584x4096 .bf16) (harg7 : arg7.IsWhole)
  (arg8 : Memref sig .tc .vmem S112x4096 .f32) (harg8 : arg8.IsWhole) (arg9 : Memref sig .tc .vmem S256x3584 .bf16) (harg9 : arg9.IsWhole)
  (h1 : k0_cond1 i = 1#1) (X : BufTy.Contents (Elt Ideal) arg2.view.ty) (Y : BufTy.Contents (Elt Ideal) arg8.view.ty) (k : Fin k0_t1_loop.trips)

/-- The weights the loop leaves. -/
def loopWeight (y : S3584x4096.Idx) : EReal :=
  nibble (arg2.view.read (Elt Ideal) X (ValueIdx.ix2 (n0 := 3584) (n1 := 2048) (y 0) ⟨(y 1).val % 2048, Nat.mod_lt _ (by decide)⟩)) (if (y 1).val < 2048 then 0 else 4)
    * arg8.view.read (Elt Ideal) Y (ValueIdx.ix2 (n0 := 112) (n1 := 4096) (colGroup (y 0)) (y 1))

theorem emb_weight {q : Fin 112 × Bool} {o : Fin S3584x4096.rank → ℕ} (h : o = ![32 * q.1.val, 2048 * half q.2 + 256 * k.val]) (r : Fin 32) (l : Fin 256) :
    (Rect.unit (s := S3584x4096) o S32x256.size (in_weight h)).emb (ValueIdx.ix2 (n0 := 32) (n1 := 256) r l) =
      ValueIdx.ix2 (n0 := 3584) (n1 := 4096) ⟨32 * q.1.val + r.val, by omega⟩
        ⟨2048 * half q.2 + 256 * k.val + l.val, by have := half_le q.2; have := lt_of_lt_of_eq k.isLt trips_eq; omega⟩ := by
  subst h
  funext a
  apply Fin.ext
  rw [Rect.emb_apply]
  fin_cases a
  · show 32 * q.1.val + 1 * r.val = 32 * q.1.val + r.val
    omega
  · show 2048 * half q.2 + 256 * k.val + 1 * l.val = 2048 * half q.2 + 256 * k.val + l.val
    omega

/-- The packed column a column of a tile comes from. -/
def packedCol (l : Fin 256) : Fin 2048 := ⟨256 * k.val + l.val, by have := lt_of_lt_of_eq k.isLt trips_eq; omega⟩

/-- The column of the weights a column of a tile is. -/
def weightCol (b : Bool) (l : Fin 256) : Fin 4096 := ⟨2048 * half b + 256 * k.val + l.val, by have := half_le b; have := lt_of_lt_of_eq k.isLt trips_eq; omega⟩

/-- The row of the weights a row of a tile is. -/
def weightRow (g : Fin 112) (r : Fin 32) : Fin 3584 := ⟨32 * g.val + r.val, by omega⟩

theorem packed_load {g : Fin 112} {o : Fin S3584x2048.rank → ℕ} (h : o = ![32 * g.val, 256 * k.val]) (r : Fin 32) (l : Fin 256) :
    View.readAt (Elt Ideal) arg2.view (Rect.unit o S32x256.size (in_packed h)).toLoadRect X (ValueIdx.ix2 (n0 := 32) (n1 := 256) r l) =
      arg2.view.read (Elt Ideal) X (ValueIdx.ix2 (n0 := 3584) (n1 := 2048) (weightRow g r) (packedCol k l)) := by
  refine congrArg (arg2.view.read (Elt Ideal) X) ?_
  subst h
  funext a
  apply Fin.ext
  fin_cases a
  · show 32 * g.val + 1 * r.val = 32 * g.val + r.val
    omega
  · show 256 * k.val + 1 * l.val = 256 * k.val + l.val
    omega

theorem scale_load {g : Fin 112} {b : Bool} {o : Fin S112x4096.rank → ℕ} (h : o = ![g.val, 2048 * half b + 256 * k.val]) (l : Fin 256) :
    View.readAt (Elt Ideal) arg8.view (Rect.unit o S1x256.size (in_scale h)).toLoadRect Y (ValueIdx.ix2 (n0 := 1) (n1 := 256) 0 l) =
      arg8.view.read (Elt Ideal) Y (ValueIdx.ix2 (n0 := 112) (n1 := 4096) g (weightCol k b l)) := by
  refine congrArg (arg8.view.read (Elt Ideal) Y) ?_
  subst h
  funext a
  apply Fin.ext
  fin_cases a
  · show g.val + 1 * 0 = g.val
    omega
  · show 2048 * half b + 256 * k.val + 1 * l.val = 2048 * half b + 256 * k.val + l.val
    omega

theorem group_row (g : Fin 112) (r : Fin 32) : colGroup (weightRow g r) = g := by
  apply Fin.ext
  show (32 * g.val + r.val) / 32 = g.val
  omega

theorem packed_col (b : Bool) (l : Fin 256) : (⟨(weightCol k b l).val % 2048, Nat.mod_lt _ (by decide)⟩ : Fin 2048) = packedCol k l := by
  have := lt_of_lt_of_eq k.isLt trips_eq
  apply Fin.ext
  cases b
  · show (2048 * 0 + 256 * k.val + l.val) % 2048 = 256 * k.val + l.val
    omega
  · show (2048 * 1 + 256 * k.val + l.val) % 2048 = 256 * k.val + l.val
    omega

theorem shift_col (b : Bool) (l : Fin 256) : (if (weightCol k b l).val < 2048 then 0 else 4) = shift b := by
  have := lt_of_lt_of_eq k.isLt trips_eq
  cases b
  · exact if_pos (show 2048 * 0 + 256 * k.val + l.val < 2048 by omega)
  · exact if_neg (show ¬ 2048 * 1 + 256 * k.val + l.val < 2048 by omega)

theorem loopWeight_tile (g : Fin 112) (b : Bool) (r : Fin 32) (l : Fin 256) :
    loopWeight arg2 arg8 X Y (ValueIdx.ix2 (n0 := 3584) (n1 := 4096) (weightRow g r) (weightCol k b l)) =
      nibble (arg2.view.read (Elt Ideal) X (ValueIdx.ix2 (n0 := 3584) (n1 := 2048) (weightRow g r) (packedCol k l))) (shift b)
        * arg8.view.read (Elt Ideal) Y (ValueIdx.ix2 (n0 := 112) (n1 := 4096) g (weightCol k b l)) := by
  show nibble (arg2.view.read (Elt Ideal) X (ValueIdx.ix2 (n0 := 3584) (n1 := 2048) (weightRow g r) ⟨(weightCol k b l).val % 2048, _⟩))
      (if (weightCol k b l).val < 2048 then 0 else 4)
    * arg8.view.read (Elt Ideal) Y (ValueIdx.ix2 (n0 := 112) (n1 := 4096) (colGroup (weightRow g r)) (weightCol k b l)) = _
  rw [group_row, packed_col, shift_col]

theorem piece_apply (q : Fin 112 × Bool) (p) (hp : IsPiece arg2 arg8 X Y k q p) (x) : p.2 x = loopWeight arg2 arg8 X Y (p.1.emb x) := by
  obtain ⟨o1, o2, o3, e1, e2, e3, rfl⟩ := hp
  obtain ⟨r, l, rfl⟩ : ∃ r l, x = ValueIdx.ix2 (n0 := 32) (n1 := 256) r l := ⟨x 0, x 1, ValueIdx.eq_ix2 x⟩
  refine (decodeV_apply q.2 _ _ r l).trans ?_
  rw [packed_load arg2 X k e1 r l, scale_load arg8 Y k e2 l, ← loopWeight_tile]
  exact congrArg (loopWeight arg2 arg8 X Y) (emb_weight k e3 r l).symm

theorem forall₂_mem {α β : Type*} {R : α → β → Prop} {l : List α} {m : List β} (h : List.Forall₂ R l m) :
    (∀ b ∈ m, ∃ a, R a b) ∧ ∀ a ∈ l, ∃ b ∈ m, R a b := by
  induction h with
  | nil => exact ⟨fun _ h => absurd h List.not_mem_nil, fun _ h => absurd h List.not_mem_nil⟩
  | cons hab _ ih =>
    refine ⟨fun b hb => ?_, fun a ha => ?_⟩
    · rcases List.mem_cons.1 hb with rfl | hb
      · exact ⟨_, hab⟩
      · exact ih.1 b hb
    · rcases List.mem_cons.1 ha with rfl | ha
      · exact ⟨_, List.mem_cons_self, hab⟩
      · obtain ⟨b, hb, h⟩ := ih.2 a ha
        exact ⟨b, List.mem_cons_of_mem _ hb, h⟩

theorem mem_pieces (n : ℕ) (hn : n ≤ 8) :
    (∀ p ∈ pb_k0_t1 (F := Ideal) 𝒱 c bd i arg1 harg1 arg2 harg2 arg3 harg3 arg4 harg4 arg5 harg5 arg6 harg6 arg7 harg7 arg8 harg8 arg9 harg9 h1 X Y n, ∃ k q, IsPiece arg2 arg8 X Y k q p) ∧
    ∀ k : Fin k0_t1_loop.trips, k.val < n → ∀ q, ∃ p ∈ pb_k0_t1 (F := Ideal) 𝒱 c bd i arg1 harg1 arg2 harg2 arg3 harg3 arg4 harg4 arg5 harg5 arg6 harg6 arg7 harg7 arg8 harg8 arg9 harg9 h1 X Y n, IsPiece arg2 arg8 X Y k q p := by
  induction n with
  | zero => exact ⟨fun p h => absurd h List.not_mem_nil, fun _ h => absurd h (Nat.not_lt_zero _)⟩
  | succ n ih =>
    obtain ⟨ih1, ih2⟩ := ih (by omega)
    have hb : n < k0_t1_loop.trips := lt_of_lt_of_eq (by omega) trips_eq.symm
    have e : pb_k0_t1 (F := Ideal) 𝒱 c bd i arg1 harg1 arg2 harg2 arg3 harg3 arg4 harg4 arg5 harg5 arg6 harg6 arg7 harg7 arg8 harg8 arg9 harg9 h1 X Y (n + 1) = tripL_k0_t1 (F := Ideal) 𝒱 c bd i arg1 harg1 arg2 harg2 arg3 harg3 arg4 harg4 arg5 harg5 arg6 harg6 arg7 harg7 arg8 harg8 arg9 harg9 h1 X Y ⟨n, hb⟩ ++ pb_k0_t1 (F := Ideal) 𝒱 c bd i arg1 harg1 arg2 harg2 arg3 harg3 arg4 harg4 arg5 harg5 arg6 harg6 arg7 harg7 arg8 harg8 arg9 harg9 h1 X Y n :=
      pb_k0_t1_succ (F := Ideal) 𝒱 c bd i arg1 harg1 arg2 harg2 arg3 harg3 arg4 harg4 arg5 harg5 arg6 harg6 arg7 harg7 arg8 harg8 arg9 harg9 h1 X Y ⟨n, hb⟩
    have t := forall₂_mem (trip_pieces 𝒱 c bd i arg1 harg1 arg2 harg2 arg3 harg3 arg4 harg4 arg5 harg5 arg6 harg6 arg7 harg7 arg8 harg8 arg9 harg9 h1 X Y ⟨n, hb⟩)
    rw [e]
    constructor
    · intro p hp
      rcases List.mem_append.1 hp with h | h
      · obtain ⟨q, hq⟩ := t.1 p h
        exact ⟨_, q, hq⟩
      · exact ih1 p h
    · intro k hk q
      rcases Nat.lt_or_ge k.val n with h | h
      · obtain ⟨p, hp, h⟩ := ih2 k h q
        exact ⟨p, List.mem_append.2 (Or.inr hp), h⟩
      · have : k = ⟨n, hb⟩ := Fin.ext (by dsimp only; omega)
        subst this
        obtain ⟨p, hp, h⟩ := t.2 q (mem_keys q)
        exact ⟨p, List.mem_append.2 (Or.inl hp), h⟩

theorem mem_of_emb {s : Shape} (r : Rect s) (x : r.shape.Idx) {y : s.Idx} (h : r.emb x = y) : y ∈ r.set := by
  rw [← h]
  exact r.idx_mem x

/-- Reading after the whole loop, through any view: the weights. -/
theorem read_weight {sig' : RefSig} {κ : Kind} {sp : Space} (v : View sig' κ sp S3584x4096 .bf16) (f) (n : ℕ) (hn : n = 8) :
    v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 h1 X Y n)) = loopWeight arg2 arg8 X Y := by
  subst hn
  obtain ⟨m1, m2⟩ := mem_pieces 𝒱 c bd i arg1 harg1 arg2 harg2 arg3 harg3 arg4 harg4 arg5 harg5 arg6 harg6 arg7 harg7 arg8 harg8 arg9 harg9 h1 X Y 8 le_rfl
  funext y
  refine View.read_writes_apply_of_pieces v f (loopWeight arg2 arg8 X Y) _ (fun p hp => ?_) y ?_
  · obtain ⟨k, q, h⟩ := m1 p hp
    exact piece_apply arg2 arg8 X Y k q p h
  · have h0 : (y 0).val < 3584 := (y 0).isLt
    have hy : (y 1).val < 4096 := (y 1).isLt
    obtain ⟨p, hp, o1, o2, o3, e1, e2, e3, rfl⟩ := m2 ⟨(y 1).val % 2048 / 256, by rw [trips_eq]; omega⟩ (show (y 1).val % 2048 / 256 < 8 by omega)
      (colGroup (y 0), decide (2048 ≤ (y 1).val))
    refine ⟨_, hp, ?_⟩
    have e := emb_weight ⟨(y 1).val % 2048 / 256, by rw [trips_eq]; omega⟩ e3 ⟨(y 0).val % 32, Nat.mod_lt _ (by decide)⟩ ⟨(y 1).val % 256, Nat.mod_lt _ (by decide)⟩
    have e' : (Rect.unit (s := S3584x4096) o3 S32x256.size (in_weight e3)).emb (ValueIdx.ix2 (n0 := 32) (n1 := 256) ⟨(y 0).val % 32, Nat.mod_lt _ (by decide)⟩ ⟨(y 1).val % 256, Nat.mod_lt _ (by decide)⟩) = y := by
      refine e.trans (Eq.trans ?_ (ValueIdx.eq_ix2 y).symm)
      funext a
      apply Fin.ext
      fin_cases a
      · show 32 * ((y 0).val / 32) + (y 0).val % 32 = (y 0).val
        omega
      · show 2048 * half (decide (2048 ≤ (y 1).val)) + 256 * ((y 1).val % 2048 / 256) + (y 1).val % 256 = (y 1).val
        by_cases h : 2048 ≤ (y 1).val
        · rw [decide_eq_true h]
          show 2048 * 1 + 256 * ((y 1).val % 2048 / 256) + (y 1).val % 256 = (y 1).val
          omega
        · rw [decide_eq_false h]
          show 2048 * 0 + 256 * ((y 1).val % 2048 / 256) + (y 1).val % 256 = (y 1).val
          omega
    exact mem_of_emb _ _ e'

end Cert.KernelIdeal.Decode
-- ==== Proof.Blocks.lean ====
module
public import proofs.«01_k».proof.Proof.Gen.KernelIdeal.Value
public import proofs.«01_k».proof.Proof.QuantValue
public import proofs.«01_k».proof.Proof.DecodeValue
import Idealize.ShloMosaic.Lib.MatmulPlain
import Idealize.ShloMosaic.Lib.VecWindow
import Idealize.ShloMosaic.Lib.Writes
import Idealize.ShloMosaic.PureOps.Ideal.Laws

/-!
What one grid point of the kernel leaves in its output blocks and in the scratch it carries, over the extended reals.
-/

@[expose] public noncomputable section

namespace Cert.KernelIdeal.Blocks

open Cert.KernelIdeal Cert.KernelIdeal.Gen Cert.KernelIdeal.Quant Cert.KernelIdeal.Decode Idealize.ShloMosaic Cert.Spec Cert.Arith

/-- A row of a block of activations. -/
def rowOf (x : Vec Ideal S256x3584 .bf16) (r : Fin 256) : Fin 3584 → EReal := fun c => x (ValueIdx.ix2 (n0 := 256) (n1 := 3584) r c)
/-- The decoded weights of a packed block and its scales. -/
def decoded (p : Vec Ideal S3584x2048 .i8) (s : Vec Ideal S112x4096 .i8) : Vec Ideal S3584x4096 .bf16 := fun y =>
  weight (fun r c => p (ValueIdx.ix2 (n0 := 3584) (n1 := 2048) r c)) (fun r c => s (ValueIdx.ix2 (n0 := 112) (n1 := 4096) r c)) (y 0) (y 1)
/-- The block of codes. -/
def codeBlock (x : Vec Ideal S256x3584 .bf16) : Vec Ideal S256x3584 .fp8e4m3 := fun y => rowCode (rowOf x (y 0)) (y 1)
/-- The block of scales. -/
def scaleBlock (x : Vec Ideal S256x3584 .bf16) : Vec Ideal S256x112 .f32 := fun y => rowScale (rowOf x (y 0)) (y 1)
/-- The block of activations, quantised and scaled back. -/
def xqBlock (x : Vec Ideal S256x3584 .bf16) : Vec Ideal S256x3584 .bf16 := fun y => rowXq (rowOf x (y 0)) (y 1)
/-- The block of products of quantised activations and weights. -/
def productBlock (x : Vec Ideal S256x3584 .bf16) (w : Vec Ideal S3584x4096 .bf16) : Vec Ideal S256x4096 .bf16 := fun y =>
  ∑ d : Fin 3584, rowXq (rowOf x (y 0)) d * w (ValueIdx.ix2 (n0 := 3584) (n1 := 4096) d (y 1))

/-! ### One piece of the product -/

theorem dot_apply (a : Vec Ideal S256x3584 .bf16) (b : Vec Ideal S3584x512 .bf16) (r : Fin 256) (l : Fin 512) :
    k0_pay770 a b (ValueIdx.ix2 (n0 := 256) (n1 := 512) r l) = ∑ d : Fin 3584, a (ValueIdx.ix2 (n0 := 256) (n1 := 3584) r d) * b (ValueIdx.ix2 (n0 := 3584) (n1 := 512) d l) := by
  refine (Ideal.matmul_plain_apply (M := 256) (K := 3584) (N := 512) (φ₁ := .bf16) (φ₂ := .bf16) none a b _ r l).trans ?_
  rw [show (constant (F := Ideal) ⟨2, ![256, 512]⟩ .f32 0x00000000#32 : FVec Ideal _ .f32) (ValueIdx.ix2 (n0 := 256) (n1 := 512) r l) = 0 from by
    show Ideal.ofBits .f32 0x00000000#32 = 0
    simp [Ideal.ofBits, Ideal.ieee]]
  exact zero_add _

theorem inb_out (n : ℕ) (h : n + 512 ≤ 4096) : ∀ a, (![0, n] : Fin S256x4096.rank → ℕ) a + S256x512.size a ≤ S256x4096.size a := by
  intro a
  fin_cases a
  · show 0 + 256 ≤ 256
    omega
  · show n + 512 ≤ 4096
    omega

theorem inb_w (n : ℕ) (h : n + 512 ≤ 4096) : ∀ a, (![0, n] : Fin S3584x4096.rank → ℕ) a + S3584x512.size a ≤ S3584x4096.size a := by
  intro a
  fin_cases a
  · show 0 + 3584 ≤ 3584
    omega
  · show n + 512 ≤ 4096
    omega

/-- Columns `n … n+511` of the product, from what the two scratch arrays hold. -/
def piece (a : Vec Ideal S256x3584 .bf16) (w : Vec Ideal S3584x4096 .bf16) (n : ℕ) (h : n + 512 ≤ 4096) : View.Piece (Elt Ideal) S256x4096 .bf16 :=
  ⟨Rect.unit (s := S256x4096) ![0, n] S256x512.size (inb_out n h),
    k0_pay770 (fun y => a ((Rect.unit (s := S256x3584) ![0, 0] S256x3584.size inb_S256x3584_S256x3584_0_0).toLoadRect.idx y))
      (fun y => w ((Rect.unit (s := S3584x4096) ![0, n] S3584x512.size (inb_w n h)).toLoadRect.idx y))⟩

theorem piece_congr {a a' : Vec Ideal S256x3584 .bf16} {w w' : Vec Ideal S3584x4096 .bf16} (ha : a = a') (hw : w = w') (n : ℕ) (h : n + 512 ≤ 4096) :
    piece a w n h = piece a' w' n h := by rw [ha, hw]

/-- The eight pieces, last first. -/
def pieces (a : Vec Ideal S256x3584 .bf16) (w : Vec Ideal S3584x4096 .bf16) : List (View.Piece (Elt Ideal) S256x4096 .bf16) :=
  [piece a w 3584 (by omega), piece a w 3072 (by omega), piece a w 2560 (by omega), piece a w 2048 (by omega),
    piece a w 1536 (by omega), piece a w 1024 (by omega), piece a w 512 (by omega), piece a w 0 (by omega)]

theorem whole_idx (y : S256x3584.Idx) : (Rect.unit (s := S256x3584) ![0, 0] S256x3584.size inb_S256x3584_S256x3584_0_0).toLoadRect.idx y = y := by
  funext a
  apply Fin.ext
  show (![0, 0] : Fin 2 → ℕ) a + 1 * (y a).val = (y a).val
  fin_cases a <;> show 0 + 1 * _ = _ <;> omega

theorem piece_apply (x : Vec Ideal S256x3584 .bf16) (w : Vec Ideal S3584x4096 .bf16) (n : ℕ) (h : n + 512 ≤ 4096) (y : (piece (xqBlock x) w n h).1.shape.Idx) :
    (piece (xqBlock x) w n h).2 y = productBlock x w ((piece (xqBlock x) w n h).1.emb y) := by
  obtain ⟨r, l, rfl⟩ : ∃ (r : Fin 256) (l : Fin 512), y = ValueIdx.ix2 (n0 := 256) (n1 := 512) r l := ⟨y 0, y 1, ValueIdx.eq_ix2 y⟩
  have e0 : ((piece (xqBlock x) w n h).1.emb (ValueIdx.ix2 (n0 := 256) (n1 := 512) r l)) 0 = r := by
    apply Fin.ext
    show 0 + 1 * r.val = r.val
    omega
  refine (dot_apply _ _ r l).trans ?_
  unfold productBlock
  rw [e0]
  refine Finset.sum_congr rfl fun d _ => ?_
  congr 1
  · rw [whole_idx]
    rfl
  · congr 1
    funext a
    apply Fin.ext
    fin_cases a
    · show 0 + 1 * d.val = d.val
      omega
    · show n + 1 * l.val = n + 1 * l.val
      rfl

theorem read_pieces {sig' : RefSig} {κ : Kind} {sp : Space} (v : View sig' κ sp S256x4096 .bf16) (f) (x : Vec Ideal S256x3584 .bf16) (w : Vec Ideal S3584x4096 .bf16) :
    v.read (Elt Ideal) (v.writes (Elt Ideal) f (pieces (xqBlock x) w)) = productBlock x w := by
  have hm : ∀ (n : ℕ) (h : n + 512 ≤ 4096), n % 512 = 0 → piece (xqBlock x) w n h ∈ pieces (xqBlock x) w := by
    intro n h h5
    obtain ⟨q, rfl⟩ : ∃ q, n = 512 * q := ⟨n / 512, by omega⟩
    have : q < 8 := by omega
    unfold pieces
    interval_cases q <;> simp
  have hf : ∀ p ∈ pieces (xqBlock x) w, ∃ n h, p = piece (xqBlock x) w n h := by
    intro p hp
    unfold pieces at hp
    simp only [List.mem_cons, List.not_mem_nil, or_false] at hp
    rcases hp with rfl | rfl | rfl | rfl | rfl | rfl | rfl | rfl <;> exact ⟨_, _, rfl⟩
  funext y
  refine View.read_writes_apply_of_pieces v f (productBlock x w) _ (fun p hp => ?_) y ?_
  · obtain ⟨n, h, rfl⟩ := hf p hp
    exact piece_apply x w n h
  · have h1 : (y 1).val < 4096 := (y 1).isLt
    refine ⟨piece (xqBlock x) w (512 * ((y 1).val / 512)) (by omega), hm _ _ (by omega), ?_⟩
    refine Quant.mem_of_emb _ (ValueIdx.ix2 (n0 := 256) (n1 := 512) (y 0) ⟨(y 1).val % 512, Nat.mod_lt _ (by decide)⟩) ?_
    funext a
    apply Fin.ext
    fin_cases a
    · show 0 + 1 * (y 0).val = (y 0).val
      omega
    · show 512 * ((y 1).val / 512) + 1 * ((y 1).val % 512) = (y 1).val
      omega

/-! ### One point -/

variable (c : Dev nD) (i : grid0.Coords) (arg1 : Memref sig .tc .vmem S256x3584 .bf16) (harg1 : arg1.IsWhole)
  (arg2 : Memref sig .tc .vmem S3584x2048 .i8) (harg2 : arg2.IsWhole) (arg3 : Memref sig .tc .vmem S112x4096 .i8) (harg3 : arg3.IsWhole)
  (arg4 : Memref sig .tc .vmem S256x4096 .bf16) (harg4 : arg4.IsWhole) (arg5 : Memref sig .tc .vmem S256x3584 .fp8e4m3) (harg5 : arg5.IsWhole)
  (arg6 : Memref sig .tc .vmem S256x112 .f32) (harg6 : arg6.IsWhole) (arg7 : Memref sig .tc .vmem S3584x4096 .bf16) (harg7 : arg7.IsWhole)
  (arg8 : Memref sig .tc .vmem S112x4096 .f32) (harg8 : arg8.IsWhole) (arg9 : Memref sig .tc .vmem S256x3584 .bf16) (harg9 : arg9.IsWhole)
  (x : Vec Ideal S256x3584 .bf16) (p : Vec Ideal S3584x2048 .i8) (s : Vec Ideal S112x4096 .i8) (w : Vec Ideal S3584x4096 .bf16)

theorem inRow_unread : inRow arg1 (harg1.unread x) = rowOf x := by
  funext r d
  exact congrFun (harg1.read_unread x) _

theorem codes_unread : blockCode arg1 (harg1.unread x) = codeBlock x := by
  funext y
  unfold blockCode codeBlock
  rw [inRow_unread]

theorem scales_unread : blockScale arg1 (harg1.unread x) = scaleBlock x := by
  funext y
  unfold blockScale scaleBlock
  rw [inRow_unread]

theorem xq_unread : blockXq arg1 (harg1.unread x) = xqBlock x := by
  funext y
  unfold blockXq xqBlock
  rw [inRow_unread]

theorem trips8 : Scf.trips (0#32) (Scalar.addi 0#32 8#32) 1#32 = 8 := by decide

theorem codes_A (hc0) : out0_A_4 (F := Ideal) c i arg1 harg1 arg2 harg2 arg3 harg3 arg4 harg4 arg5 harg5 arg6 harg6 arg7 harg7 arg8 harg8 arg9 harg9 hc0 x p s = codeBlock x :=
  (read_codes Variants.none c none i arg1 harg1 arg2 harg2 arg3 harg3 arg4 harg4 arg5 harg5 arg6 harg6 arg7 harg7 arg8 harg8 arg9 harg9 (harg1.unread x) VO0_4 VO0_4.junk _ trips8).trans (codes_unread arg1 harg1 x)

theorem codes_B (hc0) : out0_B_4 (F := Ideal) c i arg1 harg1 arg2 harg2 arg3 harg3 arg4 harg4 arg5 harg5 arg6 harg6 arg7 harg7 arg8 harg8 arg9 harg9 hc0 x p s w = codeBlock x :=
  (read_codes Variants.none c none i arg1 harg1 arg2 harg2 arg3 harg3 arg4 harg4 arg5 harg5 arg6 harg6 arg7 harg7 arg8 harg8 arg9 harg9 (harg1.unread x) VO0_4 VO0_4.junk _ trips8).trans (codes_unread arg1 harg1 x)

theorem scales_A (hc0) : out0_A_5 (F := Ideal) c i arg1 harg1 arg2 harg2 arg3 harg3 arg4 harg4 arg5 harg5 arg6 harg6 arg7 harg7 arg8 harg8 arg9 harg9 hc0 x p s = scaleBlock x :=
  (read_scale Variants.none c none i arg1 harg1 arg2 harg2 arg3 harg3 arg4 harg4 arg5 harg5 arg6 harg6 arg7 harg7 arg8 harg8 arg9 harg9 (harg1.unread x) VO0_5 VO0_5.junk _ trips8).trans (scales_unread arg1 harg1 x)

theorem scales_B (hc0) : out0_B_5 (F := Ideal) c i arg1 harg1 arg2 harg2 arg3 harg3 arg4 harg4 arg5 harg5 arg6 harg6 arg7 harg7 arg8 harg8 arg9 harg9 hc0 x p s w = scaleBlock x :=
  (read_scale Variants.none c none i arg1 harg1 arg2 harg2 arg3 harg3 arg4 harg4 arg5 harg5 arg6 harg6 arg7 harg7 arg8 harg8 arg9 harg9 (harg1.unread x) VO0_5 VO0_5.junk _ trips8).trans (scales_unread arg1 harg1 x)

/-- The scales' exponents, as the kernel stores them before its first loop. -/
def scalePiece : View.Piece (Elt Ideal) S112x4096 .f32 :=
  ⟨Rect.unit (s := S112x4096) ![0, 0] S112x4096.size inb_S112x4096_S112x4096_0_0,
    k0_pay766 (View.readAt (Elt Ideal) arg3.view (Rect.unit (s := S112x4096) ![0, 0] S112x4096.size inb_S112x4096_S112x4096_0_0).toLoadRect (harg3.unread s))⟩

theorem whole_scale (y : S112x4096.Idx) : (Rect.unit (s := S112x4096) ![0, 0] S112x4096.size inb_S112x4096_S112x4096_0_0).toLoadRect.idx y = y := by
  funext a
  apply Fin.ext
  show (![0, 0] : Fin 2 → ℕ) a + 1 * (y a).val = (y a).val
  fin_cases a <;> show 0 + 1 * _ = _ <;> omega

/-- The scales of the weights, decoded. -/
def scalesOf : Vec Ideal S112x4096 .f32 := fun y => e8m0 (s y).toNat

theorem read_scalePiece (y : S112x4096.Idx) :
    arg8.view.read (Elt Ideal) (arg8.view.writes (Elt Ideal) arg8.view.junk [scalePiece arg3 harg3 s]) y = scalesOf s y := by
  refine View.read_writes_apply_of_pieces arg8.view arg8.view.junk (scalesOf s) _ (fun q hq => ?_) y ?_
  · obtain rfl := List.mem_singleton.1 hq
    intro z
    refine (scale_apply _ z).trans ?_
    exact congrArg (fun q : BitVec 8 => e8m0 q.toNat) (congrFun (harg3.read_unread s) _)
  · exact ⟨_, List.mem_singleton.2 rfl, Quant.mem_of_emb _ y (whole_scale y)⟩

theorem loopWeight_unread : loopWeight arg2 arg8 (harg2.unread p) (arg8.view.writes (Elt Ideal) arg8.view.junk [scalePiece arg3 harg3 s]) = decoded p s := by
  funext y
  unfold loopWeight decoded weight
  rw [read_scalePiece, harg2.read_unread]
  rfl

theorem weights_A (hc0) : sout0_A_0 (F := Ideal) c i arg1 harg1 arg2 harg2 arg3 harg3 arg4 harg4 arg5 harg5 arg6 harg6 arg7 harg7 arg8 harg8 arg9 harg9 hc0 x p s = decoded p s :=
  (read_weight Variants.none c none i arg1 harg1 arg2 harg2 arg3 harg3 arg4 harg4 arg5 harg5 arg6 harg6 arg7 harg7 arg8 harg8 arg9 harg9 hc0 (harg2.unread p) (arg8.view.writes (Elt Ideal) arg8.view.junk [scalePiece arg3 harg3 s]) VS0_0 VS0_0.junk _ trips8).trans
    (loopWeight_unread arg2 harg2 arg3 harg3 arg8 p s)

theorem product_B (hc0) : out0_B_3 (F := Ideal) c i arg1 harg1 arg2 harg2 arg3 harg3 arg4 harg4 arg5 harg5 arg6 harg6 arg7 harg7 arg8 harg8 arg9 harg9 hc0 x p s w = productBlock x w := by
  have ha : arg9.view.read (Elt Ideal) (arg9.view.writes (Elt Ideal) arg9.view.junk (pb_k0_t2 (F := Ideal) Variants.none c none i arg1 harg1 arg2 harg2 arg3 harg3 arg4 harg4 arg5 harg5 arg6 harg6 arg7 harg7 arg8 harg8 arg9 harg9 (harg1.unread x) (Scf.trips (0#32) (Scalar.addi 0#32 8#32) 1#32)).2.2) = xqBlock x :=
    (read_xq Variants.none c none i arg1 harg1 arg2 harg2 arg3 harg3 arg4 harg4 arg5 harg5 arg6 harg6 arg7 harg7 arg8 harg8 arg9 harg9 (harg1.unread x) arg9.view arg9.view.junk _ trips8).trans (xq_unread arg1 harg1 x)
  have hw : arg7.view.read (Elt Ideal) (harg7.unread w) = w := harg7.read_unread w
  have e : (kernelRun0_B (F := Ideal) c i arg1 harg1 arg2 harg2 arg3 harg3 arg4 harg4 arg5 harg5 arg6 harg6 arg7 harg7 arg8 harg8 arg9 harg9 hc0 x p s w).1 = pieces (arg9.view.read (Elt Ideal) (arg9.view.writes (Elt Ideal) arg9.view.junk (pb_k0_t2 (F := Ideal) Variants.none c none i arg1 harg1 arg2 harg2 arg3 harg3 arg4 harg4 arg5 harg5 arg6 harg6 arg7 harg7 arg8 harg8 arg9 harg9 (harg1.unread x) (Scf.trips (0#32) (Scalar.addi 0#32 8#32) 1#32)).2.2))
      (arg7.view.read (Elt Ideal) (harg7.unread w)) := rfl
  unfold out0_B_3
  rw [e, ha, hw]
  exact read_pieces _ _ x w

theorem product_A (hc0) : out0_A_3 (F := Ideal) c i arg1 harg1 arg2 harg2 arg3 harg3 arg4 harg4 arg5 harg5 arg6 harg6 arg7 harg7 arg8 harg8 arg9 harg9 hc0 x p s = productBlock x (decoded p s) := by
  have ha : arg9.view.read (Elt Ideal) (arg9.view.writes (Elt Ideal) arg9.view.junk (pb_k0_t2 (F := Ideal) Variants.none c none i arg1 harg1 arg2 harg2 arg3 harg3 arg4 harg4 arg5 harg5 arg6 harg6 arg7 harg7 arg8 harg8 arg9 harg9 (harg1.unread x) (Scf.trips (0#32) (Scalar.addi 0#32 8#32) 1#32)).2.2) = xqBlock x :=
    (read_xq Variants.none c none i arg1 harg1 arg2 harg2 arg3 harg3 arg4 harg4 arg5 harg5 arg6 harg6 arg7 harg7 arg8 harg8 arg9 harg9 (harg1.unread x) arg9.view arg9.view.junk _ trips8).trans (xq_unread arg1 harg1 x)
  have hw : arg7.view.read (Elt Ideal) (arg7.view.writes (Elt Ideal) arg7.view.junk (pb_k0_t1 (F := Ideal) Variants.none c none i arg1 harg1 arg2 harg2 arg3 harg3 arg4 harg4 arg5 harg5 arg6 harg6 arg7 harg7 arg8 harg8 arg9 harg9 hc0 (harg2.unread p)
      (arg8.view.writes (Elt Ideal) arg8.view.junk [scalePiece arg3 harg3 s]) (Scf.trips (0#32) (Scalar.addi 0#32 8#32) 1#32))) = decoded p s :=
    (read_weight Variants.none c none i arg1 harg1 arg2 harg2 arg3 harg3 arg4 harg4 arg5 harg5 arg6 harg6 arg7 harg7 arg8 harg8 arg9 harg9 hc0 (harg2.unread p) _ arg7.view arg7.view.junk _ trips8).trans (loopWeight_unread arg2 harg2 arg3 harg3 arg8 p s)
  have e : (kernelRun0_A (F := Ideal) c i arg1 harg1 arg2 harg2 arg3 harg3 arg4 harg4 arg5 harg5 arg6 harg6 arg7 harg7 arg8 harg8 arg9 harg9 hc0 x p s).1 = pieces (arg9.view.read (Elt Ideal) (arg9.view.writes (Elt Ideal) arg9.view.junk (pb_k0_t2 (F := Ideal) Variants.none c none i arg1 harg1 arg2 harg2 arg3 harg3 arg4 harg4 arg5 harg5 arg6 harg6 arg7 harg7 arg8 harg8 arg9 harg9 (harg1.unread x) (Scf.trips (0#32) (Scalar.addi 0#32 8#32) 1#32)).2.2))
      (arg7.view.read (Elt Ideal) (arg7.view.writes (Elt Ideal) arg7.view.junk (pb_k0_t1 (F := Ideal) Variants.none c none i arg1 harg1 arg2 harg2 arg3 harg3 arg4 harg4 arg5 harg5 arg6 harg6 arg7 harg7 arg8 harg8 arg9 harg9 hc0 (harg2.unread p)
        (arg8.view.writes (Elt Ideal) arg8.view.junk [scalePiece arg3 harg3 s]) (Scf.trips (0#32) (Scalar.addi 0#32 8#32) 1#32)))) := rfl
  unfold out0_A_3
  rw [e, ha, hw]
  exact read_pieces _ _ x _

end Cert.KernelIdeal.Blocks
-- ==== Proof.Arrays.lean ====
module
public import proofs.«01_k».proof.Proof.Blocks
import Idealize.ShloMosaic.Lib.Claim
import Idealize.ShloMosaic.Lib.Pointwise.Reshape

/-!
What the kernel's three results hold after a run over the extended reals.
-/

@[expose] public noncomputable section

namespace Cert.KernelIdeal.Arrays

open Cert.KernelIdeal Cert.KernelIdeal.Gen Cert.KernelIdeal.Value Cert.KernelIdeal.Blocks Idealize.ShloMosaic Idealize.ShloMosaic.TcCoe Cert.Spec Cert.Arith

variable (m : (ℓ : Loc nD τ sig) → Buf (Elt Ideal) ℓ) (c : Dev nD)

theorem V_main_v0 : V m c main_v0 = shapeCast S8192x3584 (m ((c : Thread nD τ).loc main_arg0)) shapeCasts_S4x2048x3584_S8192x3584 := by
  unfold V
  simp only [hostOps0, List.flatten_cons, List.flatten_nil, List.append_nil, List.cons_append]
  entry_read
  rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- The packed weights are one block, the same at every point. -/
theorem packed_block (t : Fin cfg0.N) (y : S3584x2048.Idx) : iblk m c 1 t y = m ((c : Thread nD τ).loc main_arg1) y := by
  obtain ⟨e0, e1⟩ := idx1 t
  have h : ((cfg0.win 1).blk t).view.emb y = y := by
    funext a
    apply Fin.ext
    match a with
    | ⟨0, _⟩ => show win0_1.index t (0 : Fin 2) * 3584 + 1 * (y 0).val = (y 0).val; omega
    | ⟨1, _⟩ => show win0_1.index t (1 : Fin 2) * 2048 + 1 * (y 1).val = (y 1).val; omega
  show V m c main_arg1 (((cfg0.win 1).blk t).view.emb y) = _
  rw [V_main_arg1, h]

/-- So are their scales. -/
theorem scale_block (t : Fin cfg0.N) (y : S112x4096.Idx) : iblk m c 2 t y = m ((c : Thread nD τ).loc main_arg2) y := by
  obtain ⟨e0, e1⟩ := idx2 t
  have h : ((cfg0.win 2).blk t).view.emb y = y := by
    funext a
    apply Fin.ext
    match a with
    | ⟨0, _⟩ => show win0_2.index t (0 : Fin 2) * 112 + 1 * (y 0).val = (y 0).val; omega
    | ⟨1, _⟩ => show win0_2.index t (1 : Fin 2) * 4096 + 1 * (y 1).val = (y 1).val; omega
  show V m c main_arg2 (((cfg0.win 2).blk t).view.emb y) = _
  rw [V_main_arg2, h]

theorem row_lt (t : Fin cfg0.N) (r : Fin 256) : 256 * t.val + r.val < 8192 := by
  have := lt_of_lt_of_eq t.isLt (show cfg0.N = 32 from N_0)
  have := r.isLt
  omega

theorem shapeCast_row (x : S4x2048x3584.Idx → EReal) (r : Fin 8192) (d : Fin 3584) :
    shapeCast S8192x3584 x shapeCasts_S4x2048x3584_S8192x3584 (ValueIdx.ix2 (n0 := 8192) (n1 := 3584) r d) = actRow x r d := by
  rw [Pointwise.shapeCast_apply]
  unfold actRow
  congr 1
  refine Shape.reshapeEquiv_eq_of_vals _ _ _ _ _ (rowMajor_val3 _ (2048 * 3584) 3584 rfl rfl) (rowMajor_val2 _ 3584 rfl) ?_
  show r.val / 2048 * (2048 * 3584) + r.val % 2048 * 3584 + d.val = r.val * 3584 + d.val
  omega

/-- Point `t` has rows `256 t …` of the activations. -/
theorem act_block (t : Fin cfg0.N) (r : Fin 256) :
    rowOf (iblk m c 0 t) r = actRow (m ((c : Thread nD τ).loc main_arg0)) ⟨256 * t.val + r.val, row_lt t r⟩ := by
  obtain ⟨e0, e1⟩ := idx0 t
  funext d
  have h : ((cfg0.win 0).blk t).view.emb (ValueIdx.ix2 (n0 := 256) (n1 := 3584) r d) = ValueIdx.ix2 (n0 := 8192) (n1 := 3584) ⟨256 * t.val + r.val, row_lt t r⟩ d := by
    funext a
    apply Fin.ext
    match a with
    | ⟨0, _⟩ => show win0_0.index t (0 : Fin 2) * 256 + 1 * r.val = 256 * t.val + r.val; omega
    | ⟨1, _⟩ => show win0_0.index t (1 : Fin 2) * 3584 + 1 * d.val = d.val; omega
  show V m c main_v0 (((cfg0.win 0).blk t).view.emb (ValueIdx.ix2 (n0 := 256) (n1 := 3584) r d)) = _
  rw [V_main_v0, h]
  exact shapeCast_row _ _ _

/-- The decoded weights. -/
def weights : Vec Ideal S3584x4096 .bf16 := decoded (m ((c : Thread nD τ).loc main_arg1)) (m ((c : Thread nD τ).loc main_arg2))

theorem decoded_block (t : Fin cfg0.N) : decoded (iblk m c 1 t) (iblk m c 2 t) = weights m c := by
  have e1 : iblk m c 1 t = m ((c : Thread nD τ).loc main_arg1) := funext fun y => packed_block m c t y
  have e2 : iblk m c 2 t = m ((c : Thread nD τ).loc main_arg2) := funext fun y => scale_block m c t y
  unfold weights
  exact congrArg₂ decoded e1 e2

/-- What point `t` leaves. -/
def after (t : Fin cfg0.N) : Vec Ideal S256x4096 .bf16 × Vec Ideal S256x3584 .fp8e4m3 × Vec Ideal S256x112 .f32 × Vec Ideal S3584x4096 .bf16 :=
  (productBlock (iblk m c 0 t) (weights m c), codeBlock (iblk m c 0 t), scaleBlock (iblk m c 0 t), weights m c)

theorem outs_eq (n : ℕ) (hn : n < cfg0.N) : outsAt0 m c n hn = after m c ⟨n, hn⟩ := by
  have hN := lt_of_lt_of_eq hn (show cfg0.N = 32 from N_0)
  by_cases h0 : n % 32 = 0
  · refine (outsAt0_A m c ⟨n, hn⟩ h0).trans ?_
    unfold after
    refine congrArg₂ Prod.mk ?_ (congrArg₂ Prod.mk ?_ (congrArg₂ Prod.mk ?_ ?_))
    · refine (product_A ..).trans ?_
      rw [decoded_block]
    · exact codes_A ..
    · exact scales_A ..
    · exact (weights_A ..).trans (decoded_block m c _)
  · obtain ⟨k, rfl⟩ : ∃ k, n = k + 1 := ⟨n - 1, by omega⟩
    have ih := outs_eq k (by omega)
    refine (outsAt0_B m c ⟨k + 1, hn⟩ h0).trans ?_
    have ew : (outsAt0 m c k (by omega)).2.2.2 = weights m c := congrArg (fun q => q.2.2.2) ih
    unfold after
    refine congrArg₂ Prod.mk ?_ (congrArg₂ Prod.mk ?_ (congrArg₂ Prod.mk ?_ ?_))
    · refine (product_B ..).trans ?_
      exact congrArg _ ew
    · exact codes_B ..
    · exact scales_B ..
    · exact ew

theorem product_array : (dats m 0 c).arrAt 3 cfg0.N = resProduct (m ((c : Thread nD τ).loc main_arg0)) (m ((c : Thread nD τ).loc main_arg1)) (m ((c : Thread nD τ).loc main_arg2)) := by
  refine (dats m 0 c).arrAt_eq_of_cover 3 _ (fun t hf => ?_) (fun i => (covered_iff3 i).2 (by
    have h0 : (i 0).val < 8192 := (i 0).isLt; have h1 : (i 1).val < 4096 := (i 1).isLt; omega))
  show (cfg0.win 3).cut (grid0.coords t) ((dats m 0 c).after 3 t) = _
  rw [after0_3, outs_eq]
  obtain ⟨e0, e1, e2⟩ := idx_facts3 t
  funext y
  obtain ⟨r, l, rfl⟩ : ∃ (r : Fin 256) (l : Fin 4096), y = ValueIdx.ix2 (n0 := 256) (n1 := 4096) r l := ⟨y 0, y 1, ValueIdx.eq_ix2 y⟩
  have h : ((cfg0.win 3).blk t).view.emb (ValueIdx.ix2 (n0 := 256) (n1 := 4096) r l) = ValueIdx.ix2 (n0 := 8192) (n1 := 4096) ⟨256 * t.val + r.val, row_lt t r⟩ l := by
    funext a
    apply Fin.ext
    match a with
    | ⟨0, _⟩ => show win0_3.index t (0 : Fin 2) * 256 + 1 * r.val = 256 * t.val + r.val; omega
    | ⟨1, _⟩ => show win0_3.index t (1 : Fin 2) * 4096 + 1 * l.val = l.val; omega
  refine Eq.trans ?_ (congrArg (resProduct _ _ _) h.symm)
  show ∑ d : Fin 3584, rowXq (rowOf (iblk m c 0 t) r) d * weights m c (ValueIdx.ix2 (n0 := 3584) (n1 := 4096) d l) = _
  rw [act_block]
  rfl

theorem codes_array : (dats m 0 c).arrAt 4 cfg0.N = resCodes (m ((c : Thread nD τ).loc main_arg0)) := by
  refine (dats m 0 c).arrAt_eq_of_cover 4 _ (fun t hf => ?_) (fun i => (covered_iff4 i).2 (by
    have h0 : (i 0).val < 8192 := (i 0).isLt; have h1 : (i 1).val < 3584 := (i 1).isLt; omega))
  show (cfg0.win 4).cut (grid0.coords t) ((dats m 0 c).after 4 t) = _
  rw [after0_4, outs_eq]
  obtain ⟨e0, e1, e2⟩ := idx_facts4 t
  funext y
  obtain ⟨r, l, rfl⟩ : ∃ (r : Fin 256) (l : Fin 3584), y = ValueIdx.ix2 (n0 := 256) (n1 := 3584) r l := ⟨y 0, y 1, ValueIdx.eq_ix2 y⟩
  have h : ((cfg0.win 4).blk t).view.emb (ValueIdx.ix2 (n0 := 256) (n1 := 3584) r l) = ValueIdx.ix2 (n0 := 8192) (n1 := 3584) ⟨256 * t.val + r.val, row_lt t r⟩ l := by
    funext a
    apply Fin.ext
    match a with
    | ⟨0, _⟩ => show win0_4.index t (0 : Fin 2) * 256 + 1 * r.val = 256 * t.val + r.val; omega
    | ⟨1, _⟩ => show win0_4.index t (1 : Fin 2) * 3584 + 1 * l.val = l.val; omega
  refine Eq.trans ?_ (congrArg (resCodes _) h.symm)
  show rowCode (rowOf (iblk m c 0 t) r) l = _
  rw [act_block]
  rfl

theorem scales_array : (dats m 0 c).arrAt 5 cfg0.N = resScale (m ((c : Thread nD τ).loc main_arg0)) := by
  refine (dats m 0 c).arrAt_eq_of_cover 5 _ (fun t hf => ?_) (fun i => (covered_iff5 i).2 (by
    have h0 : (i 0).val < 8192 := (i 0).isLt; have h1 : (i 1).val < 112 := (i 1).isLt; omega))
  show (cfg0.win 5).cut (grid0.coords t) ((dats m 0 c).after 5 t) = _
  rw [after0_5, outs_eq]
  obtain ⟨e0, e1, e2⟩ := idx_facts5 t
  funext y
  obtain ⟨r, l, rfl⟩ : ∃ (r : Fin 256) (l : Fin 112), y = ValueIdx.ix2 (n0 := 256) (n1 := 112) r l := ⟨y 0, y 1, ValueIdx.eq_ix2 y⟩
  have h : ((cfg0.win 5).blk t).view.emb (ValueIdx.ix2 (n0 := 256) (n1 := 112) r l) = ValueIdx.ix2 (n0 := 8192) (n1 := 112) ⟨256 * t.val + r.val, row_lt t r⟩ l := by
    funext a
    apply Fin.ext
    match a with
    | ⟨0, _⟩ => show win0_5.index t (0 : Fin 2) * 256 + 1 * r.val = 256 * t.val + r.val; omega
    | ⟨1, _⟩ => show win0_5.index t (1 : Fin 2) * 112 + 1 * l.val = l.val; omega
  refine Eq.trans ?_ (congrArg (resScale _) h.symm)
  show rowScale (rowOf (iblk m c 0 t) r) l = _
  rw [act_block]
  rfl

end Cert.KernelIdeal.Arrays
-- ==== Proof.HostOps.lean ====
module
public import proofs.«01_k».proof.Proof.Gen.ReferenceIdeal.Value
public import proofs.«01_k».proof.Proof.Spec
import Idealize.ShloMosaic.Lib.Claim

/-!
What the reference's host operations compute before its product, and what its scales result holds.
-/

@[expose] public noncomputable section

namespace Cert.ReferenceIdeal.Host

open Cert.ReferenceIdeal Cert.ReferenceIdeal.Gen Idealize.ShloMosaic Idealize.ShloMosaic.TcCoe

/-! ### The quantiser, as the host computes it -/

/-- The activations in groups. -/
def groups (x : Vec Ideal S4x2048x3584 .bf16) : FVec Ideal S8192x112x32 .f32 :=
  fun i => shapeCast main_v1.ty.shape (extf (φ := .bf16) .f32 x bitsLt_bf16_f32) shapeCasts_S4x2048x3584_S8192x112x32 i

/-- Each group's largest magnitude over 448. -/
def ratios (x : Vec Ideal S4x2048x3584 .bf16) : FVec Ideal S8192x112 .f32 :=
  mulf (Host.reduce FloatOps.maximumf (Host.absf (groups x)) (constant S_ .f32 0xFF800000#32) reducesTo_S8192x112x32_S8192x112_d2 h_S_)
    (broadcastInDim S8192x112 ![] bcast_S_S8192x112 (constant S_ .f32 0x3B124925#32))

/-- The powers of two a scale may be half of. -/
def powers : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- Which of them are at most a given ratio. -/
def tests (ρ : FVec Ideal S8192x112 .f32) : IVec S8192x112x254 1 :=
  cmpf .ole
    (broadcastInDim S8192x112x254 ![0, 1, 2] bcast_S1x1x254_S8192x112x254_0_1_2 (broadcastInDim S1x1x254 ![2] bcast_S254_S1x1x254_2 powers))
    (broadcastInDim S8192x112x254 ![0, 1, 2] bcast_S8192x112x1_S8192x112x254_0_1_2 (broadcastInDim S8192x112x1 ![0, 1] bcast_S8192x112_S8192x112x1_0_1 ρ))

/-- The largest of them that is at most a given ratio, or zero. -/
def largest (ρ : FVec Ideal S8192x112 .f32) : FVec Ideal S8192x112 .f32 :=
  Host.reduce FloatOps.maximumf
    (select (tests ρ)
      (broadcastInDim S8192x112x254 ![2] bcast_S254_S8192x112x254_2 powers)
      (broadcastInDim S8192x112x254 ![] bcast_S_S8192x112x254 (constant S_ .f32 0x00000000#32)))
    (constant S_ .f32 0xFF800000#32) reducesTo_S8192x112x254_S8192x112_d2 h_S_

/-- Twice a number, or one where it is zero. -/
def pick (a : FVec Ideal S8192x112 .f32) : FVec Ideal S8192x112 .f32 :=
  select (cmpf .oeq a (broadcastInDim S8192x112 ![] bcast_S_S8192x112 (constant S_ .f32 0x00000000#32)))
    (broadcastInDim S8192x112 ![] bcast_S_S8192x112 (constant S_ .f32 0x3F800000#32))
    (mulf (broadcastInDim S8192x112 ![] bcast_S_S8192x112 (constant S_ .f32 0x40000000#32)) a)

/-- The scales. -/
def scales (x : Vec Ideal S4x2048x3584 .bf16) : FVec Ideal S8192x112 .f32 := pick (largest (ratios x))

/-- One number per group, repeated over the group. -/
def spread {φ : FTy} (s : FVec Ideal S8192x112 φ) : FVec Ideal S8192x112x32 φ :=
  broadcastInDim S8192x112x32 ![0, 1, 2] bcast_S8192x112x1_S8192x112x32_0_1_2 (broadcastInDim S8192x112x1 ![0, 1] bcast_S8192x112_S8192x112x1_0_1 s)

/-- Numbers kept between -448 and 448. -/
def clip (a : FVec Ideal S8192x112x32 .f32) : FVec Ideal S8192x112x32 .f32 :=
  minimumf (broadcastInDim S8192x112x32 ![] bcast_S_S8192x112x32 (constant S_ .f32 0x43E00000#32))
    (maximumf (broadcastInDim S8192x112x32 ![] bcast_S_S8192x112x32 (constant S_ .f32 0xC3E00000#32)) a)

/-! ### The weights, as the host decodes them -/

/-- The four bits of each weight, in the low bits of a word. -/
def nibbles (p : Vec Ideal S3584x2048 .i8) : IVec S3584x4096 32 :=
  concatenate S3584x4096 1 [⟨S3584x2048, andi (extui 32 (show IVec S3584x2048 8 from p) natLt_8_32) (broadcastInDim S3584x2048 ![] bcast_S_S3584x2048 (constantI S_ 32 15#32))⟩,
    ⟨S3584x2048, Host.shrsi (extui 32 (show IVec S3584x2048 8 from p) natLt_8_32) (broadcastInDim S3584x2048 ![] bcast_S_S3584x2048 (constantI S_ 32 4#32))⟩]
    concatenates_S3584x2048_S3584x2048_S3584x4096_d1

/-- Whether a bit of a nibble is set. -/
def test (n : IVec S3584x4096 32) (b : BitVec 32) : IVec S3584x4096 1 :=
  cmpi .ne (andi n (broadcastInDim S3584x4096 ![] bcast_S_S3584x4096 (constantI S_ 32 b))) (broadcastInDim S3584x4096 ![] bcast_S_S3584x4096 (constantI S_ 32 0#32))

/-- One of two constants. -/
def choose (n : IVec S3584x4096 1) (a b : BitVec 16) : FVec Ideal S3584x4096 .bf16 :=
  select n (broadcastInDim S3584x4096 ![] bcast_S_S3584x4096 (constant S_ .bf16 a)) (broadcastInDim S3584x4096 ![] bcast_S_S3584x4096 (constant S_ .bf16 b))

/-- The magnitudes. -/
def magnitudes (n : IVec S3584x4096 32) : FVec Ideal S3584x4096 .bf16 :=
  select (test n 4#32) (select (test n 2#32) (choose (test n 1#32) 0x40C0#16 0x4080#16) (choose (test n 1#32) 0x4040#16 0x4000#16))
    (select (test n 2#32) (choose (test n 1#32) 0x3FC0#16 0x3F80#16) (choose (test n 1#32) 0x3F00#16 0x0000#16))

/-- The numbers the nibbles stand for. -/
def decodedNibbles (n : IVec S3584x4096 32) : FVec Ideal S3584x4096 .bf16 :=
  select (test n 8#32) (Host.negf (magnitudes n)) (magnitudes n)

/-- The scales of the weights. -/
def weightScales (s : Vec Ideal S112x4096 .i8) : FVec Ideal S112x4096 .f32 :=
  select (cmpi .eq (extui 32 (show IVec S112x4096 8 from s) natLt_8_32) (broadcastInDim S112x4096 ![] bcast_S_S112x4096 (constantI S_ 32 0#32)))
    (broadcastInDim S112x4096 ![] bcast_S_S112x4096 (constant S_ .f32 0x00000000#32))
    (select (cmpi .eq (extui 32 (show IVec S112x4096 8 from s) natLt_8_32) (broadcastInDim S112x4096 ![] bcast_S_S112x4096 (constantI S_ 32 255#32)))
      (broadcastInDim S112x4096 ![] bcast_S_S112x4096 (constant S_ .f32 0x7F800000#32))
      (Host.powf (broadcastInDim S112x4096 ![] bcast_S_S112x4096 (constant S_ .f32 0x40000000#32))
        (subf (sitofp .f32 (extui 32 (show IVec S112x4096 8 from s) natLt_8_32)) (broadcastInDim S112x4096 ![] bcast_S_S112x4096 (constant S_ .f32 0x42FE0000#32)))))

/-- The decoded weights. -/
def decoded (p : Vec Ideal S3584x2048 .i8) (s : Vec Ideal S112x4096 .i8) : FVec Ideal S3584x4096 .bf16 :=
  shapeCast S3584x4096 (mulf (shapeCast S112x32x4096 (decodedNibbles (nibbles p)) shapeCasts_S3584x4096_S112x32x4096)
      (broadcastInDim S112x32x4096 ![0, 1, 2] bcast_S112x1x4096_S112x32x4096_0_1_2
        (broadcastInDim S112x1x4096 ![0, 2] bcast_S112x4096_S112x1x4096_0_2 (truncf .bf16 (weightScales s) bitsLt_bf16_f32))))
    shapeCasts_S112x32x4096_S3584x4096

/-! ### What the buffers hold when the product starts -/

variable (m : (ℓ : Loc nD τ sig) → Buf (Elt Ideal) ℓ) (c : Dev nD)

attribute [local irreducible] Host.reduce Host.powf Host.divf iotaInDim broadcastInDim select cmpf mulf minimumf maximumf sitofp truncf addi shapeCast extf Host.absf constant constantI

theorem step_v17 (a : Vec Ideal S8192x112x254 .i1) (b d : Vec Ideal S8192x112x254 .f32) :
    (.of main_v17 : StableHlo.TRef sig ⟨S8192x112x254, .f32⟩).toBuf (select ((.of main_v16 : StableHlo.TRef sig ⟨S8192x112x254, .i1⟩).ofBuf a) ((.of main_call0_v1 : StableHlo.TRef sig ⟨S8192x112x254, .f32⟩).ofBuf b) ((.of main_call0_v2 : StableHlo.TRef sig ⟨S8192x112x254, .f32⟩).ofBuf d)) = select a b d := rfl

theorem step_v23 (a : Vec Ideal S8192x112 .i1) (b d : Vec Ideal S8192x112 .f32) :
    (.of main_v23 : StableHlo.TRef sig ⟨S8192x112, .f32⟩).toBuf (select ((.of main_v20 : StableHlo.TRef sig ⟨S8192x112, .i1⟩).ofBuf a) ((.of main_call1_v1 : StableHlo.TRef sig ⟨S8192x112, .f32⟩).ofBuf b) ((.of main_v22 : StableHlo.TRef sig ⟨S8192x112, .f32⟩).ofBuf d)) = select a b d := rfl

theorem step_call2_v2 (a b : Vec Ideal S8192x112x32 .f32) :
    (.of main_call2_v2 : StableHlo.TRef sig ⟨S8192x112x32, .f32⟩).toBuf (Val := Elt Ideal) (maximumf (F := Ideal) (φ := .f32) ((.of main_call2_v1 : StableHlo.TRef sig ⟨S8192x112x32, .f32⟩).ofBuf a) ((.of main_v28 : StableHlo.TRef sig ⟨S8192x112x32, .f32⟩).ofBuf b)) = (maximumf (F := Ideal) (φ := .f32) a b : FVec Ideal S8192x112x32 .f32) := rfl

theorem step_v29 (a b : Vec Ideal S8192x112x32 .f32) :
    (.of main_v29 : StableHlo.TRef sig ⟨S8192x112x32, .f32⟩).toBuf (Val := Elt Ideal) (minimumf (F := Ideal) (φ := .f32) ((.of main_call2_v4 : StableHlo.TRef sig ⟨S8192x112x32, .f32⟩).ofBuf a) ((.of main_call2_v2 : StableHlo.TRef sig ⟨S8192x112x32, .f32⟩).ofBuf b)) = (minimumf (F := Ideal) (φ := .f32) a b : FVec Ideal S8192x112x32 .f32) := rfl

/-- The groups. -/
theorem V_main_v1 : V m c main_v1 = groups (m (c, Proc.tc.devRef main_arg0)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

/-- The powers. -/
theorem V_main_v11 : V m c main_v11 = powers := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

/-- Which powers are at most the ratio. -/
theorem V_main_v16 : V m c main_v16 = tests (ratios (m (c, Proc.tc.devRef main_arg0))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

/-- Those powers, and zero for the others. -/
theorem V_main_v17 : V m c main_v17 = select (V m c main_v16) (broadcastInDim S8192x112x254 ![2] bcast_S254_S8192x112x254_2 (V m c main_v11)) (broadcastInDim S8192x112x254 ![] bcast_S_S8192x112x254 (constant (F := Ideal) S_ .f32 0x00000000#32)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  refine (step_v17 _ _ _).trans ?_
  refine congr (congrArg₂ select ?_ ?_) ?_
  · rfl
  · rfl
  · rfl

/-- The largest of them. -/
theorem V_main_v18 : V m c main_v18 = Host.reduce FloatOps.maximumf (V m c main_v17) (constant (F := Ideal) S_ .f32 0xFF800000#32) reducesTo_S8192x112x254_S8192x112_d2 h_S_ := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

/-- Twice that, or one. -/
theorem V_main_v23 : V m c main_v23 = pick (V m c main_v18) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  refine (step_v23 _ _ _).trans ?_
  unfold pick
  refine congr (congrArg₂ select ?_ ?_) ?_
  · rfl
  · rfl
  · rfl

/-- The clipped quotients. -/
theorem V_main_v29 : V m c main_v29 = clip (V m c main_v28) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  refine (step_v29 _ _).trans ?_
  unfold clip
  refine congrArg₂ (minimumf (F := Ideal) (φ := .f32)) ?_ ?_
  · rfl
  · refine (step_call2_v2 _ _).trans ?_
    refine congrArg₂ (maximumf (F := Ideal) (φ := .f32)) ?_ ?_
    · rfl
    · rfl

/-- The quotients. -/
theorem V_main_v28 : V m c main_v28 = mulf (F := Ideal) (φ := .f32) (V m c main_v1) (spread (Host.divf (F := Ideal) (φ := .f32) (broadcastInDim S8192x112 ![] bcast_S_S8192x112 (constant (F := Ideal) S_ .f32 0x3F800000#32)) (V m c main_v23))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

/-- The codes, in rows. -/
theorem V_main_v30 : V m c main_v30 = fun i => shapeCast main_v30.ty.shape (V m c main_v29) shapeCasts_S8192x112x32_S8192x3584 i := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

/-- The scales, in rows. -/
theorem V_main_v34 : V m c main_v34 = fun i => shapeCast main_v34.ty.shape (spread (truncf (F := Ideal) (φ := .f32) .bf16 (V m c main_v23) bitsLt_bf16_f32)) shapeCasts_S8192x112x32_S8192x3584 i := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

set_option maxRecDepth 65536 in
theorem V_main_v83 : V m c main_v83 = decoded (m ((c : Thread nD τ).loc main_arg1)) (m ((c : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23,
    List.flatten_cons, List.flatten_nil, List.cons_append, List.nil_append, List.append_nil]
  entry_read
  rfl

end Cert.ReferenceIdeal.Host
-- ==== Proof.RefQuant.lean ====
module
public import proofs.«01_k».proof.Proof.HostOps
import Idealize.ShloMosaic.Lib.Pointwise.Reshape
import Idealize.ShloMosaic.Lib.Pointwise.Reduce
import Idealize.ShloMosaic.Lib.IdealHost

/-!
What the reference's quantiser holds at each place, over the extended reals.
-/

@[expose] public noncomputable section

namespace Cert.ReferenceIdeal.Host

open Cert.ReferenceIdeal Cert.ReferenceIdeal.Gen Idealize.ShloMosaic Idealize.ShloMosaic.TcCoe Cert.Spec Cert.Arith

theorem ofBits_neg_inf : Ideal.ofBits .f32 0xFF800000#32 = ⊥ := by
  simp [Ideal.ofBits, Ideal.ieee]

theorem ofBits_zero32 : Ideal.ofBits .f32 0x00000000#32 = 0 := by
  simp [Ideal.ofBits, Ideal.ieee]

theorem ofBits_two32 : Ideal.ofBits .f32 0x40000000#32 = two 1 :=
  (ofBits_two 0x40000000#32 128 (by decide) (by decide) (by decide)).trans (by norm_num)

theorem ofBits_one32 : Ideal.ofBits .f32 0x3F800000#32 = 1 :=
  (ofBits_two 0x3F800000#32 127 (by decide) (by decide) (by decide)).trans (by norm_num [two_zero])

attribute [local irreducible] Host.reduce Ideal.ofBits

theorem mulf_at {s : Shape} (a b : FVec Ideal s .f32) (i : s.Idx) : mulf (F := Ideal) (φ := .f32) a b i = a i * b i := rfl

theorem constant_at {s : Shape} (h : S_.BroadcastsInDim s ![]) (b : BitVec 32) (i : s.Idx) :
    broadcastInDim s ![] h (constant (F := Ideal) S_ .f32 b) i = Ideal.ofBits .f32 b := rfl

/-- A maximum over the last axis, started below everything. -/
theorem reduce_max {n : ℕ} (f : (⟨3, ![8192, 112, n]⟩ : Shape).Idx → EReal) (h : (⟨3, ![8192, 112, n]⟩ : Shape).ReducesTo [2] S8192x112)
    (r : Fin 8192) (g : Fin 112) :
    Host.reduce (FloatOps.maximumf (F := Ideal) (φ := .f32)) f (constant (F := Ideal) S_ .f32 0xFF800000#32) h h_S_ (ValueIdx.ix2 (n0 := 8192) (n1 := 112) r g) =
      Finset.univ.sup fun k : Fin n => f (ValueIdx.ix3 (n0 := 8192) (n1 := 112) (n2 := n) r g k) := by
  have e : Host.reduce (max : EReal → EReal → EReal) f (constant (F := Ideal) S_ .f32 0xFF800000#32) h h_S_ (ValueIdx.ix2 (n0 := 8192) (n1 := 112) r g) = _ :=
    (Host.reduce_eq_fold (max : EReal → EReal → EReal) f _ h h_S_ (ValueIdx.ix2 (n0 := 8192) (n1 := 112) r g)).trans
      (Shape.ReducesTo.fold_fiber_r3_a2 h _ (max : EReal → EReal → EReal) _ f)
  refine Eq.trans e ?_
  show Finset.fold max (Ideal.ofBits .f32 0xFF800000#32) _ Finset.univ = _
  rw [ofBits_neg_inf]
  rfl

/-- Place `j` of group `g`. -/
def place (g : Fin 112) (j : Fin 32) : Fin 3584 := ⟨32 * g.val + j.val, by have := g.isLt; omega⟩

variable (x : Vec Ideal S4x2048x3584 .bf16)

theorem groups_apply (r : Fin 8192) (g : Fin 112) (j : Fin 32) :
    groups x (ValueIdx.ix3 (n0 := 8192) (n1 := 112) (n2 := 32) r g j) = actRow x r (place g j) := by
  have hr := r.isLt; have hg := g.isLt
  show shapeCast S8192x112x32 x shapeCasts_S4x2048x3584_S8192x112x32 (ValueIdx.ix3 (n0 := 8192) (n1 := 112) (n2 := 32) r g j) = _
  rw [Pointwise.shapeCast_apply]
  unfold actRow
  congr 1
  refine Shape.reshapeEquiv_eq_of_vals _ _ _ _ _ (rowMajor_val3 _ (2048 * 3584) 3584 rfl rfl) (rowMajor_val3 _ (112 * 32) 32 rfl rfl) ?_
  show r.val / 2048 * (2048 * 3584) + r.val % 2048 * 3584 + (32 * g.val + j.val) = r.val * (112 * 32) + g.val * 32 + j.val
  omega

attribute [local irreducible] groups

/-- A group's largest magnitude over 448. -/
theorem ratios_apply (r : Fin 8192) (g : Fin 112) : ratios x (ValueIdx.ix2 (n0 := 8192) (n1 := 112) r g) =
    (Finset.univ.sup fun j => max (actRow x r (place g j)) (-(actRow x r (place g j)))) * Ideal.ofBits .f32 0x3B124925#32 := by
  unfold ratios
  refine (mulf_at _ _ _).trans ?_
  refine congr (congrArg HMul.hMul ?_) (constant_at _ _ _)
  refine (reduce_max (Host.absf (F := Ideal) (φ := .f32) (groups x)) _ r g).trans ?_
  refine congrArg (Finset.univ.sup ·) (funext fun j => ?_)
  show max (groups x (ValueIdx.ix3 (n0 := 8192) (n1 := 112) (n2 := 32) r g j)) (-(groups x (ValueIdx.ix3 (n0 := 8192) (n1 := 112) (n2 := 32) r g j))) = _
  rw [groups_apply]

theorem exponent (k : Fin 254) : (BitVec.ofNat 32 k.val + 4294967170#32).toInt = (k.val : ℤ) - 126 := by
  revert k; decide +kernel

theorem powers_apply (k : Fin 254) : powers (ValueIdx.ix1 (n := 254) k) = two ((k.val : ℤ) - 126) := by
  show Ideal.pow (Ideal.ofBits .f32 0x40000000#32) ((((4294967170#32 + BitVec.ofNat 32 k.val : BitVec 32).toInt : ℝ) : EReal)) = _
  rw [BitVec.add_comm, exponent, ofBits_two32]
  show ((Real.rpow ((2 : ℝ) ^ (1 : ℤ)) _ : ℝ) : EReal) = _
  unfold two
  rw [zpow_one]
  congr 1
  exact Real.rpow_intCast 2 _

/-- The scale before doubling. -/
theorem largest_apply (ρ : FVec Ideal S8192x112 .f32) (r : Fin 8192) (g : Fin 112) :
    largest ρ (ValueIdx.ix2 (n0 := 8192) (n1 := 112) r g) = below (ρ (ValueIdx.ix2 (n0 := 8192) (n1 := 112) r g)) := by
  unfold largest below
  refine (reduce_max _ _ r g).trans ?_
  congr 1
  funext k
  have e1 : broadcastInDim S8192x112x254 ![0, 1, 2] bcast_S1x1x254_S8192x112x254_0_1_2 (broadcastInDim S1x1x254 ![2] bcast_S254_S1x1x254_2 powers)
      (ValueIdx.ix3 (n0 := 8192) (n1 := 112) (n2 := 254) r g k) = powers (ValueIdx.ix1 (n := 254) k) := by
    refine (broadcastInDim_apply (s := S1x1x254) (t := S8192x112x254) ![0, 1, 2] _ _ _ (ValueIdx.ix3 (n0 := 1) (n1 := 1) (n2 := 254) (0 : Fin 1) (0 : Fin 1) k) ?_).trans (broadcastInDim_apply (s := S254) (t := S1x1x254) ![2] _ _ _ _ ?_)
    · intro a
      match a with
      | ⟨0, _⟩ => rfl
      | ⟨1, _⟩ => rfl
      | ⟨2, _⟩ => rfl
    · intro a
      match a with
      | ⟨0, _⟩ => rfl
  have e2 : broadcastInDim S8192x112x254 ![0, 1, 2] bcast_S8192x112x1_S8192x112x254_0_1_2 (broadcastInDim S8192x112x1 ![0, 1] bcast_S8192x112_S8192x112x1_0_1 ρ)
      (ValueIdx.ix3 (n0 := 8192) (n1 := 112) (n2 := 254) r g k) = ρ (ValueIdx.ix2 (n0 := 8192) (n1 := 112) r g) := by
    refine (broadcastInDim_apply (s := S8192x112x1) (t := S8192x112x254) ![0, 1, 2] _ _ _ (ValueIdx.ix3 (n0 := 8192) (n1 := 112) (n2 := 1) r g (0 : Fin 1)) ?_).trans (broadcastInDim_apply (s := S8192x112) (t := S8192x112x1) ![0, 1] _ _ _ _ ?_)
    · intro a
      match a with
      | ⟨0, _⟩ => rfl
      | ⟨1, _⟩ => rfl
      | ⟨2, _⟩ => rfl
    · intro a
      match a with
      | ⟨0, _⟩ => rfl
      | ⟨1, _⟩ => rfl
  have e3 : broadcastInDim S8192x112x254 ![2] bcast_S254_S8192x112x254_2 powers (ValueIdx.ix3 (n0 := 8192) (n1 := 112) (n2 := 254) r g k) =
      powers (ValueIdx.ix1 (n := 254) k) := by
    refine broadcastInDim_apply (s := S254) (t := S8192x112x254) ![2] _ _ _ _ ?_
    intro a
    match a with
    | ⟨0, _⟩ => rfl
  have e0 : tests ρ (ValueIdx.ix3 (n0 := 8192) (n1 := 112) (n2 := 254) r g k) =
      BitVec.ofBool (decide (powers (ValueIdx.ix1 (n := 254) k) ≤ ρ (ValueIdx.ix2 (n0 := 8192) (n1 := 112) r g))) := by
    rw [← e1, ← e2]
    rfl
  show (if tests ρ (ValueIdx.ix3 (n0 := 8192) (n1 := 112) (n2 := 254) r g k) = 1#1 then _ else Ideal.ofBits .f32 0x00000000#32) = _
  rw [e0, e3, powers_apply, ofBits_zero32]
  by_cases h : two ((k.val : ℤ) - 126) ≤ ρ (ValueIdx.ix2 (n0 := 8192) (n1 := 112) r g) <;> simp [h]

theorem pick_apply (a : FVec Ideal S8192x112 .f32) (i : S8192x112.Idx) : pick a i = if a i = 0 then 1 else two 1 * a i := by
  show (if BitVec.ofBool (decide (a i = Ideal.ofBits .f32 0x00000000#32)) = 1#1 then Ideal.ofBits .f32 0x3F800000#32 else Ideal.ofBits .f32 0x40000000#32 * a i) = _
  rw [ofBits_zero32, ofBits_one32, ofBits_two32]
  by_cases h : a i = 0 <;> simp [h]

theorem scales_ix (r : Fin 8192) (g : Fin 112) : scales x (ValueIdx.ix2 (n0 := 8192) (n1 := 112) r g) = rowScale (actRow x r) g := by
  unfold scales
  rw [pick_apply, largest_apply, ratios_apply]
  rfl

/-- The scales result. -/
theorem scales_eq : scales x = resScale x := by
  funext i
  rw [ValueIdx.eq_ix2 i]
  exact scales_ix x _ _

attribute [local irreducible] scales

theorem spread_apply {φ : FTy} (s : FVec Ideal S8192x112 φ) (r : Fin 8192) (g : Fin 112) (j : Fin 32) :
    spread s (ValueIdx.ix3 (n0 := 8192) (n1 := 112) (n2 := 32) r g j) = s (ValueIdx.ix2 (n0 := 8192) (n1 := 112) r g) := by
  unfold spread
  refine (broadcastInDim_apply (s := S8192x112x1) (t := S8192x112x32) ![0, 1, 2] _ _ _ (ValueIdx.ix3 (n0 := 8192) (n1 := 112) (n2 := 1) r g (0 : Fin 1)) ?_).trans (broadcastInDim_apply (s := S8192x112) (t := S8192x112x1) ![0, 1] _ _ _ _ ?_)
  · intro a
    match a with
    | ⟨0, _⟩ => rfl
    | ⟨1, _⟩ => rfl
    | ⟨2, _⟩ => rfl
  · intro a
    match a with
    | ⟨0, _⟩ => rfl
    | ⟨1, _⟩ => rfl

attribute [local irreducible] spread

theorem clip_at (a : FVec Ideal S8192x112x32 .f32) (i : S8192x112x32.Idx) :
    clip a i = min (Ideal.ofBits .f32 0x43E00000#32) (max (Ideal.ofBits .f32 0xC3E00000#32) (a i)) := rfl

theorem divf_at {s : Shape} (a b : FVec Ideal s .f32) (i : s.Idx) : Host.divf (F := Ideal) (φ := .f32) a b i = Ideal.div (a i) (b i) := rfl

/-- The clipped quotients, in groups. -/
def quotients : FVec Ideal S8192x112x32 .f32 :=
  clip (mulf (F := Ideal) (φ := .f32) (groups x) (spread (Host.divf (F := Ideal) (φ := .f32) (broadcastInDim S8192x112 ![] bcast_S_S8192x112 (constant (F := Ideal) S_ .f32 0x3F800000#32)) (scales x))))

theorem quotients_apply (r : Fin 8192) (g : Fin 112) (j : Fin 32) :
    quotients x (ValueIdx.ix3 (n0 := 8192) (n1 := 112) (n2 := 32) r g j) = code (actRow x r (place g j)) (rowScale (actRow x r) g) := by
  unfold quotients
  refine (clip_at _ _).trans ?_
  unfold code
  refine congrArg (fun z => min (Ideal.ofBits .f32 0x43E00000#32) (max (Ideal.ofBits .f32 0xC3E00000#32) z)) ?_
  refine (mulf_at _ _ _).trans ?_
  rw [groups_apply, spread_apply]
  refine congrArg (actRow x r (place g j) * ·) ?_
  refine (divf_at _ _ _).trans ?_
  rw [scales_ix]
  refine congrArg (Ideal.div · _) ?_
  exact (constant_at _ _ _).trans ofBits_one32

/-- Groups laid out as rows. -/
theorem shapeCast_groups {α : Type} (f : S8192x112x32.Idx → α) (r : Fin 8192) (d : Fin 3584) :
    shapeCast S8192x3584 f shapeCasts_S8192x112x32_S8192x3584 (ValueIdx.ix2 (n0 := 8192) (n1 := 3584) r d) =
      f (ValueIdx.ix3 (n0 := 8192) (n1 := 112) (n2 := 32) r (colGroup d) ⟨d.val % 32, Nat.mod_lt _ (by decide)⟩) := by
  have hd := d.isLt
  rw [Pointwise.shapeCast_apply]
  congr 1
  refine Shape.reshapeEquiv_eq_of_vals _ _ _ _ _ (rowMajor_val3 _ (112 * 32) 32 rfl rfl) (rowMajor_val2 _ 3584 rfl) ?_
  show r.val * (112 * 32) + d.val / 32 * 32 + d.val % 32 = r.val * 3584 + d.val
  omega

theorem place_col (d : Fin 3584) : place (colGroup d) ⟨d.val % 32, Nat.mod_lt _ (by decide)⟩ = d := by
  apply Fin.ext
  show 32 * (d.val / 32) + d.val % 32 = d.val
  omega

variable (m : (ℓ : Loc nD τ sig) → Buf (Elt Ideal) ℓ) (c : Dev nD)

/-- The scales buffer. -/
theorem V_scales : V m c main_v23 = scales (m (c, Proc.tc.devRef main_arg0)) := by
  rw [V_main_v23, V_main_v18, V_main_v17, V_main_v16, V_main_v11]
  unfold scales largest
  rfl

/-- The codes buffer. -/
theorem V_codes (r : Fin 8192) (d : Fin 3584) : V m c main_v30 (ValueIdx.ix2 (n0 := 8192) (n1 := 3584) r d) = rowCode (actRow (m (c, Proc.tc.devRef main_arg0)) r) d := by
  rw [V_main_v30, V_main_v29, V_main_v28, V_main_v1, V_scales]
  refine (shapeCast_groups (quotients (m (c, Proc.tc.devRef main_arg0))) r d).trans ?_
  rw [quotients_apply, place_col]
  rfl

/-- The scales repeated over the rows. -/
theorem V_scaleOf (r : Fin 8192) (d : Fin 3584) : V m c main_v34 (ValueIdx.ix2 (n0 := 8192) (n1 := 3584) r d) = rowScale (actRow (m (c, Proc.tc.devRef main_arg0)) r) (colGroup d) := by
  rw [V_main_v34, V_scales]
  refine (shapeCast_groups (spread (φ := .bf16) (scales (m (c, Proc.tc.devRef main_arg0)))) r d).trans ?_
  rw [spread_apply, scales_ix]

end Cert.ReferenceIdeal.Host
-- ==== Proof.RefDecode.lean ====
module
public import proofs.«01_k».proof.Proof.HostOps
import Idealize.ShloMosaic.Lib.Pointwise.Reshape
import Idealize.ShloMosaic.Lib.IdealHost

/-!
What the reference's decoded weights hold at each place, over the extended reals.
-/

@[expose] public noncomputable section

namespace Cert.ReferenceIdeal.Host

open Cert.ReferenceIdeal Cert.ReferenceIdeal.Gen Idealize.ShloMosaic Idealize.ShloMosaic.TcCoe Cert.Spec Cert.Arith

/-- A mask of one bit asks for that bit. -/
theorem mask_bit (w b : BitVec 32) (k : ℕ) (hk : k < 32) (h : b = BitVec.twoPow 32 k) : IntOp.cmpi .ne (IntOp.andi w b) 0#32 = BitVec.ofBool (w.getLsbD k) := by
  subst h
  have hz : BitVec.twoPow 32 k ≠ 0#32 := by
    intro h
    have := congrArg (fun z => z.getLsbD k) h
    simp [hk] at this
  show BitVec.ofBool ((w &&& BitVec.twoPow 32 k) != 0#32) = _
  rw [BitVec.and_twoPow]
  by_cases h : w.getLsbD k = true
  · rw [if_pos h, h, (bne_iff_ne).2 hz]
  · rw [if_neg h]
    simp [h]

theorem test_at (n : IVec S3584x4096 32) (b : BitVec 32) (k : ℕ) (hk : k < 32) (h : b = BitVec.twoPow 32 k) (i : S3584x4096.Idx) :
    test n b i = BitVec.ofBool ((n i).getLsbD k) := by
  refine Eq.trans ?_ (mask_bit (n i) b k hk h)
  rfl

theorem bits16 : Ideal.ofBits .bf16 0x40C0#16 = ((6 : ℝ) : EReal) ∧ Ideal.ofBits .bf16 0x4080#16 = ((4 : ℝ) : EReal) ∧
    Ideal.ofBits .bf16 0x4040#16 = ((3 : ℝ) : EReal) ∧ Ideal.ofBits .bf16 0x4000#16 = ((2 : ℝ) : EReal) ∧
    Ideal.ofBits .bf16 0x3FC0#16 = ((3 / 2 : ℝ) : EReal) ∧ Ideal.ofBits .bf16 0x3F80#16 = ((1 : ℝ) : EReal) ∧
    Ideal.ofBits .bf16 0x3F00#16 = ((1 / 2 : ℝ) : EReal) ∧ Ideal.ofBits .bf16 0x0000#16 = ((0 : ℝ) : EReal) := by
  refine ⟨?_, ?_, ?_, ?_, ?_, ?_, ?_, ?_⟩ <;> simp [Ideal.ofBits, Ideal.ieee] <;> norm_cast <;> norm_num

theorem bits127 : Ideal.ofBits .f32 0x42FE0000#32 = ((127 : ℝ) : EReal) := by
  simp [Ideal.ofBits, Ideal.ieee]
  norm_cast
  norm_num

theorem bits_two : Ideal.ofBits .f32 0x40000000#32 = ((2 : ℝ) : EReal) :=
  (ofBits_two 0x40000000#32 128 (by decide) (by decide) (by decide)).trans (by norm_num [two])

theorem bits_zero : Ideal.ofBits .f32 0x00000000#32 = 0 := by
  simp [Ideal.ofBits, Ideal.ieee]

theorem bits_inf : Ideal.ofBits .f32 0x7F800000#32 = ⊤ := by
  simp [Ideal.ofBits, Ideal.ieee]

attribute [local irreducible] Ideal.ofBits

theorem choose_at (n : IVec S3584x4096 1) (a b : BitVec 16) (i : S3584x4096.Idx) :
    choose n a b i = if n i = 1#1 then Ideal.ofBits .bf16 a else Ideal.ofBits .bf16 b := rfl

theorem select_at {s : Shape} {α : Type} (n : IVec s 1) (a b : s.Idx → α) (i : s.Idx) : select n a b i = if n i = 1#1 then a i else b i := rfl

theorem ofBool_one (b : Bool) : (BitVec.ofBool b = 1#1) = (b = true) := by cases b <;> simp

/-- The number four bits stand for. -/
theorem decodedNibbles_at (n : IVec S3584x4096 32) (i : S3584x4096.Idx) :
    decodedNibbles n i = e2m1 ((n i).getLsbD 0) ((n i).getLsbD 1) ((n i).getLsbD 2) ((n i).getLsbD 3) := by
  have hm : magnitudes n i = e2m1 ((n i).getLsbD 0) ((n i).getLsbD 1) ((n i).getLsbD 2) false := by
    unfold magnitudes
    simp only [select_at, choose_at, test_at n 1#32 0 (by decide) (by decide) i, test_at n 2#32 1 (by decide) (by decide) i,
      test_at n 4#32 2 (by decide) (by decide) i, ofBool_one]
    obtain ⟨h6, h4, h3, h2, h15, h1, h05, h0⟩ := bits16
    rw [h6, h4, h3, h2, h15, h1, h05, h0]
    generalize (n i).getLsbD 0 = b0
    generalize (n i).getLsbD 1 = b1
    generalize (n i).getLsbD 2 = b2
    cases b0 <;> cases b1 <;> cases b2 <;> rfl
  unfold decodedNibbles
  rw [select_at, test_at n 8#32 3 (by decide) (by decide) i]
  simp only [ofBool_one]
  have hn : Host.negf (magnitudes n) i = -(magnitudes n i) := rfl
  rw [hn, hm]
  generalize (n i).getLsbD 3 = b3
  unfold e2m1
  cases b3
  · rfl
  · simp

/-- A bit of the nibble at column `c`. -/
theorem nibbles_bit (p : Vec Ideal S3584x2048 .i8) (r : Fin 3584) (c : Fin 4096) (k : ℕ) (hk : k < 4) :
    (nibbles p (ValueIdx.ix2 (n0 := 3584) (n1 := 4096) r c)).getLsbD k =
      (p (ValueIdx.ix2 (n0 := 3584) (n1 := 2048) r ⟨c.val % 2048, Nat.mod_lt _ (by decide)⟩)).getLsbD ((if c.val < 2048 then 0 else 4) + k) := by
  have hc := c.isLt
  unfold nibbles
  by_cases h : c.val < 2048
  · rw [concatenate_pair_apply_left (t := S3584x4096) (s₁ := S3584x2048) (s₂ := S3584x2048) 1 _ _ _ _ rfl
      (ValueIdx.ix2 (n0 := 3584) (n1 := 2048) r ⟨c.val % 2048, Nat.mod_lt _ (by decide)⟩) ?_]
    · rw [if_pos h]
      show (BitVec.setWidth 32 (p _) &&& 15#32).getLsbD k = _
      have e : (15#32).getLsbD k = true := by
        interval_cases k <;> decide
      rw [BitVec.getLsbD_and, e, Bool.and_true, BitVec.getLsbD_setWidth, Nat.zero_add]
      simp [show k < 32 by omega]
    · intro b
      match b with
      | ⟨0, _⟩ => rfl
      | ⟨1, _⟩ =>
        show c.val % 2048 = c.val
        omega
  · rw [concatenate_pair_apply_right (t := S3584x4096) (s₁ := S3584x2048) (s₂ := S3584x2048) 1 _ _ _ _ rfl rfl
      (ValueIdx.ix2 (n0 := 3584) (n1 := 2048) r ⟨c.val % 2048, Nat.mod_lt _ (by decide)⟩) ?_ ?_]
    · rw [if_neg h]
      show ((BitVec.setWidth 32 (p _)).sshiftRight 4).getLsbD k = _
      rw [BitVec.getLsbD_sshiftRight, BitVec.getLsbD_setWidth]
      simp [show k < 32 by omega, show 4 + k < 32 by omega]
    · intro b hb
      match b with
      | ⟨0, _⟩ => rfl
      | ⟨1, _⟩ => exact absurd rfl hb
    · show c.val % 2048 + 2048 = c.val
      omega

/-- The scale a byte stands for. -/
theorem weightScales_at (s : Vec Ideal S112x4096 .i8) (i : S112x4096.Idx) : weightScales s i = e8m0 (@BitVec.toNat 8 (s i)) := by
  have e : weightScales s i = if IntOp.cmpi .eq (@BitVec.setWidth 8 32 (s i)) 0#32 = 1#1 then Ideal.ofBits .f32 0x00000000#32 else
      if IntOp.cmpi .eq (@BitVec.setWidth 8 32 (s i)) 255#32 = 1#1 then Ideal.ofBits .f32 0x7F800000#32 else
      Ideal.pow (Ideal.ofBits .f32 0x40000000#32) ((((@BitVec.setWidth 8 32 (s i)).toInt : ℝ) : EReal) - Ideal.ofBits .f32 0x42FE0000#32) := rfl
  rw [e, bits_zero, bits_inf, bits_two, bits127]
  obtain ⟨b, hsb⟩ : ∃ b : BitVec 8, s i = b := ⟨_, rfl⟩
  rw [hsb]
  have hb := b.isLt
  have ht : (BitVec.setWidth 32 b).toNat = b.toNat := by
    rw [BitVec.toNat_setWidth]; omega
  have hi : (BitVec.setWidth 32 b).toInt = (b.toNat : ℤ) := by
    rw [BitVec.toInt_eq_toNat_of_lt (by omega), ht]
  have h0 : (IntOp.cmpi .eq (BitVec.setWidth 32 b) 0#32 = 1#1) = (b.toNat = 0) := by
    show (BitVec.ofBool (BitVec.setWidth 32 b == 0#32) = 1#1) = _
    rw [ofBool_one, beq_iff_eq, ← BitVec.toNat_inj, ht]
    rfl
  have h255 : (IntOp.cmpi .eq (BitVec.setWidth 32 b) 255#32 = 1#1) = (b.toNat = 255) := by
    show (BitVec.ofBool (BitVec.setWidth 32 b == 255#32) = 1#1) = _
    rw [ofBool_one, beq_iff_eq, ← BitVec.toNat_inj, ht]
    rfl
  have hp : Ideal.pow ((2 : ℝ) : EReal) ((((b.toNat : ℤ) : ℝ) : EReal) - ((127 : ℝ) : EReal)) = two ((b.toNat : ℤ) - 127) := by
    rw [← EReal.coe_sub]
    show ((Real.rpow 2 _ : ℝ) : EReal) = _
    unfold two
    congr 1
    rw [show (((b.toNat : ℤ) : ℝ) - 127) = (((b.toNat : ℤ) - 127 : ℤ) : ℝ) by push_cast; ring]
    exact Real.rpow_intCast 2 _
  unfold e8m0
  simp only [h0, h255, hi, hp]

/-- The decoded weights. -/
theorem decoded_apply (p : Vec Ideal S3584x2048 .i8) (s : Vec Ideal S112x4096 .i8) (r : Fin 3584) (c : Fin 4096) :
    decoded p s (ValueIdx.ix2 (n0 := 3584) (n1 := 4096) r c) =
      weight (fun r c => p (ValueIdx.ix2 (n0 := 3584) (n1 := 2048) r c)) (fun r c => s (ValueIdx.ix2 (n0 := 112) (n1 := 4096) r c)) r c := by
  have hr := r.isLt
  unfold decoded
  rw [Pointwise.shapeCast_apply]
  have e1 : Shape.reshapeEquiv shapeCasts_S112x32x4096_S3584x4096 (ValueIdx.ix2 (n0 := 3584) (n1 := 4096) r c) =
      ValueIdx.ix3 (n0 := 112) (n1 := 32) (n2 := 4096) (colGroup r) ⟨r.val % 32, Nat.mod_lt _ (by decide)⟩ c := by
    refine Shape.reshapeEquiv_eq_of_vals _ _ _ _ _ (rowMajor_val3 _ (32 * 4096) 4096 rfl rfl) (rowMajor_val2 _ 4096 rfl) ?_
    show r.val / 32 * (32 * 4096) + r.val % 32 * 4096 + c.val = r.val * 4096 + c.val
    omega
  rw [e1]
  have e2 : shapeCast S112x32x4096 (decodedNibbles (nibbles p)) shapeCasts_S3584x4096_S112x32x4096
      (ValueIdx.ix3 (n0 := 112) (n1 := 32) (n2 := 4096) (colGroup r) ⟨r.val % 32, Nat.mod_lt _ (by decide)⟩ c) =
      decodedNibbles (nibbles p) (ValueIdx.ix2 (n0 := 3584) (n1 := 4096) r c) := by
    rw [Pointwise.shapeCast_apply]
    refine congrArg (decodedNibbles (nibbles p)) ?_
    refine Shape.reshapeEquiv_eq_of_vals _ _ _ _ _ (rowMajor_val2 _ 4096 rfl) (rowMajor_val3 _ (32 * 4096) 4096 rfl rfl) ?_
    show r.val * 4096 + c.val = r.val / 32 * (32 * 4096) + r.val % 32 * 4096 + c.val
    omega
  have e3 : broadcastInDim S112x32x4096 ![0, 1, 2] bcast_S112x1x4096_S112x32x4096_0_1_2
        (broadcastInDim S112x1x4096 ![0, 2] bcast_S112x4096_S112x1x4096_0_2 (truncf (F := Ideal) (φ := .f32) .bf16 (weightScales s) bitsLt_bf16_f32))
      (ValueIdx.ix3 (n0 := 112) (n1 := 32) (n2 := 4096) (colGroup r) ⟨r.val % 32, Nat.mod_lt _ (by decide)⟩ c) =
      weightScales s (ValueIdx.ix2 (n0 := 112) (n1 := 4096) (colGroup r) c) := by
    refine (broadcastInDim_apply (s := S112x1x4096) (t := S112x32x4096) ![0, 1, 2] _ _ _ (ValueIdx.ix3 (n0 := 112) (n1 := 1) (n2 := 4096) (colGroup r) (0 : Fin 1) c) ?_).trans
      ((broadcastInDim_apply (s := S112x4096) (t := S112x1x4096) ![0, 2] _ _ _ (ValueIdx.ix2 (n0 := 112) (n1 := 4096) (colGroup r) c) ?_).trans rfl)
    · intro a
      match a with
      | ⟨0, _⟩ => rfl
      | ⟨1, _⟩ => rfl
      | ⟨2, _⟩ => rfl
    · intro a
      match a with
      | ⟨0, _⟩ => rfl
      | ⟨1, _⟩ => rfl
  have em : ∀ (a b : FVec Ideal S112x32x4096 .bf16) i, mulf (F := Ideal) (φ := .bf16) a b i = a i * b i := fun _ _ _ => rfl
  rw [em, e2, e3, decodedNibbles_at, weightScales_at]
  unfold weight nibble
  rw [nibbles_bit p r c 0 (by decide), nibbles_bit p r c 1 (by decide), nibbles_bit p r c 2 (by decide), nibbles_bit p r c 3 (by decide)]
  rfl

end Cert.ReferenceIdeal.Host
-- ==== Proof.RefArrays.lean ====
module
public import proofs.«01_k».proof.Proof.RefQuant
public import proofs.«01_k».proof.Proof.RefDecode
import Idealize.ShloMosaic.Lib.Pointwise
import Idealize.ShloMosaic.Lib.MatmulPlain
import Idealize.ShloMosaic.Lib.Pipeline.ValueKit.Basic

/-!
What the reference's three results hold after a run over the extended reals.
-/

@[expose] public noncomputable section

namespace Cert.ReferenceIdeal.Arrays

open Cert.ReferenceIdeal Cert.ReferenceIdeal.Gen Cert.ReferenceIdeal.Value Cert.ReferenceIdeal.Host Idealize.ShloMosaic Idealize.ShloMosaic.TcCoe Cert.Spec Cert.Arith

variable (m : (ℓ : Loc nD τ sig) → Buf (Elt Ideal) ℓ) (c : Dev nD)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- Each window is its whole array. -/
theorem emb0 (t : Fin cfg0.N) (y : S8192x3584.Idx) : ((cfg0.win 0).blk t).view.emb y = y := by
  obtain ⟨e0, e1⟩ := idx0 t
  funext a
  apply Fin.ext
  match a with
  | ⟨0, _⟩ => show win0_0.index t (0 : Fin 2) * 8192 + 1 * (y 0).val = (y 0).val; omega
  | ⟨1, _⟩ => show win0_0.index t (1 : Fin 2) * 3584 + 1 * (y 1).val = (y 1).val; omega
theorem emb1 (t : Fin cfg0.N) (y : S8192x3584.Idx) : ((cfg0.win 1).blk t).view.emb y = y := by
  obtain ⟨e0, e1⟩ := idx1 t
  funext a
  apply Fin.ext
  match a with
  | ⟨0, _⟩ => show win0_1.index t (0 : Fin 2) * 8192 + 1 * (y 0).val = (y 0).val; omega
  | ⟨1, _⟩ => show win0_1.index t (1 : Fin 2) * 3584 + 1 * (y 1).val = (y 1).val; omega
theorem emb2 (t : Fin cfg0.N) (y : S3584x4096.Idx) : ((cfg0.win 2).blk t).view.emb y = y := by
  obtain ⟨e0, e1⟩ := idx2 t
  funext a
  apply Fin.ext
  match a with
  | ⟨0, _⟩ => show win0_2.index t (0 : Fin 2) * 3584 + 1 * (y 0).val = (y 0).val; omega
  | ⟨1, _⟩ => show win0_2.index t (1 : Fin 2) * 4096 + 1 * (y 1).val = (y 1).val; omega
theorem emb3 (t : Fin cfg0.N) (y : S8192x4096.Idx) : ((cfg0.win 3).blk t).view.emb y = y := by
  obtain ⟨e0, e1⟩ := idx3 t
  funext a
  apply Fin.ext
  match a with
  | ⟨0, _⟩ => show win0_3.index t (0 : Fin 2) * 8192 + 1 * (y 0).val = (y 0).val; omega
  | ⟨1, _⟩ => show win0_3.index t (1 : Fin 2) * 4096 + 1 * (y 1).val = (y 1).val; omega
theorem emb4 (t : Fin cfg0.N) (y : S8192x3584.Idx) : ((cfg0.win 4).blk t).view.emb y = y := by
  obtain ⟨e0, e1⟩ := idx4 t
  funext a
  apply Fin.ext
  match a with
  | ⟨0, _⟩ => show win0_4.index t (0 : Fin 2) * 8192 + 1 * (y 0).val = (y 0).val; omega
  | ⟨1, _⟩ => show win0_4.index t (1 : Fin 2) * 3584 + 1 * (y 1).val = (y 1).val; omega

theorem block0 (t : Fin cfg0.N) (y : S8192x3584.Idx) : iblk m c 0 t y = V m c main_v30 y := by
  have e : iblk m c 0 t y = V m c (Pipeline.arrRef spec0 0) (((cfg0.win 0).blk t).view.emb y) := by
    unfold iblk
    rw [View.read_apply]
    exact eq_of_heq (cast_heq _ _)
  exact e.trans (congrArg (V m c (Pipeline.arrRef spec0 0)) (emb0 t y))

theorem block1 (t : Fin cfg0.N) (y : S8192x3584.Idx) : iblk m c 1 t y = V m c main_v34 y := by
  have e : iblk m c 1 t y = V m c (Pipeline.arrRef spec0 1) (((cfg0.win 1).blk t).view.emb y) := by
    unfold iblk
    rw [View.read_apply]
    exact eq_of_heq (cast_heq _ _)
  exact e.trans (congrArg (V m c (Pipeline.arrRef spec0 1)) (emb1 t y))

theorem block2 (t : Fin cfg0.N) (y : S3584x4096.Idx) : iblk m c 2 t y = V m c main_v83 y := by
  have e : iblk m c 2 t y = V m c (Pipeline.arrRef spec0 2) (((cfg0.win 2).blk t).view.emb y) := by
    unfold iblk
    rw [View.read_apply]
    exact eq_of_heq (cast_heq _ _)
  exact e.trans (congrArg (V m c (Pipeline.arrRef spec0 2)) (emb2 t y))

theorem read3 (t : Fin cfg0.N) (G : Vec Ideal S8192x4096 .bf16) (y : S8192x4096.Idx) : ((cfg0.win 3).blk t).view.read (Elt Ideal) G y = G y := by
  rw [View.read_apply]
  exact (eq_of_heq (cast_heq _ _)).trans (congrArg G (emb3 t y))

theorem read4 (t : Fin cfg0.N) (G : Vec Ideal S8192x3584 .fp8e4m3) (y : S8192x3584.Idx) : ((cfg0.win 4).blk t).view.read (Elt Ideal) G y = G y := by
  rw [View.read_apply]
  exact (eq_of_heq (cast_heq _ _)).trans (congrArg G (emb4 t y))

/-- What the product kernel leaves in its two outputs, from its three inputs. -/
theorem out4_eq (X : Vec Ideal S8192x3584 .f32) (Y : Vec Ideal S8192x3584 .bf16) (Z : Vec Ideal S3584x4096 .bf16) : out0_4 X Y Z = X := by
  unfold out0_4
  rw [View.canon_cons_unit_lit _ _ _ (by decide), View.ld_unit_lit _ _ (by decide)]
  exact shapeCast_id _ _

theorem out3_apply (X : Vec Ideal S8192x3584 .f32) (Y : Vec Ideal S8192x3584 .bf16) (Z : Vec Ideal S3584x4096 .bf16) (r : Fin 8192) (l : Fin 4096) :
    out0_3 X Y Z (ValueIdx.ix2 (n0 := 8192) (n1 := 4096) r l) = ∑ d : Fin 3584,
      X (ValueIdx.ix2 (n0 := 8192) (n1 := 3584) r d) * Y (ValueIdx.ix2 (n0 := 8192) (n1 := 3584) r d) * Z (ValueIdx.ix2 (n0 := 3584) (n1 := 4096) d l) := by
  unfold out0_3
  rw [View.canon_cons_unit_lit _ _ _ (by decide), View.ld_unit_lit _ X (by decide), View.ld_unit_lit _ Y (by decide), View.ld_unit_lit _ Z (by decide)]
  unfold k0_pay2 k0_pay1
  dsimp only
  rw [shapeCast_id, shapeCast_id, shapeCast_id]
  refine (Ideal.matmul_plain_apply (M := 8192) (K := 3584) (N := 4096) (φ₁ := .bf16) (φ₂ := .bf16) none _ _ _ r l).trans ?_
  rw [show (constant (F := Ideal) S8192x4096 .f32 0x00000000#32 : FVec Ideal _ .f32) (ValueIdx.ix2 (n0 := 8192) (n1 := 4096) r l) = 0 from by
    show Ideal.ofBits .f32 0x00000000#32 = 0
    simp [Ideal.ofBits, Ideal.ieee]]
  exact zero_add _

theorem codes_array : (dats m 0 c).arrAt 4 cfg0.N = resCodes (m ((c : Thread nD τ).loc main_arg0)) := by
  refine (dats m 0 c).arrAt_eq_of_cover 4 _ (fun t hf => ?_) (fun i => ⟨⟨0, by decide⟩, flush0_4 _, ?_⟩)
  · rw [flushed4, out4_eq]
    funext y
    refine Eq.trans ?_ (read4 t _ y).symm
    obtain ⟨r, d, rfl⟩ : ∃ (r : Fin 8192) (d : Fin 3584), y = ValueIdx.ix2 (n0 := 8192) (n1 := 3584) r d := ⟨y 0, y 1, ValueIdx.eq_ix2 y⟩
    show iblk m c 0 t (ValueIdx.ix2 (n0 := 8192) (n1 := 3584) r d) = _
    rw [block0, V_codes]
    rfl
  · have e := View.emb_mem_set ((cfg0.win 4).blk ⟨0, by decide⟩).view i
    rwa [emb4] at e

theorem product_array : (dats m 0 c).arrAt 3 cfg0.N =
    resProduct (m ((c : Thread nD τ).loc main_arg0)) (m ((c : Thread nD τ).loc main_arg1)) (m ((c : Thread nD τ).loc main_arg2)) := by
  refine (dats m 0 c).arrAt_eq_of_cover 3 _ (fun t hf => ?_) (fun i => ⟨⟨0, by decide⟩, flush0_3 _, ?_⟩)
  · rw [flushed3]
    funext y
    refine Eq.trans ?_ (read3 t _ y).symm
    obtain ⟨r, l, rfl⟩ : ∃ (r : Fin 8192) (l : Fin 4096), y = ValueIdx.ix2 (n0 := 8192) (n1 := 4096) r l := ⟨y 0, y 1, ValueIdx.eq_ix2 y⟩
    show out0_3 (iblk m c 0 t) (iblk m c 1 t) (iblk m c 2 t) (ValueIdx.ix2 (n0 := 8192) (n1 := 4096) r l) = _
    rw [out3_apply]
    unfold resProduct
    refine Finset.sum_congr rfl fun d _ => ?_
    rw [block0, block1, block2, V_codes, V_scaleOf, V_main_v83, decoded_apply]
    rfl
  · have e := View.emb_mem_set ((cfg0.win 3).blk ⟨0, by decide⟩).view i
    rwa [emb3] at e

end Cert.ReferenceIdeal.Arrays
-- ==== Proof.lean ====
module

public import proofs.«01_k».proof.Defs
public import proofs.«01_k».proof.Proof.Gen.Kernel
public import proofs.«01_k».proof.Proof.Gen.Kernel.Frame
public import proofs.«01_k».proof.Proof.Arrays
public import proofs.«01_k».proof.Proof.RefArrays
public import Idealize.ShloMosaic.Adequacy
public import Idealize.ShloMosaic.Init

@[expose] public section

noncomputable section

namespace Cert.Proof

open Idealize.ShloMosaic Idealize.SL.Sem Idealize.ShloMosaic.TcCoe Cert.Spec

/-- The kernel's run leaves the three results of its arguments, and its arguments. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1_0) = resProduct (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v1_1) = resCodes (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_v1_2) = resScale (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨(h c).1.trans (Cert.KernelIdeal.Arrays.product_array m c), (h c).2.1.trans (Cert.KernelIdeal.Arrays.codes_array m c),
      (h c).2.2.1.trans (Cert.KernelIdeal.Arrays.scales_array m c), (h c).2.2.2⟩)
    (Cert.KernelIdeal.Value.run_blocks m g)

/-- The reference's run leaves the same three results of its arguments, and its arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v84_0) = resProduct (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v84_1) = resCodes (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v23) = resScale (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun r h c =>
    ⟨(Cert.ReferenceIdeal.Value.post3 m r h c).trans (Cert.ReferenceIdeal.Arrays.product_array m c),
      (Cert.ReferenceIdeal.Value.post4 m r h c).trans (Cert.ReferenceIdeal.Arrays.codes_array m c),
      ((h c).2 Cert.ReferenceIdeal.main_v23 (Pipeline.mem_restRefs_of Cert.ReferenceIdeal.main_v23 (by decide) (by decide))).trans
        ((Cert.ReferenceIdeal.Host.V_scales m c).trans (Cert.ReferenceIdeal.Host.scales_eq _)),
      Cert.ReferenceIdeal.Value.kept_main_arg0 m r h c, Cert.ReferenceIdeal.Value.kept_main_arg1 m r h c,
      Cert.ReferenceIdeal.Value.kept_main_arg2 m r h c⟩)
    (Cert.ReferenceIdeal.Gen.run_main m g)

/-- From equal arguments the two runs end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, kernel_run m g, ?_⟩
  refine (θ_run (Cert.ReferenceIdeal.defs (F := Ideal)) _ _).mono (fun r h c => ?_) (reference_run m' g')
  obtain ⟨hp, hc, hs, hk⟩ := h c
  obtain ⟨e0, e1, e2⟩ := hargs c
  refine ⟨hp.trans ?_, hc.trans ?_, hs.trans ?_, hk⟩
  · rw [e0, e1, e2]
  · rw [e0]
  · rw [e0]

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => Cert.ReferenceIdeal.Gen.frame m g, trivial, algebraic⟩

end Cert.Proof

end
